-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "max_ratio" .f32 0x40845349#32 ((-(Real.log (8589935 / 536870912)) : ℝ) : EReal)

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S1x20000x1 : Shape := ⟨3, ![1, 20000, 1]⟩
abbrev S1x20000x8 : Shape := ⟨3, ![1, 20000, 8]⟩
abbrev S1x20000x4 : Shape := ⟨3, ![1, 20000, 4]⟩
abbrev S20000x4 : Shape := ⟨2, ![20000, 4]⟩
abbrev S_ : Shape := ⟨0, ![]⟩

class Facts : Prop where
  bcast_S_S1x20000x1 : S_.BroadcastsInDim S1x20000x1 (![] : Fin 0 → Fin S1x20000x1.rank)
  reducesTo_S1x20000x1_S_d0_1_2 : S1x20000x1.ReducesTo [0, 1, 2] S_
  h_S_ : 0 < S_.numel
  bcast_S_S1x20000x8 : S_.BroadcastsInDim S1x20000x8 (![] : Fin 0 → Fin S1x20000x8.rank)
  reducesTo_S1x20000x8_S_d0_1_2 : S1x20000x8.ReducesTo [0, 1, 2] S_

variable [Facts]

def fn {F : FTy → Type} [FloatOps F] (main_arg0 : FVec F S1x20000x1 .f32) (main_arg1 : FVec F S1x20000x8 .f32) (main_arg2 : FVec F S1x20000x4 .f32) (main_arg3 : FVec F S20000x4 .f32) : IVec S_ 1 :=
  let main_cst : FVec F S_ .f32 := constant S_ .f32 0x00000000#32
  let main_v0 : FVec F S1x20000x1 .f32 := broadcastInDim S1x20000x1 ![] bcast_S_S1x20000x1 main_cst
  let main_v1 : IVec S1x20000x1 1 := cmpf .oge main_arg0 main_v0
  let main_c : IVec S_ 1 := constantI S_ 1 1#1
  let main_v2 : IVec S_ 1 := (fun x v => Host.reduce IntOp.andi x v reducesTo_S1x20000x1_S_d0_1_2 h_S_) main_v1 main_c
  let main_cst_0 : FVec F S_ .f32 := constant S_ .f32 0x00000000#32
  let main_v3 : FVec F S1x20000x8 .f32 := broadcastInDim S1x20000x8 ![] bcast_S_S1x20000x8 main_cst_0
  let main_v4 : IVec S1x20000x8 1 := cmpf .oge main_arg1 main_v3
  let main_c_1 : IVec S_ 1 := constantI S_ 1 1#1
  let main_v5 : IVec S_ 1 := (fun x v => Host.reduce IntOp.andi x v reducesTo_S1x20000x8_S_d0_1_2 h_S_) main_v4 main_c_1
  let main_v6 : IVec S_ 1 := andi main_v2 main_v5
  main_v6
-- ==== Kernel.lean ====
abbrev S1x20000x1 : Shape := ⟨3, ![1, 20000, 1]⟩
abbrev S1x20000x8 : Shape := ⟨3, ![1, 20000, 8]⟩
abbrev S1x20000x4 : Shape := ⟨3, ![1, 20000, 4]⟩
abbrev S20000x4 : Shape := ⟨2, ![20000, 4]⟩
abbrev S20000 : Shape := ⟨1, ![20000]⟩
abbrev S1x20000 : Shape := ⟨2, ![1, 20000]⟩
abbrev S_ : Shape := ⟨0, ![]⟩
abbrev S1x20480 : Shape := ⟨2, ![1, 20480]⟩
abbrev S20000x8 : Shape := ⟨2, ![20000, 8]⟩
abbrev S8x20000 : Shape := ⟨2, ![8, 20000]⟩
abbrev S8x20480 : Shape := ⟨2, ![8, 20480]⟩
abbrev S4x20000 : Shape := ⟨2, ![4, 20000]⟩
abbrev S4x20480 : Shape := ⟨2, ![4, 20480]⟩
abbrev S8x128 : Shape := ⟨2, ![8, 128]⟩
abbrev S12x20480 : Shape := ⟨2, ![12, 20480]⟩
abbrev S20480 : Shape := ⟨1, ![20480]⟩
abbrev S8x1 : Shape := ⟨2, ![8, 1]⟩
abbrev S8x8 : Shape := ⟨2, ![8, 8]⟩
abbrev S1x128 : Shape := ⟨2, ![1, 128]⟩
abbrev S8 : Shape := ⟨1, ![8]⟩
abbrev S8x12 : Shape := ⟨2, ![8, 12]⟩
abbrev S8x100 : Shape := ⟨2, ![8, 100]⟩
abbrev S800 : Shape := ⟨1, ![800]⟩
abbrev S800x1 : Shape := ⟨2, ![800, 1]⟩
abbrev S1x800 : Shape := ⟨2, ![1, 800]⟩
abbrev S100x8 : Shape := ⟨2, ![100, 8]⟩
abbrev S100x4 : Shape := ⟨2, ![100, 4]⟩
abbrev S800x800 : Shape := ⟨2, ![800, 800]⟩
abbrev S100x800 : Shape := ⟨2, ![100, 800]⟩
abbrev S100x1 : Shape := ⟨2, ![100, 1]⟩
abbrev S100x20480 : Shape := ⟨2, ![100, 20480]⟩
abbrev S1x100x8 : Shape := ⟨3, ![1, 100, 8]⟩
abbrev S1x100x4 : Shape := ⟨3, ![1, 100, 4]⟩

abbrev nBuf : Space → Nat
  | .hbm => 38
  | .vmem => 18
  | .smem => 0
  | _ => 0

abbrev bufTy : (tb : Table) → Fin (tcTables nBuf tb) → BufTy
  | .hbm, ⟨0, _⟩ => ⟨S1x20000x1, .f32⟩
  | .hbm, ⟨1, _⟩ => ⟨S1x20000x8, .f32⟩
  | .hbm, ⟨2, _⟩ => ⟨S1x20000x4, .f32⟩
  | .hbm, ⟨3, _⟩ => ⟨S20000x4, .f32⟩
  | .hbm, ⟨4, _⟩ => ⟨S20000, .f32⟩
  | .hbm, ⟨5, _⟩ => ⟨S1x20000, .f32⟩
  | .hbm, ⟨6, _⟩ => ⟨S_, .i32⟩
  | .hbm, ⟨7, _⟩ => ⟨S_, .f32⟩
  | .hbm, ⟨8, _⟩ => ⟨S1x20480, .f32⟩
  | .hbm, ⟨9, _⟩ => ⟨S20000x8, .f32⟩
  | .hbm, ⟨10, _⟩ => ⟨S8x20000, .f32⟩
  | .hbm, ⟨11, _⟩ => ⟨S_, .i32⟩
  | .hbm, ⟨12, _⟩ => ⟨S_, .f32⟩
  | .hbm, ⟨13, _⟩ => ⟨S8x20480, .f32⟩
  | .hbm, ⟨14, _⟩ => ⟨S20000x4, .f32⟩
  | .hbm, ⟨15, _⟩ => ⟨S4x20000, .f32⟩
  | .hbm, ⟨16, _⟩ => ⟨S_, .i32⟩
  | .hbm, ⟨17, _⟩ => ⟨S_, .f32⟩
  | .hbm, ⟨18, _⟩ => ⟨S4x20480, .f32⟩
  | .hbm, ⟨19, _⟩ => ⟨S4x20000, .f32⟩
  | .hbm, ⟨20, _⟩ => ⟨S_, .i32⟩
  | .hbm, ⟨21, _⟩ => ⟨S_, .f32⟩
  | .hbm, ⟨22, _⟩ => ⟨S4x20480, .f32⟩
  | .hbm, ⟨23, _⟩ => ⟨S8x20480, .f32⟩
  | .hbm, ⟨24, _⟩ => ⟨S4x20480, .f32⟩
  | .hbm, ⟨25, _⟩ => ⟨S8x128, .f32⟩
  | .hbm, ⟨26, _⟩ => ⟨S8x128, .f32⟩
  | .hbm, ⟨27, _⟩ => ⟨S8x100, .f32⟩
  | .hbm, ⟨28, _⟩ => ⟨S800, .f32⟩
  | .hbm, ⟨29, _⟩ => ⟨S8x100, .f32⟩
  | .hbm, ⟨30, _⟩ => ⟨S800, .f32⟩
  | .hbm, ⟨31, _⟩ => ⟨S800x1, .f32⟩
  | .hbm, ⟨32, _⟩ => ⟨S1x800, .f32⟩
  | .hbm, ⟨33, _⟩ => ⟨S800x1, .f32⟩
  | .hbm, ⟨34, _⟩ => ⟨S100x8, .f32⟩
  | .hbm, ⟨35, _⟩ => ⟨S100x4, .f32⟩
  | .hbm, ⟨36, _⟩ => ⟨S1x100x8, .f32⟩
  | .hbm, ⟨37, _⟩ => ⟨S1x100x4, .f32⟩
  | .local _ .vmem, ⟨0, _⟩ => ⟨S1x20480, .f32⟩
  | .local _ .vmem, ⟨1, _⟩ => ⟨S8x20480, .f32⟩
  | .local _ .vmem, ⟨2, _⟩ => ⟨S4x20480, .f32⟩
  | .local _ .vmem, ⟨3, _⟩ => ⟨S4x20480, .f32⟩
  | .local _ .vmem, ⟨4, _⟩ => ⟨S8x20480, .f32⟩
  | .local _ .vmem, ⟨5, _⟩ => ⟨S4x20480, .f32⟩
  | .local _ .vmem, ⟨6, _⟩ => ⟨S8x128, .f32⟩
  | .local _ .vmem, ⟨7, _⟩ => ⟨S8x128, .f32⟩
  | .local _ .vmem, ⟨8, _⟩ => ⟨S8x20480, .f32⟩
  | .local _ .vmem, ⟨9, _⟩ => ⟨S12x20480, .f32⟩
  | .local _ .vmem, ⟨10, _⟩ => ⟨S1x20480, .f32⟩
  | .local _ .vmem, ⟨11, _⟩ => ⟨S800x1, .f32⟩
  | .local _ .vmem, ⟨12, _⟩ => ⟨S1x800, .f32⟩
  | .local _ .vmem, ⟨13, _⟩ => ⟨S800x1, .f32⟩
  | .local _ .vmem, ⟨14, _⟩ => ⟨S8x20480, .f32⟩
  | .local _ .vmem, ⟨15, _⟩ => ⟨S4x20480, .f32⟩
  | .local _ .vmem, ⟨16, _⟩ => ⟨S100x8, .f32⟩
  | .local _ .vmem, ⟨17, _⟩ => ⟨S100x4, .f32⟩
  | _, _ => ⟨S1x20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32_57 : BitVec 32 := 0#32
  let c100_i32 : BitVec 32 := 100#32
  let v125 : BitVec 32 := Scalar.addi c0_i32_57 c100_i32
  let c1_i32 : BitVec 32 := 1#32
  ⟨c0_i32_57, v125, c1_i32⟩
abbrev stage0_0 : Fin 1 → Memref sig .tc .vmem S1x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x20480 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

abbrev stage1_0 : Fin 1 → Memref sig .tc .vmem S800x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x800 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S800x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x20480 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x20480 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S100x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S100x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "max_ratio" => some ((-(Real.log (8589935 / 536870912)) : ℝ) : EReal)
  | _ => none
-- ==== ReferenceIdeal.lean ====
abbrev S1x20000x1 : Shape := ⟨3, ![1, 20000, 1]⟩
abbrev S1x20000x8 : Shape := ⟨3, ![1, 20000, 8]⟩
abbrev S1x20000x4 : Shape := ⟨3, ![1, 20000, 4]⟩
abbrev S20000x4 : Shape := ⟨2, ![20000, 4]⟩
abbrev S20000x1 : Shape := ⟨2, ![20000, 1]⟩
abbrev S20000x8 : Shape := ⟨2, ![20000, 8]⟩
abbrev S_ : Shape := ⟨0, ![]⟩
abbrev S20000 : Shape := ⟨1, ![20000]⟩
abbrev S1x20000 : Shape := ⟨2, ![1, 20000]⟩
abbrev S20000x7 : Shape := ⟨2, ![20000, 7]⟩
abbrev S7x20000 : Shape := ⟨2, ![7, 20000]⟩
abbrev S7 : Shape := ⟨1, ![7]⟩
abbrev S100x7 : Shape := ⟨2, ![100, 7]⟩
abbrev S7x1 : Shape := ⟨2, ![7, 1]⟩
abbrev S7x4 : Shape := ⟨2, ![7, 4]⟩
abbrev S7x2 : Shape := ⟨2, ![7, 2]⟩
abbrev S1x7 : Shape := ⟨2, ![1, 7]⟩
abbrev S7x100 : Shape := ⟨2, ![7, 100]⟩
abbrev S700 : Shape := ⟨1, ![700]⟩
abbrev S700x1 : Shape := ⟨2, ![700, 1]⟩
abbrev S700x2 : Shape := ⟨2, ![700, 2]⟩
abbrev S100 : Shape := ⟨1, ![100]⟩
abbrev S100x1 : Shape := ⟨2, ![100, 1]⟩
abbrev S100x8 : Shape := ⟨2, ![100, 8]⟩
abbrev S100x4 : Shape := ⟨2, ![100, 4]⟩
abbrev S1x100x8 : Shape := ⟨3, ![1, 100, 8]⟩
abbrev S1x100x4 : Shape := ⟨3, ![1, 100, 4]⟩

abbrev nBuf : Space → Nat
  | .hbm => 323
  | .vmem => 0
  | .smem => 0
  | _ => 0

abbrev hbmTy0_0 (i : Nat) : BufTy := match i % 128 with
  | 0 => ⟨S1x20000x1, .f32⟩
  | 1 => ⟨S1x20000x8, .f32⟩
  | 2 => ⟨S1x20000x4, .f32⟩
  | 3 => ⟨S20000x4, .f32⟩
  | 4 => ⟨S20000x1, .f32⟩
  | 5 => ⟨S20000x8, .f32⟩
  | 6 => ⟨S20000x4, .f32⟩
  | 7 => ⟨S20000x8, .f32⟩
  | 8 => ⟨S20000x8, .f32⟩
  | 9 => ⟨S_, .f32⟩
  | 10 => ⟨S20000, .f32⟩
  | 11 => ⟨S20000x8, .i32⟩
  | 12 => ⟨S_, .f32⟩
  | 13 => ⟨S_, .i32⟩
  | 14 => ⟨S20000, .f32⟩
  | 15 => ⟨S20000, .i32⟩
  | 16 => ⟨S_, .f32⟩
  | 17 => ⟨S20000, .f32⟩
  | 18 => ⟨S20000, .i1⟩
  | 19 => ⟨S_, .i32⟩
  | 20 => ⟨S20000, .i32⟩
  | 21 => ⟨S20000, .i1⟩
  | 22 => ⟨S20000, .i1⟩
  | 23 => ⟨S20000x1, .f32⟩
  | 24 => ⟨S20000, .f32⟩
  | 25 => ⟨S20000x1, .f32⟩
  | 26 => ⟨S20000, .f32⟩
  | 27 => ⟨S20000, .f32⟩
  | 28 => ⟨S20000x1, .f32⟩
  | 29 => ⟨S20000, .f32⟩
  | 30 => ⟨S20000x1, .f32⟩
  | 31 => ⟨S20000, .f32⟩
  | 32 => ⟨S20000, .f32⟩
  | 33 => ⟨S20000x1, .f32⟩
  | 34 => ⟨S20000, .f32⟩
  | 35 => ⟨S_, .f32⟩
  | 36 => ⟨S20000, .f32⟩
  | 37 => ⟨S20000, .f32⟩
  | 38 => ⟨S20000, .f32⟩
  | 39 => ⟨S20000x1, .f32⟩
  | 40 => ⟨S20000, .f32⟩
  | 41 => ⟨S_, .f32⟩
  | 42 => ⟨S20000, .f32⟩
  | 43 => ⟨S20000, .f32⟩
  | 44 => ⟨S20000, .f32⟩
  | 45 => ⟨S20000x1, .f32⟩
  | 46 => ⟨S20000, .f32⟩
  | 47 => ⟨S20000x1, .f32⟩
  | 48 => ⟨S20000, .f32⟩
  | 49 => ⟨S20000x1, .f32⟩
  | 50 => ⟨S20000, .f32⟩
  | 51 => ⟨S20000x1, .f32⟩
  | 52 => ⟨S20000, .f32⟩
  | 53 => ⟨S_, .f32⟩
  | 54 => ⟨S_, .f32⟩
  | 55 => ⟨S_, .f32⟩
  | 56 => ⟨S_, .f32⟩
  | 57 => ⟨S20000, .f32⟩
  | 58 => ⟨S20000, .f32⟩
  | 59 => ⟨S20000, .f32⟩
  | 60 => ⟨S20000, .f32⟩
  | 61 => ⟨S_, .f32⟩
  | 62 => ⟨S20000, .f32⟩
  | 63 => ⟨S20000, .f32⟩
  | 64 => ⟨S20000, .f32⟩
  | 65 => ⟨S20000, .f32⟩
  | 66 => ⟨S20000, .f32⟩
  | 67 => ⟨S20000, .f32⟩
  | 68 => ⟨S20000, .f32⟩
  | 69 => ⟨S20000, .f32⟩
  | 70 => ⟨S20000, .f32⟩
  | 71 => ⟨S20000, .f32⟩
  | 72 => ⟨S20000, .f32⟩
  | 73 => ⟨S20000, .f32⟩
  | 74 => ⟨S_, .f32⟩
  | 75 => ⟨S20000, .f32⟩
  | 76 => ⟨S20000, .f32⟩
  | 77 => ⟨S20000, .f32⟩
  | 78 => ⟨S_, .f32⟩
  | 79 => ⟨S20000, .f32⟩
  | 80 => ⟨S20000, .f32⟩
  | 81 => ⟨S20000, .f32⟩
  | 82 => ⟨S_, .f32⟩
  | 83 => ⟨S20000, .f32⟩
  | 84 => ⟨S20000, .f32⟩
  | 85 => ⟨S20000, .f32⟩
  | 86 => ⟨S_, .f32⟩
  | 87 => ⟨S20000, .f32⟩
  | 88 => ⟨S20000, .f32⟩
  | 89 => ⟨S20000, .f32⟩
  | 90 => ⟨S20000x1, .f32⟩
  | 91 => ⟨S20000x1, .f32⟩
  | 92 => ⟨S20000x1, .f32⟩
  | 93 => ⟨S20000x1, .f32⟩
  | 94 => ⟨S20000x4, .f32⟩
  | 95 => ⟨S_, .f32⟩
  | 96 => ⟨S_, .f32⟩
  | 97 => ⟨S_, .f32⟩
  | 98 => ⟨S20000x4, .f32⟩
  | 99 => ⟨S20000x4, .f32⟩
  | 100 => ⟨S_, .f32⟩
  | 101 => ⟨S20000x4, .f32⟩
  | 102 => ⟨S20000x4, .f32⟩
  | 103 => ⟨S1x20000, .i1⟩
  | 104 => ⟨S20000x7, .f32⟩
  | 105 => ⟨S7x20000, .f32⟩
  | 106 => ⟨S_, .f32⟩
  | 107 => ⟨S_, .f32⟩
  | 108 => ⟨S7x20000, .i1⟩
  | 109 => ⟨S7x20000, .f32⟩
  | 110 => ⟨S7x20000, .f32⟩
  | 111 => ⟨S7, .i32⟩
  | 112 => ⟨S_, .i32⟩
  | 113 => ⟨S100x7, .i32⟩
  | 114 => ⟨S_, .i32⟩
  | 115 => ⟨S20000x4, .f32⟩
  | 116 => ⟨S7, .i32⟩
  | 117 => ⟨S_, .i32⟩
  | 118 => ⟨S7x20000, .f32⟩
  | 119 => ⟨S100x7, .i32⟩
  | 120 => ⟨S_, .i32⟩
  | 121 => ⟨S_, .i1⟩
  | 122 => ⟨S7x20000, .i32⟩
  | 123 => ⟨S_, .f32⟩
  | 124 => ⟨S_, .i32⟩
  | 125 => ⟨S7, .f32⟩
  | 126 => ⟨S7, .i32⟩
  | 127 => ⟨S_, .i32⟩
  | _ => ⟨S1x20000x1, .f32⟩

abbrev hbmTy0_1 (i : Nat) : BufTy := match i % 128 with
  | 0 => ⟨S7, .i32⟩
  | 1 => ⟨S7, .i1⟩
  | 2 => ⟨S_, .i32⟩
  | 3 => ⟨S7, .i32⟩
  | 4 => ⟨S7, .i32⟩
  | 5 => ⟨S7, .i32⟩
  | 6 => ⟨S7x1, .i32⟩
  | 7 => ⟨S7x4, .f32⟩
  | 8 => ⟨S7x1, .f32⟩
  | 9 => ⟨S7, .f32⟩
  | 10 => ⟨S20000x1, .f32⟩
  | 11 => ⟨S20000, .f32⟩
  | 12 => ⟨S1x20000, .f32⟩
  | 13 => ⟨S7x1, .f32⟩
  | 14 => ⟨S7x20000, .f32⟩
  | 15 => ⟨S7x20000, .f32⟩
  | 16 => ⟨S7x20000, .f32⟩
  | 17 => ⟨S7x1, .f32⟩
  | 18 => ⟨S7, .f32⟩
  | 19 => ⟨S20000x1, .f32⟩
  | 20 => ⟨S20000, .f32⟩
  | 21 => ⟨S1x20000, .f32⟩
  | 22 => ⟨S7x1, .f32⟩
  | 23 => ⟨S7x20000, .f32⟩
  | 24 => ⟨S7x20000, .f32⟩
  | 25 => ⟨S7x20000, .f32⟩
  | 26 => ⟨S7x1, .f32⟩
  | 27 => ⟨S7, .f32⟩
  | 28 => ⟨S20000x1, .f32⟩
  | 29 => ⟨S20000, .f32⟩
  | 30 => ⟨S1x20000, .f32⟩
  | 31 => ⟨S7x1, .f32⟩
  | 32 => ⟨S7x20000, .f32⟩
  | 33 => ⟨S7x20000, .f32⟩
  | 34 => ⟨S7x20000, .f32⟩
  | 35 => ⟨S7x1, .f32⟩
  | 36 => ⟨S7, .f32⟩
  | 37 => ⟨S20000x1, .f32⟩
  | 38 => ⟨S20000, .f32⟩
  | 39 => ⟨S1x20000, .f32⟩
  | 40 => ⟨S7x1, .f32⟩
  | 41 => ⟨S7x20000, .f32⟩
  | 42 => ⟨S7x20000, .f32⟩
  | 43 => ⟨S7x20000, .f32⟩
  | 44 => ⟨S7x20000, .f32⟩
  | 45 => ⟨S_, .f32⟩
  | 46 => ⟨S7x20000, .f32⟩
  | 47 => ⟨S7x20000, .f32⟩
  | 48 => ⟨S7x20000, .f32⟩
  | 49 => ⟨S_, .f32⟩
  | 50 => ⟨S7x20000, .f32⟩
  | 51 => ⟨S7x20000, .f32⟩
  | 52 => ⟨S7x20000, .f32⟩
  | 53 => ⟨S7x1, .f32⟩
  | 54 => ⟨S7, .f32⟩
  | 55 => ⟨S7x1, .f32⟩
  | 56 => ⟨S7, .f32⟩
  | 57 => ⟨S7, .f32⟩
  | 58 => ⟨S_, .f32⟩
  | 59 => ⟨S7, .f32⟩
  | 60 => ⟨S7, .f32⟩
  | 61 => ⟨S7x1, .f32⟩
  | 62 => ⟨S7, .f32⟩
  | 63 => ⟨S7x1, .f32⟩
  | 64 => ⟨S7, .f32⟩
  | 65 => ⟨S7, .f32⟩
  | 66 => ⟨S_, .f32⟩
  | 67 => ⟨S7, .f32⟩
  | 68 => ⟨S7, .f32⟩
  | 69 => ⟨S7, .f32⟩
  | 70 => ⟨S20000x1, .f32⟩
  | 71 => ⟨S20000, .f32⟩
  | 72 => ⟨S20000x1, .f32⟩
  | 73 => ⟨S20000, .f32⟩
  | 74 => ⟨S20000, .f32⟩
  | 75 => ⟨S_, .f32⟩
  | 76 => ⟨S20000, .f32⟩
  | 77 => ⟨S20000, .f32⟩
  | 78 => ⟨S20000x1, .f32⟩
  | 79 => ⟨S20000, .f32⟩
  | 80 => ⟨S20000x1, .f32⟩
  | 81 => ⟨S20000, .f32⟩
  | 82 => ⟨S20000, .f32⟩
  | 83 => ⟨S_, .f32⟩
  | 84 => ⟨S20000, .f32⟩
  | 85 => ⟨S20000, .f32⟩
  | 86 => ⟨S20000, .f32⟩
  | 87 => ⟨S1x20000, .f32⟩
  | 88 => ⟨S7x1, .f32⟩
  | 89 => ⟨S7x20000, .f32⟩
  | 90 => ⟨S7x20000, .f32⟩
  | 91 => ⟨S7x20000, .f32⟩
  | 92 => ⟨S7x20000, .f32⟩
  | 93 => ⟨S_, .f32⟩
  | 94 => ⟨S7x20000, .f32⟩
  | 95 => ⟨S7x20000, .f32⟩
  | 96 => ⟨S7x20000, .f32⟩
  | 97 => ⟨S_, .f32⟩
  | 98 => ⟨S7x20000, .f32⟩
  | 99 => ⟨S7x20000, .i1⟩
  | 100 => ⟨S_, .f32⟩
  | 101 => ⟨S7x20000, .f32⟩
  | 102 => ⟨S7x20000, .f32⟩
  | 103 => ⟨S7x20000, .f32⟩
  | 104 => ⟨S_, .f32⟩
  | 105 => ⟨S7x20000, .f32⟩
  | 106 => ⟨S7x20000, .f32⟩
  | 107 => ⟨S7x20000, .f32⟩
  | 108 => ⟨S_, .f32⟩
  | 109 => ⟨S_, .f32⟩
  | 110 => ⟨S7x20000, .f32⟩
  | 111 => ⟨S7x20000, .f32⟩
  | 112 => ⟨S7x20000, .f32⟩
  | 113 => ⟨S_, .i32⟩
  | 114 => ⟨S7, .i32⟩
  | 115 => ⟨S7, .i1⟩
  | 116 => ⟨S_, .i32⟩
  | 117 => ⟨S7, .i32⟩
  | 118 => ⟨S7, .i32⟩
  | 119 => ⟨S7, .i32⟩
  | 120 => ⟨S_, .i32⟩
  | 121 => ⟨S7, .i32⟩
  | 122 => ⟨S7, .i1⟩
  | 123 => ⟨S_, .i32⟩
  | 124 => ⟨S7, .i32⟩
  | 125 => ⟨S7, .i32⟩
  | 126 => ⟨S7, .i32⟩
  | 127 => ⟨S7x1, .i32⟩
  | _ => ⟨S1x20000x1, .f32⟩

abbrev hbmTy0_2 (i : Nat) : BufTy := match i % 128 with
  | 0 => ⟨S7x1, .i32⟩
  | 1 => ⟨S7x2, .i32⟩
  | 2 => ⟨S_, .f32⟩
  | 3 => ⟨S7, .f32⟩
  | 4 => ⟨S7x20000, .f32⟩
  | 5 => ⟨S1x7, .i32⟩
  | 6 => ⟨S_, .i32⟩
  | 7 => ⟨S100x7, .i32⟩
  | 8 => ⟨S_, .i32⟩
  | 9 => ⟨S_, .i32⟩
  | 10 => ⟨S7x100, .i32⟩
  | 11 => ⟨S700, .i32⟩
  | 12 => ⟨S7, .i32⟩
  | 13 => ⟨S_, .i32⟩
  | 14 => ⟨S7, .i32⟩
  | 15 => ⟨S7, .i32⟩
  | 16 => ⟨S7x100, .i32⟩
  | 17 => ⟨S700, .i32⟩
  | 18 => ⟨S_, .i32⟩
  | 19 => ⟨S700, .i32⟩
  | 20 => ⟨S700, .i1⟩
  | 21 => ⟨S_, .i32⟩
  | 22 => ⟨S700, .i32⟩
  | 23 => ⟨S700, .i32⟩
  | 24 => ⟨S700, .i32⟩
  | 25 => ⟨S_, .i32⟩
  | 26 => ⟨S700, .i32⟩
  | 27 => ⟨S700, .i1⟩
  | 28 => ⟨S_, .i32⟩
  | 29 => ⟨S700, .i32⟩
  | 30 => ⟨S700, .i32⟩
  | 31 => ⟨S700, .i32⟩
  | 32 => ⟨S700x1, .i32⟩
  | 33 => ⟨S700x1, .i32⟩
  | 34 => ⟨S700x2, .i32⟩
  | 35 => ⟨S700, .f32⟩
  | 36 => ⟨S100, .f32⟩
  | 37 => ⟨S100, .i32⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S100, .i32⟩
  | 45 => ⟨S100x1, .i32⟩
  | 46 => ⟨S100, .i32⟩
  | 47 => ⟨S_, .i32⟩
  | 48 => ⟨S100, .i32⟩
  | 49 => ⟨S100, .i1⟩
  | 50 => ⟨S_, .i32⟩
  | 51 => ⟨S100, .i32⟩
  | 52 => ⟨S100, .i32⟩
  | 53 => ⟨S100, .i32⟩
  | 54 => ⟨S100x1, .i32⟩
  | 55 => ⟨S100x8, .f32⟩
  | 56 => ⟨S_, .i32⟩
  | 57 => ⟨S100, .i32⟩
  | 58 => ⟨S100, .i1⟩
  | 59 => ⟨S_, .i32⟩
  | 60 => ⟨S100, .i32⟩
  | 61 => ⟨S100, .i32⟩
  | 62 => ⟨S100, .i32⟩
  | 63 => ⟨S100x1, .i32⟩
  | 64 => ⟨S100x4, .f32⟩
  | 65 => ⟨S1x100x8, .f32⟩
  | 66 => ⟨S1x100x4, .f32⟩
  | _ => ⟨S1x20000x1, .f32⟩

abbrev hbmTy (i : Nat) : BufTy := match i / 128 with
  | 0 => hbmTy0_0 i
  | 1 => hbmTy0_1 i
  | 2 => hbmTy0_2 i
  | _ => ⟨S1x20000x1, .f32⟩

abbrev bufTy : (tb : Table) → Fin (tcTables nBuf tb) → BufTy
  | .hbm, ⟨i, _⟩ => hbmTy i
  | _, _ => ⟨S1x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v43 : Ref sig .tc := ⟨.hbm, 60, rfl⟩
abbrev main_v44 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_8 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v75 : Ref sig .tc := ⟨.hbm, 110, rfl⟩
abbrev main_v76 : Ref sig .tc := ⟨.hbm, 111, rfl⟩
abbrev main_c_11 : Ref sig .tc := ⟨.hbm, 112, rfl⟩
abbrev main_v77 : Ref sig .tc := ⟨.hbm, 113, rfl⟩
abbrev main_c_12 : Ref sig .tc := ⟨.hbm, 114, rfl⟩
abbrev main_v78_0 : Ref sig .tc := ⟨.hbm, 115, rfl⟩
abbrev main_v78_1 : Ref sig .tc := ⟨.hbm, 116, rfl⟩
abbrev main_v78_2 : Ref sig .tc := ⟨.hbm, 117, rfl⟩
abbrev main_v78_3 : Ref sig .tc := ⟨.hbm, 118, rfl⟩
abbrev main_v78_4 : Ref sig .tc := ⟨.hbm, 119, rfl⟩
abbrev main_while0c_c_28 : Ref sig .tc := ⟨.hbm, 120, rfl⟩
abbrev main_while0c_v123 : Ref sig .tc := ⟨.hbm, 121, rfl⟩
abbrev main_while0b_call5_v0 : Ref sig .tc := ⟨.hbm, 122, rfl⟩
abbrev main_while0b_call5_cst : Ref sig .tc := ⟨.hbm, 123, rfl⟩
abbrev main_while0b_call5_c : Ref sig .tc := ⟨.hbm, 124, rfl⟩
abbrev main_while0b_call5_v1_0 : Ref sig .tc := ⟨.hbm, 125, rfl⟩
abbrev main_while0b_v123 : Ref sig .tc := ⟨.hbm, 126, rfl⟩
abbrev main_while0b_c_28 : Ref sig .tc := ⟨.hbm, 127, rfl⟩
abbrev main_while0b_v124 : Ref sig .tc := ⟨.hbm, 128, rfl⟩
abbrev main_while0b_v125 : Ref sig .tc := ⟨.hbm, 129, rfl⟩
abbrev main_while0b_c_29 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_v134 : Ref sig .tc := ⟨.hbm, 139, rfl⟩
abbrev main_while0b_v135 : Ref sig .tc := ⟨.hbm, 140, rfl⟩
abbrev main_while0b_v136 : Ref sig .tc := ⟨.hbm, 141, rfl⟩
abbrev main_while0b_v137 : Ref sig .tc := ⟨.hbm, 142, rfl⟩
abbrev main_while0b_v138 : Ref sig .tc := ⟨.hbm, 143, rfl⟩
abbrev main_while0b_v139 : Ref sig .tc := ⟨.hbm, 144, rfl⟩
abbrev main_while0b_v140 : Ref sig .tc := ⟨.hbm, 145, rfl⟩
abbrev main_while0b_v141 : Ref sig .tc := ⟨.hbm, 146, rfl⟩
abbrev main_while0b_v142 : Ref sig .tc := ⟨.hbm, 147, rfl⟩
abbrev main_while0b_v143 : Ref sig .tc := ⟨.hbm, 148, rfl⟩
abbrev main_while0b_v144 : Ref sig .tc := ⟨.hbm, 149, rfl⟩
abbrev main_while0b_v145 : Ref sig .tc := ⟨.hbm, 150, rfl⟩
abbrev main_while0b_v146 : Ref sig .tc := ⟨.hbm, 151, rfl⟩
abbrev main_while0b_v147 : Ref sig .tc := ⟨.hbm, 152, rfl⟩
abbrev main_while0b_v148 : Ref sig .tc := ⟨.hbm, 153, rfl⟩
abbrev main_while0b_v149 : Ref sig .tc := ⟨.hbm, 154, rfl⟩
abbrev main_while0b_v150 : Ref sig .tc := ⟨.hbm, 155, rfl⟩
abbrev main_while0b_v151 : Ref sig .tc := ⟨.hbm, 156, rfl⟩
abbrev main_while0b_v152 : Ref sig .tc := ⟨.hbm, 157, rfl⟩
abbrev main_while0b_v153 : Ref sig .tc := ⟨.hbm, 158, rfl⟩
abbrev main_while0b_v154 : Ref sig .tc := ⟨.hbm, 159, rfl⟩
abbrev main_while0b_v155 : Ref sig .tc := ⟨.hbm, 160, rfl⟩
abbrev main_while0b_v156 : Ref sig .tc := ⟨.hbm, 161, rfl⟩
abbrev main_while0b_v157 : Ref sig .tc := ⟨.hbm, 162, rfl⟩
abbrev main_while0b_v158 : Ref sig .tc := ⟨.hbm, 163, rfl⟩
abbrev main_while0b_v159 : Ref sig .tc := ⟨.hbm, 164, rfl⟩
abbrev main_while0b_v160 : Ref sig .tc := ⟨.hbm, 165, rfl⟩
abbrev main_while0b_v161 : Ref sig .tc := ⟨.hbm, 166, rfl⟩
abbrev main_while0b_v162 : Ref sig .tc := ⟨.hbm, 167, rfl⟩
abbrev main_while0b_v163 : Ref sig .tc := ⟨.hbm, 168, rfl⟩
abbrev main_while0b_v164 : Ref sig .tc := ⟨.hbm, 169, rfl⟩
abbrev main_while0b_v165 : Ref sig .tc := ⟨.hbm, 170, rfl⟩
abbrev main_while0b_v166 : Ref sig .tc := ⟨.hbm, 171, rfl⟩
abbrev main_while0b_v167 : Ref sig .tc := ⟨.hbm, 172, rfl⟩
abbrev main_while0b_cst_30 : Ref sig .tc := ⟨.hbm, 173, rfl⟩
abbrev main_while0b_v168 : Ref sig .tc := ⟨.hbm, 174, rfl⟩
abbrev main_while0b_v169 : Ref sig .tc := ⟨.hbm, 175, rfl⟩
abbrev main_while0b_v170 : Ref sig .tc := ⟨.hbm, 176, rfl⟩
abbrev main_while0b_cst_31 : Ref sig .tc := ⟨.hbm, 177, rfl⟩
abbrev main_while0b_v171 : Ref sig .tc := ⟨.hbm, 178, rfl⟩
abbrev main_while0b_v172 : Ref sig .tc := ⟨.hbm, 179, rfl⟩
abbrev main_while0b_v173 : Ref sig .tc := ⟨.hbm, 180, rfl⟩
abbrev main_while0b_v174 : Ref sig .tc := ⟨.hbm, 181, rfl⟩
abbrev main_while0b_v175 : Ref sig .tc := ⟨.hbm, 182, rfl⟩
abbrev main_while0b_v176 : Ref sig .tc := ⟨.hbm, 183, rfl⟩
abbrev main_while0b_v177 : Ref sig .tc := ⟨.hbm, 184, rfl⟩
abbrev main_while0b_v178 : Ref sig .tc := ⟨.hbm, 185, rfl⟩
abbrev main_while0b_cst_32 : Ref sig .tc := ⟨.hbm, 186, rfl⟩
abbrev main_while0b_v179 : Ref sig .tc := ⟨.hbm, 187, rfl⟩
abbrev main_while0b_v180 : Ref sig .tc := ⟨.hbm, 188, rfl⟩
abbrev main_while0b_v181 : Ref sig .tc := ⟨.hbm, 189, rfl⟩
abbrev main_while0b_v182 : Ref sig .tc := ⟨.hbm, 190, rfl⟩
abbrev main_while0b_v183 : Ref sig .tc := ⟨.hbm, 191, rfl⟩
abbrev main_while0b_v184 : Ref sig .tc := ⟨.hbm, 192, rfl⟩
abbrev main_while0b_v185 : Ref sig .tc := ⟨.hbm, 193, rfl⟩
abbrev main_while0b_cst_33 : Ref sig .tc := ⟨.hbm, 194, rfl⟩
abbrev main_while0b_v186 : Ref sig .tc := ⟨.hbm, 195, rfl⟩
abbrev main_while0b_v187 : Ref sig .tc := ⟨.hbm, 196, rfl⟩
abbrev main_while0b_v188 : Ref sig .tc := ⟨.hbm, 197, rfl⟩
abbrev main_while0b_v189 : Ref sig .tc := ⟨.hbm, 198, rfl⟩
abbrev main_while0b_v190 : Ref sig .tc := ⟨.hbm, 199, rfl⟩
abbrev main_while0b_v191 : Ref sig .tc := ⟨.hbm, 200, rfl⟩
abbrev main_while0b_v192 : Ref sig .tc := ⟨.hbm, 201, rfl⟩
abbrev main_while0b_v193 : Ref sig .tc := ⟨.hbm, 202, rfl⟩
abbrev main_while0b_cst_34 : Ref sig .tc := ⟨.hbm, 203, rfl⟩
abbrev main_while0b_v194 : Ref sig .tc := ⟨.hbm, 204, rfl⟩
abbrev main_while0b_v195 : Ref sig .tc := ⟨.hbm, 205, rfl⟩
abbrev main_while0b_v196 : Ref sig .tc := ⟨.hbm, 206, rfl⟩
abbrev main_while0b_v197 : Ref sig .tc := ⟨.hbm, 207, rfl⟩
abbrev main_while0b_v198 : Ref sig .tc := ⟨.hbm, 208, rfl⟩
abbrev main_while0b_v199 : Ref sig .tc := ⟨.hbm, 209, rfl⟩
abbrev main_while0b_v200 : Ref sig .tc := ⟨.hbm, 210, rfl⟩
abbrev main_while0b_cst_35 : Ref sig .tc := ⟨.hbm, 211, rfl⟩
abbrev main_while0b_v201 : Ref sig .tc := ⟨.hbm, 212, rfl⟩
abbrev main_while0b_v202 : Ref sig .tc := ⟨.hbm, 213, rfl⟩
abbrev main_while0b_v203 : Ref sig .tc := ⟨.hbm, 214, rfl⟩
abbrev main_while0b_v204 : Ref sig .tc := ⟨.hbm, 215, rfl⟩
abbrev main_while0b_v205 : Ref sig .tc := ⟨.hbm, 216, rfl⟩
abbrev main_while0b_v206 : Ref sig .tc := ⟨.hbm, 217, rfl⟩
abbrev main_while0b_v207 : Ref sig .tc := ⟨.hbm, 218, rfl⟩
abbrev main_while0b_v208 : Ref sig .tc := ⟨.hbm, 219, rfl⟩
abbrev main_while0b_v209 : Ref sig .tc := ⟨.hbm, 220, rfl⟩
abbrev main_while0b_cst_36 : Ref sig .tc := ⟨.hbm, 221, rfl⟩
abbrev main_while0b_v210 : Ref sig .tc := ⟨.hbm, 222, rfl⟩
abbrev main_while0b_v211 : Ref sig .tc := ⟨.hbm, 223, rfl⟩
abbrev main_while0b_v212 : Ref sig .tc := ⟨.hbm, 224, rfl⟩
abbrev main_while0b_cst_37 : Ref sig .tc := ⟨.hbm, 225, rfl⟩
abbrev main_while0b_v213 : Ref sig .tc := ⟨.hbm, 226, rfl⟩
abbrev main_while0b_v214 : Ref sig .tc := ⟨.hbm, 227, rfl⟩
abbrev main_while0b_cst_38 : Ref sig .tc := ⟨.hbm, 228, rfl⟩
abbrev main_while0b_v215 : Ref sig .tc := ⟨.hbm, 229, rfl⟩
abbrev main_while0b_v216 : Ref sig .tc := ⟨.hbm, 230, rfl⟩
abbrev main_while0b_v217 : Ref sig .tc := ⟨.hbm, 231, rfl⟩
abbrev main_while0b_cst_39 : Ref sig .tc := ⟨.hbm, 232, rfl⟩
abbrev main_while0b_v218 : Ref sig .tc := ⟨.hbm, 233, rfl⟩
abbrev main_while0b_v219 : Ref sig .tc := ⟨.hbm, 234, rfl⟩
abbrev main_while0b_v220 : Ref sig .tc := ⟨.hbm, 235, rfl⟩
abbrev main_while0b_cst_40 : Ref sig .tc := ⟨.hbm, 236, rfl⟩
abbrev main_while0b_call6_v0 : Ref sig .tc := ⟨.hbm, 237, rfl⟩
abbrev main_while0b_call6_v1 : Ref sig .tc := ⟨.hbm, 238, rfl⟩
abbrev main_while0b_v221 : Ref sig .tc := ⟨.hbm, 239, rfl⟩
abbrev main_while0b_v222 : Ref sig .tc := ⟨.hbm, 240, rfl⟩
abbrev main_while0b_c_41 : Ref sig .tc := ⟨.hbm, 241, rfl⟩
abbrev main_while0b_v223 : Ref sig .tc := ⟨.hbm, 242, rfl⟩
abbrev main_while0b_v224 : Ref sig .tc := ⟨.hbm, 243, rfl⟩
abbrev main_while0b_c_42 : Ref sig .tc := ⟨.hbm, 244, rfl⟩
abbrev main_while0b_v225 : Ref sig .tc := ⟨.hbm, 245, rfl⟩
abbrev main_while0b_v226 : Ref sig .tc := ⟨.hbm, 246, rfl⟩
abbrev main_while0b_v227 : Ref sig .tc := ⟨.hbm, 247, rfl⟩
abbrev main_while0b_c_43 : Ref sig .tc := ⟨.hbm, 248, rfl⟩
abbrev main_while0b_v228 : Ref sig .tc := ⟨.hbm, 249, rfl⟩
abbrev main_while0b_v229 : Ref sig .tc := ⟨.hbm, 250, rfl⟩
abbrev main_while0b_c_44 : Ref sig .tc := ⟨.hbm, 251, rfl⟩
abbrev main_while0b_v230 : Ref sig .tc := ⟨.hbm, 252, rfl⟩
abbrev main_while0b_v231 : Ref sig .tc := ⟨.hbm, 253, rfl⟩
abbrev main_while0b_v232 : Ref sig .tc := ⟨.hbm, 254, rfl⟩
abbrev main_while0b_v233 : Ref sig .tc := ⟨.hbm, 255, rfl⟩
abbrev main_while0b_v234 : Ref sig .tc := ⟨.hbm, 256, rfl⟩
abbrev main_while0b_v235 : Ref sig .tc := ⟨.hbm, 257, rfl⟩
abbrev main_while0b_cst_45 : Ref sig .tc := ⟨.hbm, 258, rfl⟩
abbrev main_while0b_v236 : Ref sig .tc := ⟨.hbm, 259, rfl⟩
abbrev main_while0b_v237 : Ref sig .tc := ⟨.hbm, 260, rfl⟩
abbrev main_while0b_call7_v0 : Ref sig .tc := ⟨.hbm, 261, rfl⟩
abbrev main_while0b_call7_c : Ref sig .tc := ⟨.hbm, 262, rfl⟩
abbrev main_while0b_v238 : Ref sig .tc := ⟨.hbm, 263, rfl⟩
abbrev main_while0b_c_46 : Ref sig .tc := ⟨.hbm, 264, rfl⟩
abbrev main_while0b_v239 : Ref sig .tc := ⟨.hbm, 265, rfl⟩
abbrev main_v79 : Ref sig .tc := ⟨.hbm, 266, rfl⟩
abbrev main_v80 : Ref sig .tc := ⟨.hbm, 267, rfl⟩
abbrev main_v81 : Ref sig .tc := ⟨.hbm, 268, rfl⟩
abbrev main_c_13 : Ref sig .tc := ⟨.hbm, 269, rfl⟩
abbrev main_v82 : Ref sig .tc := ⟨.hbm, 270, rfl⟩
abbrev main_v83 : Ref sig .tc := ⟨.hbm, 271, rfl⟩
abbrev main_v84 : Ref sig .tc := ⟨.hbm, 272, rfl⟩
abbrev main_v85 : Ref sig .tc := ⟨.hbm, 273, rfl⟩
abbrev main_c_14 : Ref sig .tc := ⟨.hbm, 274, rfl⟩
abbrev main_v86 : Ref sig .tc := ⟨.hbm, 275, rfl⟩
abbrev main_v87 : Ref sig .tc := ⟨.hbm, 276, rfl⟩
abbrev main_c_15 : Ref sig .tc := ⟨.hbm, 277, rfl⟩
abbrev main_v88 : Ref sig .tc := ⟨.hbm, 278, rfl⟩
abbrev main_v89 : Ref sig .tc := ⟨.hbm, 279, rfl⟩
abbrev main_v90 : Ref sig .tc := ⟨.hbm, 280, rfl⟩
abbrev main_c_16 : Ref sig .tc := ⟨.hbm, 281, rfl⟩
abbrev main_v91 : Ref sig .tc := ⟨.hbm, 282, rfl⟩
abbrev main_v92 : Ref sig .tc := ⟨.hbm, 283, rfl⟩
abbrev main_c_17 : Ref sig .tc := ⟨.hbm, 284, rfl⟩
abbrev main_v93 : Ref sig .tc := ⟨.hbm, 285, rfl⟩
abbrev main_v94 : Ref sig .tc := ⟨.hbm, 286, rfl⟩
abbrev main_v95 : Ref sig .tc := ⟨.hbm, 287, rfl⟩
abbrev main_v96 : Ref sig .tc := ⟨.hbm, 288, rfl⟩
abbrev main_v97 : Ref sig .tc := ⟨.hbm, 289, rfl⟩
abbrev main_v98 : Ref sig .tc := ⟨.hbm, 290, rfl⟩
abbrev main_v99 : Ref sig .tc := ⟨.hbm, 291, rfl⟩
abbrev main_values : Ref sig .tc := ⟨.hbm, 292, rfl⟩
abbrev main_indices : Ref sig .tc := ⟨.hbm, 293, rfl⟩
abbrev main_c_18 : Ref sig .tc := ⟨.hbm, 294, rfl⟩
abbrev main_v100 : Ref sig .tc := ⟨.hbm, 295, rfl⟩
abbrev main_v101 : Ref sig .tc := ⟨.hbm, 296, rfl⟩
abbrev main_c_19 : Ref sig .tc := ⟨.hbm, 297, rfl⟩
abbrev main_v102 : Ref sig .tc := ⟨.hbm, 298, rfl⟩
abbrev main_v103 : Ref sig .tc := ⟨.hbm, 299, rfl⟩
abbrev main_v104 : Ref sig .tc := ⟨.hbm, 300, rfl⟩
abbrev main_v105 : Ref sig .tc := ⟨.hbm, 301, rfl⟩
abbrev main_v106 : Ref sig .tc := ⟨.hbm, 302, rfl⟩
abbrev main_c_20 : Ref sig .tc := ⟨.hbm, 303, rfl⟩
abbrev main_v107 : Ref sig .tc := ⟨.hbm, 304, rfl⟩
abbrev main_v108 : Ref sig .tc := ⟨.hbm, 305, rfl⟩
abbrev main_c_21 : Ref sig .tc := ⟨.hbm, 306, rfl⟩
abbrev main_v109 : Ref sig .tc := ⟨.hbm, 307, rfl⟩
abbrev main_v110 : Ref sig .tc := ⟨.hbm, 308, rfl⟩
abbrev main_v111 : Ref sig .tc := ⟨.hbm, 309, rfl⟩
abbrev main_v112 : Ref sig .tc := ⟨.hbm, 310, rfl⟩
abbrev main_v113 : Ref sig .tc := ⟨.hbm, 311, rfl⟩
abbrev main_c_22 : Ref sig .tc := ⟨.hbm, 312, rfl⟩
abbrev main_v114 : Ref sig .tc := ⟨.hbm, 313, rfl⟩
abbrev main_v115 : Ref sig .tc := ⟨.hbm, 314, rfl⟩
abbrev main_c_23 : Ref sig .tc := ⟨.hbm, 315, rfl⟩
abbrev main_v116 : Ref sig .tc := ⟨.hbm, 316, rfl⟩
abbrev main_v117 : Ref sig .tc := ⟨.hbm, 317, rfl⟩
abbrev main_v118 : Ref sig .tc := ⟨.hbm, 318, rfl⟩
abbrev main_v119 : Ref sig .tc := ⟨.hbm, 319, rfl⟩
abbrev main_v120 : Ref sig .tc := ⟨.hbm, 320, rfl⟩
abbrev main_v121 : Ref sig .tc := ⟨.hbm, 321, rfl⟩
abbrev main_v122 : Ref sig .tc := ⟨.hbm, 322, rfl⟩

abbrev nD : Nat := 1
abbrev τ : Topo := Topo.v7x

variable {F : FTy → Type} [FloatOps F]

abbrev main_while0_count : Scf.Loop 32 := ⟨0#32, 100#32, 1#32⟩
-- ==== Proof.RefLists.lean ====
/- The reference program's host operations as lists: @main is a chain of stretches around one counted loop, and the
   loop's body is a chain of stretches. Each stretch touches TensorCore references only. The text is the proof generator's
   form for a looped reference, with argmax's two operations read as functions of four operands. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 2684

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 7 host operations of @main, in order. -/
abbrev hostOps0 : List (HloOp τ sig (Elt F)) :=
  [ StableHlo.reshape main_arg0 main_v0 (rfl : (.f32 : EltTy) = .f32) shapeCasts_S1x20000x1_S20000x1,
    StableHlo.reshape main_arg1 main_v1 (rfl : (.f32 : EltTy) = .f32) shapeCasts_S1x20000x8_S20000x8,
    StableHlo.reshape main_arg2 main_v2 (rfl : (.f32 : EltTy) = .f32) shapeCasts_S1x20000x4_S20000x4,
    StableHlo.unary main_v0 main_v3 (broadcastInDim S20000x8 ![0, 1] bcast_S20000x1_S20000x8_0_1 : (⟨S20000x1, .f32⟩ : BufTy).Contents (Elt F) → (⟨S20000x8, .f32⟩ : BufTy).Contents (Elt F)),
    StableHlo.binary main_v3 main_v1 main_v4 (mulf : (⟨S20000x8, .f32⟩ : BufTy).Contents (Elt F) → (⟨S20000x8, .f32⟩ : BufTy).Contents (Elt F) → (⟨S20000x8, .f32⟩ : BufTy).Contents (Elt F)),
    StableHlo.nullary main_cst (constant S_ .f32 0xFF800000#32),
    StableHlo.binary main_v4 main_cst main_v5 ((fun x v => Host.reduce FloatOps.maximumf x v reducesTo_S20000x8_S20000_d1 h_S_) : (⟨S20000x8, .f32⟩ : BufTy).Contents (Elt F) → (⟨S_, .f32⟩ : BufTy).Contents (Elt F) → (⟨S20000, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.reshape_bufs_sub .., StableHlo.reshape_bufs_sub .., StableHlo.unary_bufs_sub .., StableHlo.binary_bufs_sub .., StableHlo.nullary_bufs_sub .., StableHlo.binary_bufs_sub ..⟩
/-- 5 host operations of @argmax (main_call0), in order. -/
abbrev hostOps0_1 : List (HloOp τ sig (Elt F)) :=
  [ StableHlo.TRef.nullary (.of main_call0_v0 : StableHlo.TRef sig ⟨S20000x8, .i32⟩) (iotaInDim S20000x8 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v4 : StableHlo.TRef sig ⟨S20000x8, .f32⟩) (.of main_call0_v0 : StableHlo.TRef sig ⟨S20000x8, .i32⟩) (.of main_call0_cst : StableHlo.TRef sig ⟨S_, .f32⟩) (.of main_call0_c : StableHlo.TRef sig ⟨S_, .i32⟩) (.of main_call0_v1_0 : StableHlo.TRef sig ⟨S20000, .f32⟩) (fun x y u v j => (Host.argReduce reducer_argmax_f32_i32 x y u v reducesTo_S20000x8_S20000_d1 h_S_ j).1),
    StableHlo.TRef.quaternary (.of main_v4 : StableHlo.TRef sig ⟨S20000x8, .f32⟩) (.of main_call0_v0 : StableHlo.TRef sig ⟨S20000x8, .i32⟩) (.of main_call0_cst : StableHlo.TRef sig ⟨S_, .f32⟩) (.of main_call0_c : StableHlo.TRef sig ⟨S_, .i32⟩) (.of main_v6 : StableHlo.TRef sig ⟨S20000, .i32⟩) (fun x y u v j => (Host.argReduce reducer_argmax_f32_i32 x y u v reducesTo_S20000x8_S20000_d1 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 41 host operations of @main, in order. -/
abbrev hostOps0_2 : List (HloOp τ sig (Elt F)) :=
  ( StableHlo.nullary main_cst_0 (constant S_ .f32 0x3F333333#32)
  :: StableHlo.unary main_cst_0 main_v7 (broadcastInDim S20000 ![] bcast_S_S20000 : (⟨S_, .f32⟩ : BufTy).Contents (Elt F) → (⟨S20000, .f32⟩ : BufTy).Contents (Elt F))
  :: StableHlo.binary main_v5 main_v7 main_v8 (cmpf .oge : (⟨S20000, .f32⟩ : BufTy).Contents (Elt F) → (⟨S20000, .f32⟩ : BufTy).Contents (Elt F) → (⟨S20000, .i1⟩ : BufTy).Contents (Elt F))
  :: StableHlo.nullary main_c (constantI S_ 32 0#32)
  :: StableHlo.unary main_c main_v9 (broadcastInDim S20000 ![] bcast_S_S20000 : (⟨S_, .i32⟩ : BufTy).Contents (Elt F) → (⟨S20000, .i32⟩ : BufTy).Contents (Elt F))
  :: StableHlo.binary main_v6 main_v9 main_v10 (cmpi .sgt : (⟨S20000, .i32⟩ : BufTy).Contents (Elt F) → (⟨S20000, .i32⟩ : BufTy).Contents (Elt F) → (⟨S20000, .i1⟩ : BufTy).Contents (Elt F))
  :: StableHlo.binary main_v8 main_v10 main_v11 (andi : (⟨S20000, .i1⟩ : BufTy).Contents (Elt F) → (⟨S20000, .i1⟩ : BufTy).Contents (Elt F) → (⟨S20000, .i1⟩ : BufTy).Contents (Elt F))
  :: StableHlo.unary main_arg3 main_v12 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v12 main_v13 (rfl : (.f32 : EltTy) = .f32) shapeCasts_S20000x1_S20000
  :: StableHlo.unary main_arg3 main_v14 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v14 main_v15 (rfl : (.f32 : EltTy) = .f32) shapeCasts_S20000x1_S20000
  :: StableHlo.binary main_v13 main_v15 main_v16 (subf : (⟨S20000, .f32⟩ : BufTy).Contents (Elt F) → (⟨S20000, .f32⟩ : BufTy).Contents (Elt F) → (⟨S20000, .f32⟩ : BufTy).Contents (Elt F))
  :: StableHlo.unary main_arg3 main_v17 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v17 main_v18 (rfl : (.f32 : EltTy) = .f32) shapeCasts_S20000x1_S20000
  :: StableHlo.unary main_arg3 main_v19 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v19 main_v20 (rfl : (.f32 : EltTy) = .f32) shapeCasts_S20000x1_S20000
  :: StableHlo.binary main_v18 main_v20 main_v21 (subf : (⟨S20000, .f32⟩ : BufTy).Contents (Elt F) → (⟨S20000, .f32⟩ : BufTy).Contents (Elt F) → (⟨S20000, .f32⟩ : BufTy).Contents (Elt F))
  :: StableHlo.unary main_arg3 main_v22 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v22 main_v23 (rfl : (.f32 : EltTy) = .f32) shapeCasts_S20000x1_S20000
  :: StableHlo.nullary main_cst_1 (constant S_ .f32 0x3F000000#32)
  :: StableHlo.unary main_cst_1 main_v24 (broadcastInDim S20000 ![] bcast_S_S20000 : (⟨S_, .f32⟩ : BufTy).Contents (Elt F) → (⟨S20000, .f32⟩ : BufTy).Contents (Elt F))
  :: StableHlo.binary main_v24 main_v16 main_v25 (mulf : (⟨S20000, .f32⟩ : BufTy).Contents (Elt F) → (⟨S20000, .f32⟩ : BufTy).Contents (Elt F) → (⟨S20000, .f32⟩ : BufTy).Contents (Elt F))
  :: StableHlo.binary main_v23 main_v25 main_v26 (addf : (⟨S20000, .f32⟩ : BufTy).Contents (Elt F) → (⟨S20000, .f32⟩ : BufTy).Contents (Elt F) → (⟨S20000, .f32⟩ : BufTy).Contents (Elt F))
  :: StableHlo.unary main_arg3 main_v27 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v27 main_v28 (rfl : (.f32 : EltTy) = .f32) shapeCasts_S20000x1_S20000
  :: StableHlo.nullary main_cst_2 (constant S_ .f32 0x3F000000#32)
  :: StableHlo.unary main_cst_2 main_v29 (broadcastInDim S20000 ![] bcast_S_S20000 : (⟨S_, .f32⟩ : BufTy).Contents (Elt F) → (⟨S20000, .f32⟩ : BufTy).Contents (Elt F))
  :: StableHlo.binary main_v29 main_v21 main_v30 (mulf : (⟨S20000, .f32⟩ : BufTy).Contents (Elt F) → (⟨S20000, .f32⟩ : BufTy).Contents (Elt F) → (⟨S20000, .f32⟩ : BufTy).Contents (Elt F))
  :: StableHlo.binary main_v28 main_v30 main_v31 (addf : (⟨S20000, .f32⟩ : BufTy).Contents (Elt F) → (⟨S20000, .f32⟩ : BufTy).Contents (Elt F) → (⟨S20000, .f32⟩ : BufTy).Contents (Elt F))
  :: StableHlo.unary main_v2 main_v32 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v32 main_v33 (rfl : (.f32 : EltTy) = .f32) shapeCasts_S20000x1_S20000
  :: StableHlo.unary main_v2 main_v34 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v34 main_v35 (rfl : (.f32 : EltTy) = .f32) shapeCasts_S20000x1_S20000
  :: StableHlo.unary main_v2 main_v36 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v36 main_v37 (rfl : (.f32 : EltTy) = .f32) shapeCasts_S20000x1_S20000
  :: StableHlo.unary main_v2 main_v38 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v38 main_v39 (rfl : (.f32 : EltTy) = .f32) shapeCasts_S20000x1_S20000
  :: StableHlo.nullary main_cst_3 (constant S_ .f32 0x3C83126F#32)
  :: StableHlo.unary main_cst_3 main_v40 (Host.log : (⟨S_, .f32⟩ : BufTy).Contents (Elt F) → (⟨S_, .f32⟩ : BufTy).Contents (Elt F))
  :: StableHlo.unary main_v40 main_v41 (Host.absf : (⟨S_, .f32⟩ : BufTy).Contents (Elt F) → (⟨S_, .f32⟩ : BufTy).Contents (Elt F))
  :: StableHlo.unary main_v41 main_v42 (Host.negf : (⟨S_, .f32⟩ : BufTy).Contents (Elt F) → (⟨S_, .f32⟩ : BufTy).Contents (Elt F))
  :: [] )
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.unary_bufs_sub ..⟩
/-- 4 host operations of @clip (main_call1), in order. -/
abbrev hostOps0_3 : List (HloOp τ sig (Elt F)) :=
  [ StableHlo.TRef.unary (.of main_v42 : StableHlo.TRef sig ⟨S_, .f32⟩) (.of main_call1_v0 : StableHlo.TRef sig ⟨S20000, .f32⟩) (broadcastInDim S20000 ![] bcast_S_S20000),
    StableHlo.TRef.binary (.of main_call1_v0 : StableHlo.TRef sig ⟨S20000, .f32⟩) (.of main_v37 : StableHlo.TRef sig ⟨S20000, .f32⟩) (.of main_call1_v1 : StableHlo.TRef sig ⟨S20000, .f32⟩) maximumf,
    StableHlo.TRef.unary (.of main_v41 : StableHlo.TRef sig ⟨S_, .f32⟩) (.of main_call1_v2 : StableHlo.TRef sig ⟨S20000, .f32⟩) (broadcastInDim S20000 ![] bcast_S_S20000),
    StableHlo.TRef.binary (.of main_call1_v2 : StableHlo.TRef sig ⟨S20000, .f32⟩) (.of main_call1_v1 : StableHlo.TRef sig ⟨S20000, .f32⟩) (.of main_v43 : StableHlo.TRef sig ⟨S20000, .f32⟩) minimumf ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
/-- 1 host operation of @main, in order. -/
abbrev hostOps0_4 : List (HloOp τ sig (Elt F)) :=
  [ StableHlo.unary main_v41 main_v44 (Host.negf : (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  StableHlo.unary_bufs_sub ..
/-- 4 host operations of @clip (main_call2), in order. -/
abbrev hostOps0_5 : List (HloOp τ sig (Elt F)) :=
  [ StableHlo.TRef.unary (.of main_v44 : StableHlo.TRef sig ⟨S_, .f32⟩) (.of main_call2_v0 : StableHlo.TRef sig ⟨S20000, .f32⟩) (broadcastInDim S20000 ![] bcast_S_S20000),
    StableHlo.TRef.binary (.of main_call2_v0 : StableHlo.TRef sig ⟨S20000, .f32⟩) (.of main_v39 : StableHlo.TRef sig ⟨S20000, .f32⟩) (.of main_call2_v1 : StableHlo.TRef sig ⟨S20000, .f32⟩) maximumf,
    StableHlo.TRef.unary (.of main_v41 : StableHlo.TRef sig ⟨S_, .f32⟩) (.of main_call2_v2 : StableHlo.TRef sig ⟨S20000, .f32⟩) (broadcastInDim S20000 ![] bcast_S_S20000),
    StableHlo.TRef.binary (.of main_call2_v2 : StableHlo.TRef sig ⟨S20000, .f32⟩) (.of main_call2_v1 : StableHlo.TRef sig ⟨S20000, .f32⟩) (.of main_v45 : StableHlo.TRef sig ⟨S20000, .f32⟩) minimumf ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
/-- 31 host operations of @main, in order. -/
abbrev hostOps0_6 : List (HloOp τ sig (Elt F)) :=
  [ StableHlo.binary main_v33 main_v16 main_v46 (mulf : (⟨S20000, .f32⟩ : BufTy).Contents (Elt F) → (⟨S20000, .f32⟩ : BufTy).Contents (Elt F) → (⟨S20000, .f32⟩ : BufTy).Contents (Elt F)),
    StableHlo.binary main_v26 main_v46 main_v47 (addf : (⟨S20000, .f32⟩ : BufTy).Contents (Elt F) → (⟨S20000, .f32⟩ : BufTy).Contents (Elt F) → (⟨S20000, .f32⟩ : BufTy).Contents (Elt F)),
    StableHlo.binary main_v35 main_v21 main_v48 (mulf : (⟨S20000, .f32⟩ : BufTy).Contents (Elt F) → (⟨S20000, .f32⟩ : BufTy).Contents (Elt F) → (⟨S20000, .f32⟩ : BufTy).Contents (Elt F)),
    StableHlo.binary main_v31 main_v48 main_v49 (addf : (⟨S20000, .f32⟩ : BufTy).Contents (Elt F) → (⟨S20000, .f32⟩ : BufTy).Contents (Elt F) → (⟨S20000, .f32⟩ : BufTy).Contents (Elt F)),
    StableHlo.unary main_v43 main_v50 (Host.exp : (⟨S20000, .f32⟩ : BufTy).Contents (Elt F) → (⟨S20000, .f32⟩ : BufTy).Contents (Elt F)),
    StableHlo.binary main_v16 main_v50 main_v51 (mulf : (⟨S20000, .f32⟩ : BufTy).Contents (Elt F) → (⟨S20000, .f32⟩ : BufTy).Contents (Elt F) → (⟨S20000, .f32⟩ : BufTy).Contents (Elt F)),
    StableHlo.unary main_v45 main_v52 (Host.exp : (⟨S20000, .f32⟩ : BufTy).Contents (Elt F) → (⟨S20000, .f32⟩ : BufTy).Contents (Elt F)),
    StableHlo.binary main_v21 main_v52 main_v53 (mulf : (⟨S20000, .f32⟩ : BufTy).Contents (Elt F) → (⟨S20000, .f32⟩ : BufTy).Contents (Elt F) → (⟨S20000, .f32⟩ : BufTy).Contents (Elt F)),
    StableHlo.nullary main_cst_4 (constant S_ .f32 0x3F000000#32),
    StableHlo.unary main_cst_4 main_v54 (broadcastInDim S20000 ![] bcast_S_S20000 : (⟨S_, .f32⟩ : BufTy).Contents (Elt F) → (⟨S20000, .f32⟩ : BufTy).Contents (Elt F)),
    StableHlo.binary main_v54 main_v51 main_v55 (mulf : (⟨S20000, .f32⟩ : BufTy).Contents (Elt F) → (⟨S20000, .f32⟩ : BufTy).Contents (Elt F) → (⟨S20000, .f32⟩ : BufTy).Contents (Elt F)),
    StableHlo.binary main_v47 main_v55 main_v56 (subf : (⟨S20000, .f32⟩ : BufTy).Contents (Elt F) → (⟨S20000, .f32⟩ : BufTy).Contents (Elt F) → (⟨S20000, .f32⟩ : BufTy).Contents (Elt F)),
    StableHlo.nullary main_cst_5 (constant S_ .f32 0x3F000000#32),
    StableHlo.unary main_cst_5 main_v57 (broadcastInDim S20000 ![] bcast_S_S20000 : (⟨S_, .f32⟩ : BufTy).Contents (Elt F) → (⟨S20000, .f32⟩ : BufTy).Contents (Elt F)),
    StableHlo.binary main_v57 main_v53 main_v58 (mulf : (⟨S20000, .f32⟩ : BufTy).Contents (Elt F) → (⟨S20000, .f32⟩ : BufTy).Contents (Elt F) → (⟨S20000, .f32⟩ : BufTy).Contents (Elt F)),
    StableHlo.binary main_v49 main_v58 main_v59 (subf : (⟨S20000, .f32⟩ : BufTy).Contents (Elt F) → (⟨S20000, .f32⟩ : BufTy).Contents (Elt F) → (⟨S20000, .f32⟩ : BufTy).Contents (Elt F)),
    StableHlo.nullary main_cst_6 (constant S_ .f32 0x3F000000#32),
    StableHlo.unary main_cst_6 main_v60 (broadcastInDim S20000 ![] bcast_S_S20000 : (⟨S_, .f32⟩ : BufTy).Contents (Elt F) → (⟨S20000, .f32⟩ : BufTy).Contents (Elt F)),
    StableHlo.binary main_v60 main_v51 main_v61 (mulf : (⟨S20000, .f32⟩ : BufTy).Contents (Elt F) → (⟨S20000, .f32⟩ : BufTy).Contents (Elt F) → (⟨S20000, .f32⟩ : BufTy).Contents (Elt F)),
    StableHlo.binary main_v47 main_v61 main_v62 (addf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x3F000000#32),
    StableHlo.unary main_cst_7 main_v63 (broadcastInDim S20000 ![] bcast_S_S20000 : (⟨S_, .f32⟩ : BufTy).Contents (Elt F) → (⟨S20000, .f32⟩ : BufTy).Contents (Elt F)),
    StableHlo.binary main_v63 main_v53 main_v64 (mulf : (⟨S20000, .f32⟩ : BufTy).Contents (Elt F) → (⟨S20000, .f32⟩ : BufTy).Contents (Elt F) → (⟨S20000, .f32⟩ : BufTy).Contents (Elt F)),
    StableHlo.binary main_v49 main_v64 main_v65 (addf : (⟨S20000, .f32⟩ : BufTy).Contents (Elt F) → (⟨S20000, .f32⟩ : BufTy).Contents (Elt F) → (⟨S20000, .f32⟩ : BufTy).Contents (Elt F)),
    StableHlo.unary main_v56 main_v66 (broadcastInDim S20000x1 ![0] bcast_S20000_S20000x1_0 : (⟨S20000, .f32⟩ : BufTy).Contents (Elt F) → (⟨S20000x1, .f32⟩ : BufTy).Contents (Elt F)),
    StableHlo.unary main_v59 main_v67 (broadcastInDim S20000x1 ![0] bcast_S20000_S20000x1_0 : (⟨S20000, .f32⟩ : BufTy).Contents (Elt F) → (⟨S20000x1, .f32⟩ : BufTy).Contents (Elt F)),
    StableHlo.unary main_v62 main_v68 (broadcastInDim S20000x1 ![0] bcast_S20000_S20000x1_0 : (⟨S20000, .f32⟩ : BufTy).Contents (Elt F) → (⟨S20000x1, .f32⟩ : BufTy).Contents (Elt F)),
    StableHlo.unary main_v65 main_v69 (broadcastInDim S20000x1 ![0] bcast_S20000_S20000x1_0 : (⟨S20000, .f32⟩ : BufTy).Contents (Elt F) → (⟨S20000x1, .f32⟩ : BufTy).Contents (Elt F)),
    StableHlo.nary ![main_v66, main_v67, main_v68, main_v69] main_v70 (fun u => (concatenate S20000x4 1 [⟨S20000x1, (u 0 : (⟨S20000x1, .f32⟩ : BufTy).Contents (Elt F))⟩, ⟨S20000x1, (u 1 : (⟨S20000x1, .f32⟩ : BufTy).Contents (Elt F))⟩, ⟨S20000x1, (u 2 : (⟨S20000x1, .f32⟩ : BufTy).Contents (Elt F))⟩, ⟨S20000x1, (u 3 : (⟨S20000x1, .f32⟩ : BufTy).Contents (Elt F))⟩] concatenates_S20000x1_S20000x1_S20000x1_S20000x1_S20000x4_d1 : (⟨S20000x4, .f32⟩ : BufTy).Contents (Elt F))),
    StableHlo.nullary main_cst_8 (constant S_ .f32 0x00000000#32),
    StableHlo.nullary main_cst_9 (constant S_ .f32 0x3F800000#32) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub ..⟩
/-- 6 host operations of @clip_0 (main_call3), in order. -/
abbrev hostOps0_7 : List (HloOp τ sig (Elt F)) :=
  [ StableHlo.TRef.unary (.of main_cst_8 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S20000x4, .f32⟩) (broadcastInDim S20000x4 ![] bcast_S_S20000x4),
    StableHlo.TRef.binary (.of main_call3_v1 : StableHlo.TRef sig ⟨S20000x4, .f32⟩) (.of main_v70 : StableHlo.TRef sig ⟨S20000x4, .f32⟩) (.of main_call3_v2 : StableHlo.TRef sig ⟨S20000x4, .f32⟩) maximumf,
    StableHlo.TRef.unary (.of main_cst_9 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S20000x4, .f32⟩) (broadcastInDim S20000x4 ![] bcast_S_S20000x4),
    StableHlo.TRef.binary (.of main_call3_v4 : StableHlo.TRef sig ⟨S20000x4, .f32⟩) (.of main_call3_v2 : StableHlo.TRef sig ⟨S20000x4, .f32⟩) (.of main_v71 : StableHlo.TRef sig ⟨S20000x4, .f32⟩) minimumf ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 4 host operations of @main, in order. -/
abbrev hostOps0_8 : List (HloOp τ sig (Elt F)) :=
  [ StableHlo.unary main_v11 main_v72 (broadcastInDim S1x20000 ![1] bcast_S20000_S1x20000_1 : (⟨S20000, .i1⟩ : BufTy).Contents (Elt F) → (⟨S1x20000, .i1⟩ : BufTy).Contents (Elt F)),
    StableHlo.unary main_v4 main_v73 ((extractStridedSlice S20000x7 ![0, 1] · slices_S20000x8_S20000x7_0_1) : (⟨S20000x8, .f32⟩ : BufTy).Contents (Elt F) → (⟨S20000x7, .f32⟩ : BufTy).Contents (Elt F)),
    StableHlo.unary main_v73 main_v74 ((transpose S7x20000 [1, 0] · transposes_S20000x7_S7x20000_1_0) : (⟨S20000x7, .f32⟩ : BufTy).Contents (Elt F) → (⟨S7x20000, .f32⟩ : BufTy).Contents (Elt F)),
    StableHlo.nullary main_cst_10 (constant S_ .f32 0x00000000#32) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub ..⟩
/-- 4 host operations of @_where (main_call4), in order. -/
abbrev hostOps0_9 : List (HloOp τ sig (Elt F)) :=
  [ StableHlo.TRef.unary (.of main_cst_10 : StableHlo.TRef sig ⟨S_, .f32⟩) (.of main_call4_v0 : StableHlo.TRef sig ⟨S_, .f32⟩) id,
    StableHlo.TRef.unary (.of main_v72 : StableHlo.TRef sig ⟨S1x20000, .i1⟩) (.of main_call4_v1 : StableHlo.TRef sig ⟨S7x20000, .i1⟩) (broadcastInDim S7x20000 ![0, 1] bcast_S1x20000_S7x20000_0_1),
    StableHlo.TRef.unary (.of main_call4_v0 : StableHlo.TRef sig ⟨S_, .f32⟩) (.of main_call4_v2 : StableHlo.TRef sig ⟨S7x20000, .f32⟩) (broadcastInDim S7x20000 ![] bcast_S_S7x20000),
    StableHlo.TRef.ternary (.of main_call4_v1 : StableHlo.TRef sig ⟨S7x20000, .i1⟩) (.of main_v74 : StableHlo.TRef sig ⟨S7x20000, .f32⟩) (.of main_call4_v2 : StableHlo.TRef sig ⟨S7x20000, .f32⟩) (.of main_v75 : StableHlo.TRef sig ⟨S7x20000, .f32⟩) select ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @main, in order. -/
abbrev hostOps0_10 : List (HloOp τ sig (Elt F)) :=
  [ StableHlo.nullary main_v76 (iotaInDim S7 32 0),
    StableHlo.nullary main_c_11 (constantI S_ 32 0#32),
    StableHlo.unary main_c_11 main_v77 (broadcastInDim S100x7 ![] bcast_S_S100x7 : (⟨S_, .i32⟩ : BufTy).Contents (Elt F) → (⟨S100x7, .i32⟩ : BufTy).Contents (Elt F)),
    StableHlo.nullary main_c_12 (constantI S_ 32 0#32),
    StableHlo.unary main_v71 main_v78_0 id,
    StableHlo.unary main_v76 main_v78_1 id,
    StableHlo.unary main_c_12 main_v78_2 id,
    StableHlo.unary main_v75 main_v78_3 id,
    StableHlo.unary main_v77 main_v78_4 id ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 57 host operations of @main, in order. -/
abbrev hostOps0_11 : List (HloOp τ sig (Elt F)) :=
  ( StableHlo.unary main_v78_4 main_v79 ((transpose S7x100 [1, 0] · transposes_S100x7_S7x100_1_0) : (⟨S100x7, .i32⟩ : BufTy).Contents (Elt F) → (⟨S7x100, .i32⟩ : BufTy).Contents (Elt F))
  :: StableHlo.reshape main_v79 main_v80 (rfl : (.i32 : EltTy) = .i32) shapeCasts_S7x100_S700
  :: StableHlo.nullary main_v81 (iotaInDim S7 32 0)
  :: StableHlo.nullary main_c_13 (constantI S_ 32 1#32)
  :: StableHlo.unary main_c_13 main_v82 (broadcastInDim S7 ![] bcast_S_S7 : (⟨S_, .i32⟩ : BufTy).Contents (Elt F) → (⟨S7, .i32⟩ : BufTy).Contents (Elt F))
  :: StableHlo.binary main_v82 main_v81 main_v83 (addi : (⟨S7, .i32⟩ : BufTy).Contents (Elt F) → (⟨S7, .i32⟩ : BufTy).Contents (Elt F) → (⟨S7, .i32⟩ : BufTy).Contents (Elt F))
  :: StableHlo.unary main_v83 main_v84 (broadcastInDim S7x100 ![0] bcast_S7_S7x100_0 : (⟨S7, .i32⟩ : BufTy).Contents (Elt F) → (⟨S7x100, .i32⟩ : BufTy).Contents (Elt F))
  :: StableHlo.reshape main_v84 main_v85 (rfl : (.i32 : EltTy) = .i32) shapeCasts_S7x100_S700
  :: StableHlo.nullary main_c_14 (constantI S_ 32 0#32)
  :: StableHlo.unary main_c_14 main_v86 (broadcastInDim S700 ![] bcast_S_S700 : (⟨S_, .i32⟩ : BufTy).Contents (Elt F) → (⟨S700, .i32⟩ : BufTy).Contents (Elt F))
  :: StableHlo.binary main_v80 main_v86 main_v87 (cmpi .slt : (⟨S700, .i32⟩ : BufTy).Contents (Elt F) → (⟨S700, .i32⟩ : BufTy).Contents (Elt F) → (⟨S700, .i1⟩ : BufTy).Contents (Elt F))
  :: StableHlo.nullary main_c_15 (constantI S_ 32 20000#32)
  :: StableHlo.unary main_c_15 main_v88 (broadcastInDim S700 ![] bcast_S_S700 : (⟨S_, .i32⟩ : BufTy).Contents (Elt F) → (⟨S700, .i32⟩ : BufTy).Contents (Elt F))
  :: StableHlo.binary main_v80 main_v88 main_v89 (addi : (⟨S700, .i32⟩ : BufTy).Contents (Elt F) → (⟨S700, .i32⟩ : BufTy).Contents (Elt F) → (⟨S700, .i32⟩ : BufTy).Contents (Elt F))
  :: StableHlo.ternary main_v87 main_v89 main_v80 main_v90 (select : (⟨S700, .i1⟩ : BufTy).Contents (Elt F) → (⟨S700, .i32⟩ : BufTy).Contents (Elt F) → (⟨S700, .i32⟩ : BufTy).Contents (Elt F) → (⟨S700, .i32⟩ : BufTy).Contents (Elt F))
  :: StableHlo.nullary main_c_16 (constantI S_ 32 0#32)
  :: StableHlo.unary main_c_16 main_v91 (broadcastInDim S700 ![] bcast_S_S700 : (⟨S_, .i32⟩ : BufTy).Contents (Elt F) → (⟨S700, .i32⟩ : BufTy).Contents (Elt F))
  :: StableHlo.binary main_v85 main_v91 main_v92 (cmpi .slt : (⟨S700, .i32⟩ : BufTy).Contents (Elt F) → (⟨S700, .i32⟩ : BufTy).Contents (Elt F) → (⟨S700, .i1⟩ : BufTy).Contents (Elt F))
  :: StableHlo.nullary main_c_17 (constantI S_ 32 8#32)
  :: StableHlo.unary main_c_17 main_v93 (broadcastInDim S700 ![] bcast_S_S700 : (⟨S_, .i32⟩ : BufTy).Contents (Elt F) → (⟨S700, .i32⟩ : BufTy).Contents (Elt F))
  :: StableHlo.binary main_v85 main_v93 main_v94 (addi : (⟨S700, .i32⟩ : BufTy).Contents (Elt F) → (⟨S700, .i32⟩ : BufTy).Contents (Elt F) → (⟨S700, .i32⟩ : BufTy).Contents (Elt F))
  :: StableHlo.ternary main_v92 main_v94 main_v85 main_v95 (select : (⟨S700, .i1⟩ : BufTy).Contents (Elt F) → (⟨S700, .i32⟩ : BufTy).Contents (Elt F) → (⟨S700, .i32⟩ : BufTy).Contents (Elt F) → (⟨S700, .i32⟩ : BufTy).Contents (Elt F))
  :: StableHlo.unary main_v90 main_v96 (broadcastInDim S700x1 ![0] bcast_S700_S700x1_0 : (⟨S700, .i32⟩ : BufTy).Contents (Elt F) → (⟨S700x1, .i32⟩ : BufTy).Contents (Elt F))
  :: StableHlo.unary main_v95 main_v97 (broadcastInDim S700x1 ![0] bcast_S700_S700x1_0 : (⟨S700, .i32⟩ : BufTy).Contents (Elt F) → (⟨S700x1, .i32⟩ : BufTy).Contents (Elt F))
  :: StableHlo.binary main_v96 main_v97 main_v98 ((fun a b => concatenate S700x2 1 [⟨S700x1, a⟩, ⟨S700x1, b⟩] concatenates_S700x1_S700x1_S700x2_d1) : (⟨S700x1, .i32⟩ : BufTy).Contents (Elt F) → (⟨S700x1, .i32⟩ : BufTy).Contents (Elt F) → (⟨S700x2, .i32⟩ : BufTy).Contents (Elt F))
  :: StableHlo.binary main_v4 main_v98 main_v99 ((fun x i => Host.gather gather_S20000x8_S700x2_S700_n_01_n_n_01_1_11 x i) : (⟨S20000x8, .f32⟩ : BufTy).Contents (Elt F) → (⟨S700x2, .i32⟩ : BufTy).Contents (Elt F) → (⟨S700, .f32⟩ : BufTy).Contents (Elt F))
  :: StableHlo.unary main_v99 main_values ((fun x => (Host.topK S100 0 (FloatOps.cmpfTotal .gt) x sliceFits_S700_S100).1) : (⟨S700, .f32⟩ : BufTy).Contents (Elt F) → (⟨S100, .f32⟩ : BufTy).Contents (Elt F))
  :: StableHlo.unary main_v99 main_indices ((fun x => (Host.topK S100 0 (FloatOps.cmpfTotal .gt) x sliceFits_S700_S100).2) : (⟨S700, .f32⟩ : BufTy).Contents (Elt F) → (⟨S100, .i32⟩ : BufTy).Contents (Elt F))
  :: StableHlo.nullary main_c_18 (constantI S_ 32 0#32)
  :: StableHlo.unary main_c_18 main_v100 (broadcastInDim S100 ![] bcast_S_S100 : (⟨S_, .i32⟩ : BufTy).Contents (Elt F) → (⟨S100, .i32⟩ : BufTy).Contents (Elt F))
  :: StableHlo.binary main_indices main_v100 main_v101 (cmpi .slt : (⟨S100, .i32⟩ : BufTy).Contents (Elt F) → (⟨S100, .i32⟩ : BufTy).Contents (Elt F) → (⟨S100, .i1⟩ : BufTy).Contents (Elt F))
  :: StableHlo.nullary main_c_19 (constantI S_ 32 700#32)
  :: StableHlo.unary main_c_19 main_v102 (broadcastInDim S100 ![] bcast_S_S100 : (⟨S_, .i32⟩ : BufTy).Contents (Elt F) → (⟨S100, .i32⟩ : BufTy).Contents (Elt F))
  :: StableHlo.binary main_indices main_v102 main_v103 (addi : (⟨S100, .i32⟩ : BufTy).Contents (Elt F) → (⟨S100, .i32⟩ : BufTy).Contents (Elt F) → (⟨S100, .i32⟩ : BufTy).Contents (Elt F))
  :: StableHlo.ternary main_v101 main_v103 main_indices main_v104 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v104 main_v105 (broadcastInDim S100x1 ![0] bcast_S100_S100x1_0 : (⟨S100, .i32⟩ : BufTy).Contents (Elt F) → (⟨S100x1, .i32⟩ : BufTy).Contents (Elt F))
  :: StableHlo.binary main_v80 main_v105 main_v106 ((fun x i => Host.gather gather_S700_S100x1_S100_n_0_n_n_0_1_1 x i) : (⟨S700, .i32⟩ : BufTy).Contents (Elt F) → (⟨S100x1, .i32⟩ : BufTy).Contents (Elt F) → (⟨S100, .i32⟩ : BufTy).Contents (Elt F))
  :: StableHlo.nullary main_c_20 (constantI S_ 32 0#32)
  :: StableHlo.unary main_c_20 main_v107 (broadcastInDim S100 ![] bcast_S_S100 : (⟨S_, .i32⟩ : BufTy).Contents (Elt F) → (⟨S100, .i32⟩ : BufTy).Contents (Elt F))
  :: StableHlo.binary main_v106 main_v107 main_v108 (cmpi .slt : (⟨S100, .i32⟩ : BufTy).Contents (Elt F) → (⟨S100, .i32⟩ : BufTy).Contents (Elt F) → (⟨S100, .i1⟩ : BufTy).Contents (Elt F))
  :: StableHlo.nullary main_c_21 (constantI S_ 32 20000#32)
  :: StableHlo.unary main_c_21 main_v109 (broadcastInDim S100 ![] bcast_S_S100 : (⟨S_, .i32⟩ : BufTy).Contents (Elt F) → (⟨S100, .i32⟩ : BufTy).Contents (Elt F))
  :: StableHlo.binary main_v106 main_v109 main_v110 (addi : (⟨S100, .i32⟩ : BufTy).Contents (Elt F) → (⟨S100, .i32⟩ : BufTy).Contents (Elt F) → (⟨S100, .i32⟩ : BufTy).Contents (Elt F))
  :: StableHlo.ternary main_v108 main_v110 main_v106 main_v111 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v111 main_v112 (broadcastInDim S100x1 ![0] bcast_S100_S100x1_0 : (⟨S100, .i32⟩ : BufTy).Contents (Elt F) → (⟨S100x1, .i32⟩ : BufTy).Contents (Elt F))
  :: StableHlo.binary main_v4 main_v112 main_v113 ((fun x i => Host.gather gather_S20000x8_S100x1_S100x8_1_0_n_n_0_1_18 x i) : (⟨S20000x8, .f32⟩ : BufTy).Contents (Elt F) → (⟨S100x1, .i32⟩ : BufTy).Contents (Elt F) → (⟨S100x8, .f32⟩ : BufTy).Contents (Elt F))
  :: StableHlo.nullary main_c_22 (constantI S_ 32 0#32)
  :: StableHlo.unary main_c_22 main_v114 (broadcastInDim S100 ![] bcast_S_S100 : (⟨S_, .i32⟩ : BufTy).Contents (Elt F) → (⟨S100, .i32⟩ : BufTy).Contents (Elt F))
  :: StableHlo.binary main_v106 main_v114 main_v115 (cmpi .slt : (⟨S100, .i32⟩ : BufTy).Contents (Elt F) → (⟨S100, .i32⟩ : BufTy).Contents (Elt F) → (⟨S100, .i1⟩ : BufTy).Contents (Elt F))
  :: StableHlo.nullary main_c_23 (constantI S_ 32 20000#32)
  :: StableHlo.unary main_c_23 main_v116 (broadcastInDim S100 ![] bcast_S_S100 : (⟨S_, .i32⟩ : BufTy).Contents (Elt F) → (⟨S100, .i32⟩ : BufTy).Contents (Elt F))
  :: StableHlo.binary main_v106 main_v116 main_v117 (addi : (⟨S100, .i32⟩ : BufTy).Contents (Elt F) → (⟨S100, .i32⟩ : BufTy).Contents (Elt F) → (⟨S100, .i32⟩ : BufTy).Contents (Elt F))
  :: StableHlo.ternary main_v115 main_v117 main_v106 main_v118 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v118 main_v119 (broadcastInDim S100x1 ![0] bcast_S100_S100x1_0 : (⟨S100, .i32⟩ : BufTy).Contents (Elt F) → (⟨S100x1, .i32⟩ : BufTy).Contents (Elt F))
  :: StableHlo.binary main_v71 main_v119 main_v120 ((fun x i => Host.gather gather_S20000x4_S100x1_S100x4_1_0_n_n_0_1_14 x i) : (⟨S20000x4, .f32⟩ : BufTy).Contents (Elt F) → (⟨S100x1, .i32⟩ : BufTy).Contents (Elt F) → (⟨S100x4, .f32⟩ : BufTy).Contents (Elt F))
  :: StableHlo.unary main_v113 main_v121 (broadcastInDim S1x100x8 ![1, 2] bcast_S100x8_S1x100x8_1_2 : (⟨S100x8, .f32⟩ : BufTy).Contents (Elt F) → (⟨S1x100x8, .f32⟩ : BufTy).Contents (Elt F))
  :: StableHlo.unary main_v120 main_v122 (broadcastInDim S1x100x4 ![1, 2] bcast_S100x4_S1x100x4_1_2 : (⟨S100x4, .f32⟩ : BufTy).Contents (Elt F) → (⟨S1x100x4, .f32⟩ : BufTy).Contents (Elt F))
  :: [] )
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub ..⟩
/-- 7 host operations of @main, window 0 (statements 1 … 60), in order. -/
abbrev main_part0_ops0 : List (HloOp τ sig (Elt F)) :=
  [ StableHlo.reshape main_arg0 main_v0 (rfl : (.f32 : EltTy) = .f32) shapeCasts_S1x20000x1_S20000x1,
    StableHlo.reshape main_arg1 main_v1 (rfl : (.f32 : EltTy) = .f32) shapeCasts_S1x20000x8_S20000x8,
    StableHlo.reshape main_arg2 main_v2 (rfl : (.f32 : EltTy) = .f32) shapeCasts_S1x20000x4_S20000x4,
    StableHlo.unary main_v0 main_v3 (broadcastInDim S20000x8 ![0, 1] bcast_S20000x1_S20000x8_0_1 : (⟨S20000x1, .f32⟩ : BufTy).Contents (Elt F) → (⟨S20000x8, .f32⟩ : BufTy).Contents (Elt F)),
    StableHlo.binary main_v3 main_v1 main_v4 (mulf : (⟨S20000x8, .f32⟩ : BufTy).Contents (Elt F) → (⟨S20000x8, .f32⟩ : BufTy).Contents (Elt F) → (⟨S20000x8, .f32⟩ : BufTy).Contents (Elt F)),
    StableHlo.nullary main_cst (constant S_ .f32 0xFF800000#32),
    StableHlo.binary main_v4 main_cst main_v5 ((fun x v => Host.reduce FloatOps.maximumf x v reducesTo_S20000x8_S20000_d1 h_S_) : (⟨S20000x8, .f32⟩ : BufTy).Contents (Elt F) → (⟨S_, .f32⟩ : BufTy).Contents (Elt F) → (⟨S20000, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.reshape_bufs_sub .., StableHlo.reshape_bufs_sub .., StableHlo.reshape_bufs_sub .., StableHlo.unary_bufs_sub .., StableHlo.binary_bufs_sub .., StableHlo.nullary_bufs_sub .., StableHlo.binary_bufs_sub ..⟩
/-- 5 host operations of @argmax (main_call0), window 0 (statements 1 … 60), in order. -/
abbrev main_part0_ops1 : List (HloOp τ sig (Elt F)) :=
  [ StableHlo.TRef.nullary (.of main_call0_v0 : StableHlo.TRef sig ⟨S20000x8, .i32⟩) (iotaInDim S20000x8 32 1),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v4 : StableHlo.TRef sig ⟨S20000x8, .f32⟩) (.of main_call0_v0 : StableHlo.TRef sig ⟨S20000x8, .i32⟩) (.of main_call0_cst : StableHlo.TRef sig ⟨S_, .f32⟩) (.of main_call0_c : StableHlo.TRef sig ⟨S_, .i32⟩) (.of main_call0_v1_0 : StableHlo.TRef sig ⟨S20000, .f32⟩) (fun x y u v j => (Host.argReduce reducer_argmax_f32_i32 x y u v reducesTo_S20000x8_S20000_d1 h_S_ j).1),
    StableHlo.TRef.quaternary (.of main_v4 : StableHlo.TRef sig ⟨S20000x8, .f32⟩) (.of main_call0_v0 : StableHlo.TRef sig ⟨S20000x8, .i32⟩) (.of main_call0_cst : StableHlo.TRef sig ⟨S_, .f32⟩) (.of main_call0_c : StableHlo.TRef sig ⟨S_, .i32⟩) (.of main_v6 : StableHlo.TRef sig ⟨S20000, .i32⟩) (fun x y u v j => (Host.argReduce reducer_argmax_f32_i32 x y u v reducesTo_S20000x8_S20000_d1 h_S_ j).2) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 41 host operations of @main, window 0 (statements 1 … 60), in order. -/
abbrev main_part0_ops2 : List (HloOp τ sig (Elt F)) :=
  ( StableHlo.nullary main_cst_0 (constant S_ .f32 0x3F333333#32)
  :: StableHlo.unary main_cst_0 main_v7 (broadcastInDim S20000 ![] bcast_S_S20000 : (⟨S_, .f32⟩ : BufTy).Contents (Elt F) → (⟨S20000, .f32⟩ : BufTy).Contents (Elt F))
  :: StableHlo.binary main_v5 main_v7 main_v8 (cmpf .oge : (⟨S20000, .f32⟩ : BufTy).Contents (Elt F) → (⟨S20000, .f32⟩ : BufTy).Contents (Elt F) → (⟨S20000, .i1⟩ : BufTy).Contents (Elt F))
  :: StableHlo.nullary main_c (constantI S_ 32 0#32)
  :: StableHlo.unary main_c main_v9 (broadcastInDim S20000 ![] bcast_S_S20000 : (⟨S_, .i32⟩ : BufTy).Contents (Elt F) → (⟨S20000, .i32⟩ : BufTy).Contents (Elt F))
  :: StableHlo.binary main_v6 main_v9 main_v10 (cmpi .sgt : (⟨S20000, .i32⟩ : BufTy).Contents (Elt F) → (⟨S20000, .i32⟩ : BufTy).Contents (Elt F) → (⟨S20000, .i1⟩ : BufTy).Contents (Elt F))
  :: StableHlo.binary main_v8 main_v10 main_v11 (andi : (⟨S20000, .i1⟩ : BufTy).Contents (Elt F) → (⟨S20000, .i1⟩ : BufTy).Contents (Elt F) → (⟨S20000, .i1⟩ : BufTy).Contents (Elt F))
  :: StableHlo.unary main_arg3 main_v12 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v12 main_v13 (rfl : (.f32 : EltTy) = .f32) shapeCasts_S20000x1_S20000
  :: StableHlo.unary main_arg3 main_v14 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v14 main_v15 (rfl : (.f32 : EltTy) = .f32) shapeCasts_S20000x1_S20000
  :: StableHlo.binary main_v13 main_v15 main_v16 (subf : (⟨S20000, .f32⟩ : BufTy).Contents (Elt F) → (⟨S20000, .f32⟩ : BufTy).Contents (Elt F) → (⟨S20000, .f32⟩ : BufTy).Contents (Elt F))
  :: StableHlo.unary main_arg3 main_v17 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v17 main_v18 (rfl : (.f32 : EltTy) = .f32) shapeCasts_S20000x1_S20000
  :: StableHlo.unary main_arg3 main_v19 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v19 main_v20 (rfl : (.f32 : EltTy) = .f32) shapeCasts_S20000x1_S20000
  :: StableHlo.binary main_v18 main_v20 main_v21 (subf : (⟨S20000, .f32⟩ : BufTy).Contents (Elt F) → (⟨S20000, .f32⟩ : BufTy).Contents (Elt F) → (⟨S20000, .f32⟩ : BufTy).Contents (Elt F))
  :: StableHlo.unary main_arg3 main_v22 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v22 main_v23 (rfl : (.f32 : EltTy) = .f32) shapeCasts_S20000x1_S20000
  :: StableHlo.nullary main_cst_1 (constant S_ .f32 0x3F000000#32)
  :: StableHlo.unary main_cst_1 main_v24 (broadcastInDim S20000 ![] bcast_S_S20000 : (⟨S_, .f32⟩ : BufTy).Contents (Elt F) → (⟨S20000, .f32⟩ : BufTy).Contents (Elt F))
  :: StableHlo.binary main_v24 main_v16 main_v25 (mulf : (⟨S20000, .f32⟩ : BufTy).Contents (Elt F) → (⟨S20000, .f32⟩ : BufTy).Contents (Elt F) → (⟨S20000, .f32⟩ : BufTy).Contents (Elt F))
  :: StableHlo.binary main_v23 main_v25 main_v26 (addf : (⟨S20000, .f32⟩ : BufTy).Contents (Elt F) → (⟨S20000, .f32⟩ : BufTy).Contents (Elt F) → (⟨S20000, .f32⟩ : BufTy).Contents (Elt F))
  :: StableHlo.unary main_arg3 main_v27 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v27 main_v28 (rfl : (.f32 : EltTy) = .f32) shapeCasts_S20000x1_S20000
  :: StableHlo.nullary main_cst_2 (constant S_ .f32 0x3F000000#32)
  :: StableHlo.unary main_cst_2 main_v29 (broadcastInDim S20000 ![] bcast_S_S20000 : (⟨S_, .f32⟩ : BufTy).Contents (Elt F) → (⟨S20000, .f32⟩ : BufTy).Contents (Elt F))
  :: StableHlo.binary main_v29 main_v21 main_v30 (mulf : (⟨S20000, .f32⟩ : BufTy).Contents (Elt F) → (⟨S20000, .f32⟩ : BufTy).Contents (Elt F) → (⟨S20000, .f32⟩ : BufTy).Contents (Elt F))
  :: StableHlo.binary main_v28 main_v30 main_v31 (addf : (⟨S20000, .f32⟩ : BufTy).Contents (Elt F) → (⟨S20000, .f32⟩ : BufTy).Contents (Elt F) → (⟨S20000, .f32⟩ : BufTy).Contents (Elt F))
  :: StableHlo.unary main_v2 main_v32 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_v32 main_v33 (rfl : (.f32 : EltTy) = .f32) shapeCasts_S20000x1_S20000
  :: StableHlo.unary main_v2 main_v34 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_v34 main_v35 (rfl : (.f32 : EltTy) = .f32) shapeCasts_S20000x1_S20000
  :: StableHlo.unary main_v2 main_v36 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_v36 main_v37 (rfl : (.f32 : EltTy) = .f32) shapeCasts_S20000x1_S20000
  :: StableHlo.unary main_v2 main_v38 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_v38 main_v39 (rfl : (.f32 : EltTy) = .f32) shapeCasts_S20000x1_S20000
  :: StableHlo.nullary main_cst_3 (constant S_ .f32 0x3C83126F#32)
  :: StableHlo.unary main_cst_3 main_v40 (Host.log : (⟨S_, .f32⟩ : BufTy).Contents (Elt F) → (⟨S_, .f32⟩ : BufTy).Contents (Elt F))
  :: StableHlo.unary main_v40 main_v41 (Host.absf : (⟨S_, .f32⟩ : BufTy).Contents (Elt F) → (⟨S_, .f32⟩ : BufTy).Contents (Elt F))
  :: StableHlo.unary main_v41 main_v42 (Host.negf : (⟨S_, .f32⟩ : BufTy).Contents (Elt F) → (⟨S_, .f32⟩ : BufTy).Contents (Elt F))
  :: [] )
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.unary_bufs_sub ..⟩
/-- 4 host operations of @clip (main_call1), window 0 (statements 1 … 60), in order. -/
abbrev main_part0_ops3 : List (HloOp τ sig (Elt F)) :=
  [ StableHlo.TRef.unary (.of main_v42 : StableHlo.TRef sig ⟨S_, .f32⟩) (.of main_call1_v0 : StableHlo.TRef sig ⟨S20000, .f32⟩) (broadcastInDim S20000 ![] bcast_S_S20000),
    StableHlo.TRef.binary (.of main_call1_v0 : StableHlo.TRef sig ⟨S20000, .f32⟩) (.of main_v37 : StableHlo.TRef sig ⟨S20000, .f32⟩) (.of main_call1_v1 : StableHlo.TRef sig ⟨S20000, .f32⟩) maximumf,
    StableHlo.TRef.unary (.of main_v41 : StableHlo.TRef sig ⟨S_, .f32⟩) (.of main_call1_v2 : StableHlo.TRef sig ⟨S20000, .f32⟩) (broadcastInDim S20000 ![] bcast_S_S20000),
    StableHlo.TRef.binary (.of main_call1_v2 : StableHlo.TRef sig ⟨S20000, .f32⟩) (.of main_call1_v1 : StableHlo.TRef sig ⟨S20000, .f32⟩) (.of main_v43 : StableHlo.TRef sig ⟨S20000, .f32⟩) minimumf ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
/-- 1 host operation of @main, window 0 (statements 1 … 60), in order. -/
abbrev main_part0_ops4 : List (HloOp τ sig (Elt F)) :=
  [ StableHlo.unary main_v41 main_v44 (Host.negf : (⟨S_, .f32⟩ : BufTy).Contents (Elt F) → (⟨S_, .f32⟩ : BufTy).Contents (Elt F)) ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  StableHlo.unary_bufs_sub ..
/-- 4 host operations of @clip (main_call2), window 0 (statements 1 … 60), in order. -/
abbrev main_part0_ops5 : List (HloOp τ sig (Elt F)) :=
  [ StableHlo.TRef.unary (.of main_v44 : StableHlo.TRef sig ⟨S_, .f32⟩) (.of main_call2_v0 : StableHlo.TRef sig ⟨S20000, .f32⟩) (broadcastInDim S20000 ![] bcast_S_S20000),
    StableHlo.TRef.binary (.of main_call2_v0 : StableHlo.TRef sig ⟨S20000, .f32⟩) (.of main_v39 : StableHlo.TRef sig ⟨S20000, .f32⟩) (.of main_call2_v1 : StableHlo.TRef sig ⟨S20000, .f32⟩) maximumf,
    StableHlo.TRef.unary (.of main_v41 : StableHlo.TRef sig ⟨S_, .f32⟩) (.of main_call2_v2 : StableHlo.TRef sig ⟨S20000, .f32⟩) (broadcastInDim S20000 ![] bcast_S_S20000),
    StableHlo.TRef.binary (.of main_call2_v2 : StableHlo.TRef sig ⟨S20000, .f32⟩) (.of main_call2_v1 : StableHlo.TRef sig ⟨S20000, .f32⟩) (.of main_v45 : StableHlo.TRef sig ⟨S20000, .f32⟩) minimumf ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
/-- 8 host operations of @main, window 0 (statements 1 … 60), in order. -/
abbrev main_part0_ops6 : List (HloOp τ sig (Elt F)) :=
  [ StableHlo.binary main_v33 main_v16 main_v46 (mulf : (⟨S20000, .f32⟩ : BufTy).Contents (Elt F) → (⟨S20000, .f32⟩ : BufTy).Contents (Elt F) → (⟨S20000, .f32⟩ : BufTy).Contents (Elt F)),
    StableHlo.binary main_v26 main_v46 main_v47 (addf : (⟨S20000, .f32⟩ : BufTy).Contents (Elt F) → (⟨S20000, .f32⟩ : BufTy).Contents (Elt F) → (⟨S20000, .f32⟩ : BufTy).Contents (Elt F)),
    StableHlo.binary main_v35 main_v21 main_v48 (mulf : (⟨S20000, .f32⟩ : BufTy).Contents (Elt F) → (⟨S20000, .f32⟩ : BufTy).Contents (Elt F) → (⟨S20000, .f32⟩ : BufTy).Contents (Elt F)),
    StableHlo.binary main_v31 main_v48 main_v49 (addf : (⟨S20000, .f32⟩ : BufTy).Contents (Elt F) → (⟨S20000, .f32⟩ : BufTy).Contents (Elt F) → (⟨S20000, .f32⟩ : BufTy).Contents (Elt F)),
    StableHlo.unary main_v43 main_v50 (Host.exp : (⟨S20000, .f32⟩ : BufTy).Contents (Elt F) → (⟨S20000, .f32⟩ : BufTy).Contents (Elt F)),
    StableHlo.binary main_v16 main_v50 main_v51 (mulf : (⟨S20000, .f32⟩ : BufTy).Contents (Elt F) → (⟨S20000, .f32⟩ : BufTy).Contents (Elt F) → (⟨S20000, .f32⟩ : BufTy).Contents (Elt F)),
    StableHlo.unary main_v45 main_v52 (Host.exp : (⟨S20000, .f32⟩ : BufTy).Contents (Elt F) → (⟨S20000, .f32⟩ : BufTy).Contents (Elt F)),
    StableHlo.binary main_v21 main_v52 main_v53 (mulf : (⟨S20000, .f32⟩ : BufTy).Contents (Elt F) → (⟨S20000, .f32⟩ : BufTy).Contents (Elt F) → (⟨S20000, .f32⟩ : BufTy).Contents (Elt F)) ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5 ]
  (StableHlo.seq main_part0_ops6) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 23 host operations of @main, window 1 (statements 61 … 120), in order. -/
abbrev main_part1_ops0 : List (HloOp τ sig (Elt F)) :=
  [ StableHlo.nullary main_cst_4 (constant S_ .f32 0x3F000000#32),
    StableHlo.unary main_cst_4 main_v54 (broadcastInDim S20000 ![] bcast_S_S20000 : (⟨S_, .f32⟩ : BufTy).Contents (Elt F) → (⟨S20000, .f32⟩ : BufTy).Contents (Elt F)),
    StableHlo.binary main_v54 main_v51 main_v55 (mulf : (⟨S20000, .f32⟩ : BufTy).Contents (Elt F) → (⟨S20000, .f32⟩ : BufTy).Contents (Elt F) → (⟨S20000, .f32⟩ : BufTy).Contents (Elt F)),
    StableHlo.binary main_v47 main_v55 main_v56 (subf : (⟨S20000, .f32⟩ : BufTy).Contents (Elt F) → (⟨S20000, .f32⟩ : BufTy).Contents (Elt F) → (⟨S20000, .f32⟩ : BufTy).Contents (Elt F)),
    StableHlo.nullary main_cst_5 (constant S_ .f32 0x3F000000#32),
    StableHlo.unary main_cst_5 main_v57 (broadcastInDim S20000 ![] bcast_S_S20000 : (⟨S_, .f32⟩ : BufTy).Contents (Elt F) → (⟨S20000, .f32⟩ : BufTy).Contents (Elt F)),
    StableHlo.binary main_v57 main_v53 main_v58 (mulf : (⟨S20000, .f32⟩ : BufTy).Contents (Elt F) → (⟨S20000, .f32⟩ : BufTy).Contents (Elt F) → (⟨S20000, .f32⟩ : BufTy).Contents (Elt F)),
    StableHlo.binary main_v49 main_v58 main_v59 (subf : (⟨S20000, .f32⟩ : BufTy).Contents (Elt F) → (⟨S20000, .f32⟩ : BufTy).Contents (Elt F) → (⟨S20000, .f32⟩ : BufTy).Contents (Elt F)),
    StableHlo.nullary main_cst_6 (constant S_ .f32 0x3F000000#32),
    StableHlo.unary main_cst_6 main_v60 (broadcastInDim S20000 ![] bcast_S_S20000 : (⟨S_, .f32⟩ : BufTy).Contents (Elt F) → (⟨S20000, .f32⟩ : BufTy).Contents (Elt F)),
    StableHlo.binary main_v60 main_v51 main_v61 (mulf : (⟨S20000, .f32⟩ : BufTy).Contents (Elt F) → (⟨S20000, .f32⟩ : BufTy).Contents (Elt F) → (⟨S20000, .f32⟩ : BufTy).Contents (Elt F)),
    StableHlo.binary main_v47 main_v61 main_v62 (addf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x3F000000#32),
    StableHlo.unary main_cst_7 main_v63 (broadcastInDim S20000 ![] bcast_S_S20000 : (⟨S_, .f32⟩ : BufTy).Contents (Elt F) → (⟨S20000, .f32⟩ : BufTy).Contents (Elt F)),
    StableHlo.binary main_v63 main_v53 main_v64 (mulf : (⟨S20000, .f32⟩ : BufTy).Contents (Elt F) → (⟨S20000, .f32⟩ : BufTy).Contents (Elt F) → (⟨S20000, .f32⟩ : BufTy).Contents (Elt F)),
    StableHlo.binary main_v49 main_v64 main_v65 (addf : (⟨S20000, .f32⟩ : BufTy).Contents (Elt F) → (⟨S20000, .f32⟩ : BufTy).Contents (Elt F) → (⟨S20000, .f32⟩ : BufTy).Contents (Elt F)),
    StableHlo.unary main_v56 main_v66 (broadcastInDim S20000x1 ![0] bcast_S20000_S20000x1_0 : (⟨S20000, .f32⟩ : BufTy).Contents (Elt F) → (⟨S20000x1, .f32⟩ : BufTy).Contents (Elt F)),
    StableHlo.unary main_v59 main_v67 (broadcastInDim S20000x1 ![0] bcast_S20000_S20000x1_0 : (⟨S20000, .f32⟩ : BufTy).Contents (Elt F) → (⟨S20000x1, .f32⟩ : BufTy).Contents (Elt F)),
    StableHlo.unary main_v62 main_v68 (broadcastInDim S20000x1 ![0] bcast_S20000_S20000x1_0 : (⟨S20000, .f32⟩ : BufTy).Contents (Elt F) → (⟨S20000x1, .f32⟩ : BufTy).Contents (Elt F)),
    StableHlo.unary main_v65 main_v69 (broadcastInDim S20000x1 ![0] bcast_S20000_S20000x1_0 : (⟨S20000, .f32⟩ : BufTy).Contents (Elt F) → (⟨S20000x1, .f32⟩ : BufTy).Contents (Elt F)),
    StableHlo.nary ![main_v66, main_v67, main_v68, main_v69] main_v70 (fun u => (concatenate S20000x4 1 [⟨S20000x1, (u 0 : (⟨S20000x1, .f32⟩ : BufTy).Contents (Elt F))⟩, ⟨S20000x1, (u 1 : (⟨S20000x1, .f32⟩ : BufTy).Contents (Elt F))⟩, ⟨S20000x1, (u 2 : (⟨S20000x1, .f32⟩ : BufTy).Contents (Elt F))⟩, ⟨S20000x1, (u 3 : (⟨S20000x1, .f32⟩ : BufTy).Contents (Elt F))⟩] concatenates_S20000x1_S20000x1_S20000x1_S20000x1_S20000x4_d1 : (⟨S20000x4, .f32⟩ : BufTy).Contents (Elt F))),
    StableHlo.nullary main_cst_8 (constant S_ .f32 0x00000000#32),
    StableHlo.nullary main_cst_9 (constant S_ .f32 0x3F800000#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub ..⟩
/-- 6 host operations of @clip_0 (main_call3), window 1 (statements 61 … 120), in order. -/
abbrev main_part1_ops1 : List (HloOp τ sig (Elt F)) :=
  [ StableHlo.TRef.unary (.of main_cst_8 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S20000x4, .f32⟩) (broadcastInDim S20000x4 ![] bcast_S_S20000x4),
    StableHlo.TRef.binary (.of main_call3_v1 : StableHlo.TRef sig ⟨S20000x4, .f32⟩) (.of main_v70 : StableHlo.TRef sig ⟨S20000x4, .f32⟩) (.of main_call3_v2 : StableHlo.TRef sig ⟨S20000x4, .f32⟩) maximumf,
    StableHlo.TRef.unary (.of main_cst_9 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S20000x4, .f32⟩) (broadcastInDim S20000x4 ![] bcast_S_S20000x4),
    StableHlo.TRef.binary (.of main_call3_v4 : StableHlo.TRef sig ⟨S20000x4, .f32⟩) (.of main_call3_v2 : StableHlo.TRef sig ⟨S20000x4, .f32⟩) (.of main_v71 : StableHlo.TRef sig ⟨S20000x4, .f32⟩) minimumf ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 4 host operations of @main, window 1 (statements 61 … 120), in order. -/
abbrev main_part1_ops2 : List (HloOp τ sig (Elt F)) :=
  [ StableHlo.unary main_v11 main_v72 (broadcastInDim S1x20000 ![1] bcast_S20000_S1x20000_1 : (⟨S20000, .i1⟩ : BufTy).Contents (Elt F) → (⟨S1x20000, .i1⟩ : BufTy).Contents (Elt F)),
    StableHlo.unary main_v4 main_v73 ((extractStridedSlice S20000x7 ![0, 1] · slices_S20000x8_S20000x7_0_1) : (⟨S20000x8, .f32⟩ : BufTy).Contents (Elt F) → (⟨S20000x7, .f32⟩ : BufTy).Contents (Elt F)),
    StableHlo.unary main_v73 main_v74 ((transpose S7x20000 [1, 0] · transposes_S20000x7_S7x20000_1_0) : (⟨S20000x7, .f32⟩ : BufTy).Contents (Elt F) → (⟨S7x20000, .f32⟩ : BufTy).Contents (Elt F)),
    StableHlo.nullary main_cst_10 (constant S_ .f32 0x00000000#32) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub ..⟩
/-- 4 host operations of @_where (main_call4), window 1 (statements 61 … 120), in order. -/
abbrev main_part1_ops3 : List (HloOp τ sig (Elt F)) :=
  [ StableHlo.TRef.unary (.of main_cst_10 : StableHlo.TRef sig ⟨S_, .f32⟩) (.of main_call4_v0 : StableHlo.TRef sig ⟨S_, .f32⟩) id,
    StableHlo.TRef.unary (.of main_v72 : StableHlo.TRef sig ⟨S1x20000, .i1⟩) (.of main_call4_v1 : StableHlo.TRef sig ⟨S7x20000, .i1⟩) (broadcastInDim S7x20000 ![0, 1] bcast_S1x20000_S7x20000_0_1),
    StableHlo.TRef.unary (.of main_call4_v0 : StableHlo.TRef sig ⟨S_, .f32⟩) (.of main_call4_v2 : StableHlo.TRef sig ⟨S7x20000, .f32⟩) (broadcastInDim S7x20000 ![] bcast_S_S7x20000),
    StableHlo.TRef.ternary (.of main_call4_v1 : StableHlo.TRef sig ⟨S7x20000, .i1⟩) (.of main_v74 : StableHlo.TRef sig ⟨S7x20000, .f32⟩) (.of main_call4_v2 : StableHlo.TRef sig ⟨S7x20000, .f32⟩) (.of main_v75 : StableHlo.TRef sig ⟨S7x20000, .f32⟩) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @main, window 1 (statements 61 … 120), in order. -/
abbrev main_part1_ops4 : List (HloOp τ sig (Elt F)) :=
  [ StableHlo.nullary main_v76 (iotaInDim S7 32 0),
    StableHlo.nullary main_c_11 (constantI S_ 32 0#32),
    StableHlo.unary main_c_11 main_v77 (broadcastInDim S100x7 ![] bcast_S_S100x7 : (⟨S_, .i32⟩ : BufTy).Contents (Elt F) → (⟨S100x7, .i32⟩ : BufTy).Contents (Elt F)),
    StableHlo.nullary main_c_12 (constantI S_ 32 0#32),
    StableHlo.unary main_v71 main_v78_0 id,
    StableHlo.unary main_v76 main_v78_1 id,
    StableHlo.unary main_c_12 main_v78_2 id,
    StableHlo.unary main_v75 main_v78_3 id,
    StableHlo.unary main_v77 main_v78_4 id ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 21 host operations of @main, window 1 (statements 61 … 120), in order. -/
abbrev main_part1_ops5 : List (HloOp τ sig (Elt F)) :=
  [ StableHlo.unary main_v78_4 main_v79 ((transpose S7x100 [1, 0] · transposes_S100x7_S7x100_1_0) : (⟨S100x7, .i32⟩ : BufTy).Contents (Elt F) → (⟨S7x100, .i32⟩ : BufTy).Contents (Elt F)),
    StableHlo.reshape main_v79 main_v80 (rfl : (.i32 : EltTy) = .i32) shapeCasts_S7x100_S700,
    StableHlo.nullary main_v81 (iotaInDim S7 32 0),
    StableHlo.nullary main_c_13 (constantI S_ 32 1#32),
    StableHlo.unary main_c_13 main_v82 (broadcastInDim S7 ![] bcast_S_S7 : (⟨S_, .i32⟩ : BufTy).Contents (Elt F) → (⟨S7, .i32⟩ : BufTy).Contents (Elt F)),
    StableHlo.binary main_v82 main_v81 main_v83 (addi : (⟨S7, .i32⟩ : BufTy).Contents (Elt F) → (⟨S7, .i32⟩ : BufTy).Contents (Elt F) → (⟨S7, .i32⟩ : BufTy).Contents (Elt F)),
    StableHlo.unary main_v83 main_v84 (broadcastInDim S7x100 ![0] bcast_S7_S7x100_0 : (⟨S7, .i32⟩ : BufTy).Contents (Elt F) → (⟨S7x100, .i32⟩ : BufTy).Contents (Elt F)),
    StableHlo.reshape main_v84 main_v85 (rfl : (.i32 : EltTy) = .i32) shapeCasts_S7x100_S700,
    StableHlo.nullary main_c_14 (constantI S_ 32 0#32),
    StableHlo.unary main_c_14 main_v86 (broadcastInDim S700 ![] bcast_S_S700 : (⟨S_, .i32⟩ : BufTy).Contents (Elt F) → (⟨S700, .i32⟩ : BufTy).Contents (Elt F)),
    StableHlo.binary main_v80 main_v86 main_v87 (cmpi .slt : (⟨S700, .i32⟩ : BufTy).Contents (Elt F) → (⟨S700, .i32⟩ : BufTy).Contents (Elt F) → (⟨S700, .i1⟩ : BufTy).Contents (Elt F)),
    StableHlo.nullary main_c_15 (constantI S_ 32 20000#32),
    StableHlo.unary main_c_15 main_v88 (broadcastInDim S700 ![] bcast_S_S700 : (⟨S_, .i32⟩ : BufTy).Contents (Elt F) → (⟨S700, .i32⟩ : BufTy).Contents (Elt F)),
    StableHlo.binary main_v80 main_v88 main_v89 (addi : (⟨S700, .i32⟩ : BufTy).Contents (Elt F) → (⟨S700, .i32⟩ : BufTy).Contents (Elt F) → (⟨S700, .i32⟩ : BufTy).Contents (Elt F)),
    StableHlo.ternary main_v87 main_v89 main_v80 main_v90 (select : (⟨S700, .i1⟩ : BufTy).Contents (Elt F) → (⟨S700, .i32⟩ : BufTy).Contents (Elt F) → (⟨S700, .i32⟩ : BufTy).Contents (Elt F) → (⟨S700, .i32⟩ : BufTy).Contents (Elt F)),
    StableHlo.nullary main_c_16 (constantI S_ 32 0#32),
    StableHlo.unary main_c_16 main_v91 (broadcastInDim S700 ![] bcast_S_S700 : (⟨S_, .i32⟩ : BufTy).Contents (Elt F) → (⟨S700, .i32⟩ : BufTy).Contents (Elt F)),
    StableHlo.binary main_v85 main_v91 main_v92 (cmpi .slt : (⟨S700, .i32⟩ : BufTy).Contents (Elt F) → (⟨S700, .i32⟩ : BufTy).Contents (Elt F) → (⟨S700, .i1⟩ : BufTy).Contents (Elt F)),
    StableHlo.nullary main_c_17 (constantI S_ 32 8#32),
    StableHlo.unary main_c_17 main_v93 (broadcastInDim S700 ![] bcast_S_S700 : (⟨S_, .i32⟩ : BufTy).Contents (Elt F) → (⟨S700, .i32⟩ : BufTy).Contents (Elt F)),
    StableHlo.binary main_v85 main_v93 main_v94 (addi : (⟨S700, .i32⟩ : BufTy).Contents (Elt F) → (⟨S700, .i32⟩ : BufTy).Contents (Elt F) → (⟨S700, .i32⟩ : BufTy).Contents (Elt F)) ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    HostLoop.enter 0 ]
  (StableHlo.seq main_part1_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 36 host operations of @main, window 2 (statements 121 … 157), in order. -/
abbrev main_part2_ops0 : List (HloOp τ sig (Elt F)) :=
  ( StableHlo.ternary main_v92 main_v94 main_v85 main_v95 (select : (⟨S700, .i1⟩ : BufTy).Contents (Elt F) → (⟨S700, .i32⟩ : BufTy).Contents (Elt F) → (⟨S700, .i32⟩ : BufTy).Contents (Elt F) → (⟨S700, .i32⟩ : BufTy).Contents (Elt F))
  :: StableHlo.unary main_v90 main_v96 (broadcastInDim S700x1 ![0] bcast_S700_S700x1_0 : (⟨S700, .i32⟩ : BufTy).Contents (Elt F) → (⟨S700x1, .i32⟩ : BufTy).Contents (Elt F))
  :: StableHlo.unary main_v95 main_v97 (broadcastInDim S700x1 ![0] bcast_S700_S700x1_0 : (⟨S700, .i32⟩ : BufTy).Contents (Elt F) → (⟨S700x1, .i32⟩ : BufTy).Contents (Elt F))
  :: StableHlo.binary main_v96 main_v97 main_v98 ((fun a b => concatenate S700x2 1 [⟨S700x1, a⟩, ⟨S700x1, b⟩] concatenates_S700x1_S700x1_S700x2_d1) : (⟨S700x1, .i32⟩ : BufTy).Contents (Elt F) → (⟨S700x1, .i32⟩ : BufTy).Contents (Elt F) → (⟨S700x2, .i32⟩ : BufTy).Contents (Elt F))
  :: StableHlo.binary main_v4 main_v98 main_v99 ((fun x i => Host.gather gather_S20000x8_S700x2_S700_n_01_n_n_01_1_11 x i) : (⟨S20000x8, .f32⟩ : BufTy).Contents (Elt F) → (⟨S700x2, .i32⟩ : BufTy).Contents (Elt F) → (⟨S700, .f32⟩ : BufTy).Contents (Elt F))
  :: StableHlo.unary main_v99 main_values ((fun x => (Host.topK S100 0 (FloatOps.cmpfTotal .gt) x sliceFits_S700_S100).1) : (⟨S700, .f32⟩ : BufTy).Contents (Elt F) → (⟨S100, .f32⟩ : BufTy).Contents (Elt F))
  :: StableHlo.unary main_v99 main_indices ((fun x => (Host.topK S100 0 (FloatOps.cmpfTotal .gt) x sliceFits_S700_S100).2) : (⟨S700, .f32⟩ : BufTy).Contents (Elt F) → (⟨S100, .i32⟩ : BufTy).Contents (Elt F))
  :: StableHlo.nullary main_c_18 (constantI S_ 32 0#32)
  :: StableHlo.unary main_c_18 main_v100 (broadcastInDim S100 ![] bcast_S_S100 : (⟨S_, .i32⟩ : BufTy).Contents (Elt F) → (⟨S100, .i32⟩ : BufTy).Contents (Elt F))
  :: StableHlo.binary main_indices main_v100 main_v101 (cmpi .slt : (⟨S100, .i32⟩ : BufTy).Contents (Elt F) → (⟨S100, .i32⟩ : BufTy).Contents (Elt F) → (⟨S100, .i1⟩ : BufTy).Contents (Elt F))
  :: StableHlo.nullary main_c_19 (constantI S_ 32 700#32)
  :: StableHlo.unary main_c_19 main_v102 (broadcastInDim S100 ![] bcast_S_S100 : (⟨S_, .i32⟩ : BufTy).Contents (Elt F) → (⟨S100, .i32⟩ : BufTy).Contents (Elt F))
  :: StableHlo.binary main_indices main_v102 main_v103 (addi : (⟨S100, .i32⟩ : BufTy).Contents (Elt F) → (⟨S100, .i32⟩ : BufTy).Contents (Elt F) → (⟨S100, .i32⟩ : BufTy).Contents (Elt F))
  :: StableHlo.ternary main_v101 main_v103 main_indices main_v104 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v104 main_v105 (broadcastInDim S100x1 ![0] bcast_S100_S100x1_0 : (⟨S100, .i32⟩ : BufTy).Contents (Elt F) → (⟨S100x1, .i32⟩ : BufTy).Contents (Elt F))
  :: StableHlo.binary main_v80 main_v105 main_v106 ((fun x i => Host.gather gather_S700_S100x1_S100_n_0_n_n_0_1_1 x i) : (⟨S700, .i32⟩ : BufTy).Contents (Elt F) → (⟨S100x1, .i32⟩ : BufTy).Contents (Elt F) → (⟨S100, .i32⟩ : BufTy).Contents (Elt F))
  :: StableHlo.nullary main_c_20 (constantI S_ 32 0#32)
  :: StableHlo.unary main_c_20 main_v107 (broadcastInDim S100 ![] bcast_S_S100 : (⟨S_, .i32⟩ : BufTy).Contents (Elt F) → (⟨S100, .i32⟩ : BufTy).Contents (Elt F))
  :: StableHlo.binary main_v106 main_v107 main_v108 (cmpi .slt : (⟨S100, .i32⟩ : BufTy).Contents (Elt F) → (⟨S100, .i32⟩ : BufTy).Contents (Elt F) → (⟨S100, .i1⟩ : BufTy).Contents (Elt F))
  :: StableHlo.nullary main_c_21 (constantI S_ 32 20000#32)
  :: StableHlo.unary main_c_21 main_v109 (broadcastInDim S100 ![] bcast_S_S100 : (⟨S_, .i32⟩ : BufTy).Contents (Elt F) → (⟨S100, .i32⟩ : BufTy).Contents (Elt F))
  :: StableHlo.binary main_v106 main_v109 main_v110 (addi : (⟨S100, .i32⟩ : BufTy).Contents (Elt F) → (⟨S100, .i32⟩ : BufTy).Contents (Elt F) → (⟨S100, .i32⟩ : BufTy).Contents (Elt F))
  :: StableHlo.ternary main_v108 main_v110 main_v106 main_v111 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v111 main_v112 (broadcastInDim S100x1 ![0] bcast_S100_S100x1_0 : (⟨S100, .i32⟩ : BufTy).Contents (Elt F) → (⟨S100x1, .i32⟩ : BufTy).Contents (Elt F))
  :: StableHlo.binary main_v4 main_v112 main_v113 ((fun x i => Host.gather gather_S20000x8_S100x1_S100x8_1_0_n_n_0_1_18 x i) : (⟨S20000x8, .f32⟩ : BufTy).Contents (Elt F) → (⟨S100x1, .i32⟩ : BufTy).Contents (Elt F) → (⟨S100x8, .f32⟩ : BufTy).Contents (Elt F))
  :: StableHlo.nullary main_c_22 (constantI S_ 32 0#32)
  :: StableHlo.unary main_c_22 main_v114 (broadcastInDim S100 ![] bcast_S_S100 : (⟨S_, .i32⟩ : BufTy).Contents (Elt F) → (⟨S100, .i32⟩ : BufTy).Contents (Elt F))
  :: StableHlo.binary main_v106 main_v114 main_v115 (cmpi .slt : (⟨S100, .i32⟩ : BufTy).Contents (Elt F) → (⟨S100, .i32⟩ : BufTy).Contents (Elt F) → (⟨S100, .i1⟩ : BufTy).Contents (Elt F))
  :: StableHlo.nullary main_c_23 (constantI S_ 32 20000#32)
  :: StableHlo.unary main_c_23 main_v116 (broadcastInDim S100 ![] bcast_S_S100 : (⟨S_, .i32⟩ : BufTy).Contents (Elt F) → (⟨S100, .i32⟩ : BufTy).Contents (Elt F))
  :: StableHlo.binary main_v106 main_v116 main_v117 (addi : (⟨S100, .i32⟩ : BufTy).Contents (Elt F) → (⟨S100, .i32⟩ : BufTy).Contents (Elt F) → (⟨S100, .i32⟩ : BufTy).Contents (Elt F))
  :: StableHlo.ternary main_v115 main_v117 main_v106 main_v118 (select : (⟨S100, .i1⟩ : BufTy).Contents (Elt F) → (⟨S100, .i32⟩ : BufTy).Contents (Elt F) → (⟨S100, .i32⟩ : BufTy).Contents (Elt F) → (⟨S100, .i32⟩ : BufTy).Contents (Elt F))
  :: StableHlo.unary main_v118 main_v119 (broadcastInDim S100x1 ![0] bcast_S100_S100x1_0 : (⟨S100, .i32⟩ : BufTy).Contents (Elt F) → (⟨S100x1, .i32⟩ : BufTy).Contents (Elt F))
  :: StableHlo.binary main_v71 main_v119 main_v120 ((fun x i => Host.gather gather_S20000x4_S100x1_S100x4_1_0_n_n_0_1_14 x i) : (⟨S20000x4, .f32⟩ : BufTy).Contents (Elt F) → (⟨S100x1, .i32⟩ : BufTy).Contents (Elt F) → (⟨S100x4, .f32⟩ : BufTy).Contents (Elt F))
  :: StableHlo.unary main_v113 main_v121 (broadcastInDim S1x100x8 ![1, 2] bcast_S100x8_S1x100x8_1_2 : (⟨S100x8, .f32⟩ : BufTy).Contents (Elt F) → (⟨S1x100x8, .f32⟩ : BufTy).Contents (Elt F))
  :: StableHlo.unary main_v120 main_v122 (broadcastInDim S1x100x4 ![1, 2] bcast_S100x4_S1x100x4_1_2 : (⟨S100x4, .f32⟩ : BufTy).Contents (Elt F) → (⟨S1x100x4, .f32⟩ : BufTy).Contents (Elt F))
  :: [] )
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub ..⟩
/-- The last window of `main` (`main_part2`, statements 121 … 157) is the chain of ITS items, each item aligned with the window's
    statements, then `chain_rfl`. -/
theorem main_part2_chain (c : Dev nD) : main_part2 (F := F) c = (Pipeline.chain
  [ StableHlo.seq main_part2_ops0 ] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part1_ops0,
    StableHlo.seq main_part1_ops1,
    StableHlo.seq main_part1_ops2,
    StableHlo.seq main_part1_ops3,
    StableHlo.seq main_part1_ops4,
    HostLoop.enter 0,
    StableHlo.seq main_part1_ops5,
    StableHlo.seq main_part2_ops0 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .ops [main_part0_ops5],
    .ops [main_part0_ops6, main_part1_ops0],
    .ops [main_part1_ops1],
    .ops [main_part1_ops2],
    .ops [main_part1_ops3],
    .ops [main_part1_ops4],
    .prog (HostLoop.enter 0),
    .ops [main_part1_ops5, main_part2_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part1_ops0,
    StableHlo.seq main_part1_ops1,
    StableHlo.seq main_part1_ops2,
    StableHlo.seq main_part1_ops3,
    StableHlo.seq main_part1_ops4,
    HostLoop.enter 0,
    StableHlo.seq main_part1_ops5,
    StableHlo.seq main_part2_ops0 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    HostLoop.enter 0,
    StableHlo.seq hostOps0_11 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    HostLoop.enter 0,
    StableHlo.seq hostOps0_11 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @argmax_1 (main_while0b_call5), in order. -/
abbrev while0Ops0 : List (HloOp τ sig (Elt F)) :=
  [ StableHlo.TRef.nullary (.of main_while0b_call5_v0 : StableHlo.TRef sig ⟨S7x20000, .i32⟩) (iotaInDim S7x20000 32 1),
    StableHlo.TRef.nullary (.of main_while0b_call5_cst : StableHlo.TRef sig ⟨S_, .f32⟩) (constant S_ .f32 0xFF800000#32),
    StableHlo.TRef.nullary (.of main_while0b_call5_c : StableHlo.TRef sig ⟨S_, .i32⟩) (constantI S_ 32 0#32),
    StableHlo.TRef.quaternary (.of main_v78_3 : StableHlo.TRef sig ⟨S7x20000, .f32⟩) (.of main_while0b_call5_v0 : StableHlo.TRef sig ⟨S7x20000, .i32⟩) (.of main_while0b_call5_cst : StableHlo.TRef sig ⟨S_, .f32⟩) (.of main_while0b_call5_c : StableHlo.TRef sig ⟨S_, .i32⟩) (.of main_while0b_call5_v1_0 : StableHlo.TRef sig ⟨S7, .f32⟩) (fun x y u v j => (Host.argReduce reducer_argmax_f32_i32 x y u v reducesTo_S7x20000_S7_d1 h_S_ j).1),
    StableHlo.TRef.quaternary (.of main_v78_3 : StableHlo.TRef sig ⟨S7x20000, .f32⟩) (.of main_while0b_call5_v0 : StableHlo.TRef sig ⟨S7x20000, .i32⟩) (.of main_while0b_call5_cst : StableHlo.TRef sig ⟨S_, .f32⟩) (.of main_while0b_call5_c : StableHlo.TRef sig ⟨S_, .i32⟩) (.of main_while0b_v123 : StableHlo.TRef sig ⟨S7, .i32⟩) (fun x y u v j => (Host.argReduce reducer_argmax_f32_i32 x y u v reducesTo_S7x20000_S7_d1 h_S_ j).2) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
set_option maxHeartbeats 40000000 in  -- a long stretch: its list (or the term over it) exceeds the default budget
/-- 110 host operations of host loop 0's body region, in order. -/
abbrev while0Ops0_1 : List (HloOp τ sig (Elt F)) :=
  ( StableHlo.nullary main_while0b_c_28 (constantI S_ 32 0#32)
  :: StableHlo.unary main_while0b_c_28 main_while0b_v124 (broadcastInDim S7 ![] bcast_S_S7 : (⟨S_, .i32⟩ : BufTy).Contents (Elt F) → (⟨S7, .i32⟩ : BufTy).Contents (Elt F))
  :: StableHlo.binary main_while0b_v123 main_while0b_v124 main_while0b_v125 (cmpi .slt : (⟨S7, .i32⟩ : BufTy).Contents (Elt F) → (⟨S7, .i32⟩ : BufTy).Contents (Elt F) → (⟨S7, .i1⟩ : BufTy).Contents (Elt F))
  :: StableHlo.nullary main_while0b_c_29 (constantI S_ 32 20000#32)
  :: StableHlo.unary main_while0b_c_29 main_while0b_v126 (broadcastInDim S7 ![] bcast_S_S7 : (⟨S_, .i32⟩ : BufTy).Contents (Elt F) → (⟨S7, .i32⟩ : BufTy).Contents (Elt F))
  :: StableHlo.binary main_while0b_v123 main_while0b_v126 main_while0b_v127 (addi : (⟨S7, .i32⟩ : BufTy).Contents (Elt F) → (⟨S7, .i32⟩ : BufTy).Contents (Elt F) → (⟨S7, .i32⟩ : BufTy).Contents (Elt F))
  :: StableHlo.ternary main_while0b_v125 main_while0b_v127 main_while0b_v123 main_while0b_v128 (select : (⟨S7, .i1⟩ : BufTy).Contents (Elt F) → (⟨S7, .i32⟩ : BufTy).Contents (Elt F) → (⟨S7, .i32⟩ : BufTy).Contents (Elt F) → (⟨S7, .i32⟩ : BufTy).Contents (Elt F))
  :: StableHlo.unary main_while0b_v128 main_while0b_v129 (broadcastInDim S7x1 ![0] bcast_S7_S7x1_0 : (⟨S7, .i32⟩ : BufTy).Contents (Elt F) → (⟨S7x1, .i32⟩ : BufTy).Contents (Elt F))
  :: StableHlo.binary main_v78_0 main_while0b_v129 main_while0b_v130 ((fun x i => Host.gather gather_S20000x4_S7x1_S7x4_1_0_n_n_0_1_14 x i) : (⟨S20000x4, .f32⟩ : BufTy).Contents (Elt F) → (⟨S7x1, .i32⟩ : BufTy).Contents (Elt F) → (⟨S7x4, .f32⟩ : BufTy).Contents (Elt F))
  :: StableHlo.unary main_while0b_v130 main_while0b_v131 ((extractStridedSlice S7x1 ![0, 0] · slices_S7x4_S7x1_0_0) : (⟨S7x4, .f32⟩ : BufTy).Contents (Elt F) → (⟨S7x1, .f32⟩ : BufTy).Contents (Elt F))
  :: StableHlo.reshape main_while0b_v131 main_while0b_v132 (rfl : (.f32 : EltTy) = .f32) shapeCasts_S7x1_S7
  :: StableHlo.unary main_v78_0 main_while0b_v133 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v133 main_while0b_v134 (rfl : (.f32 : EltTy) = .f32) shapeCasts_S20000x1_S20000
  :: StableHlo.unary main_while0b_v134 main_while0b_v135 (broadcastInDim S1x20000 ![1] bcast_S20000_S1x20000_1 : (⟨S20000, .f32⟩ : BufTy).Contents (Elt F) → (⟨S1x20000, .f32⟩ : BufTy).Contents (Elt F))
  :: StableHlo.unary main_while0b_v132 main_while0b_v136 (broadcastInDim S7x1 ![0] bcast_S7_S7x1_0 : (⟨S7, .f32⟩ : BufTy).Contents (Elt F) → (⟨S7x1, .f32⟩ : BufTy).Contents (Elt F))
  :: StableHlo.unary main_while0b_v136 main_while0b_v137 (broadcastInDim S7x20000 ![0, 1] bcast_S7x1_S7x20000_0_1 : (⟨S7x1, .f32⟩ : BufTy).Contents (Elt F) → (⟨S7x20000, .f32⟩ : BufTy).Contents (Elt F))
  :: StableHlo.unary main_while0b_v135 main_while0b_v138 (broadcastInDim S7x20000 ![0, 1] bcast_S1x20000_S7x20000_0_1 : (⟨S1x20000, .f32⟩ : BufTy).Contents (Elt F) → (⟨S7x20000, .f32⟩ : BufTy).Contents (Elt F))
  :: StableHlo.binary main_while0b_v137 main_while0b_v138 main_while0b_v139 (maximumf : (⟨S7x20000, .f32⟩ : BufTy).Contents (Elt F) → (⟨S7x20000, .f32⟩ : BufTy).Contents (Elt F) → (⟨S7x20000, .f32⟩ : BufTy).Contents (Elt F))
  :: StableHlo.unary main_while0b_v130 main_while0b_v140 ((extractStridedSlice S7x1 ![0, 1] · slices_S7x4_S7x1_0_1) : (⟨S7x4, .f32⟩ : BufTy).Contents (Elt F) → (⟨S7x1, .f32⟩ : BufTy).Contents (Elt F))
  :: StableHlo.reshape main_while0b_v140 main_while0b_v141 (rfl : (.f32 : EltTy) = .f32) shapeCasts_S7x1_S7
  :: StableHlo.unary main_v78_0 main_while0b_v142 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v142 main_while0b_v143 (rfl : (.f32 : EltTy) = .f32) shapeCasts_S20000x1_S20000
  :: StableHlo.unary main_while0b_v143 main_while0b_v144 (broadcastInDim S1x20000 ![1] bcast_S20000_S1x20000_1 : (⟨S20000, .f32⟩ : BufTy).Contents (Elt F) → (⟨S1x20000, .f32⟩ : BufTy).Contents (Elt F))
  :: StableHlo.unary main_while0b_v141 main_while0b_v145 (broadcastInDim S7x1 ![0] bcast_S7_S7x1_0 : (⟨S7, .f32⟩ : BufTy).Contents (Elt F) → (⟨S7x1, .f32⟩ : BufTy).Contents (Elt F))
  :: StableHlo.unary main_while0b_v145 main_while0b_v146 (broadcastInDim S7x20000 ![0, 1] bcast_S7x1_S7x20000_0_1 : (⟨S7x1, .f32⟩ : BufTy).Contents (Elt F) → (⟨S7x20000, .f32⟩ : BufTy).Contents (Elt F))
  :: StableHlo.unary main_while0b_v144 main_while0b_v147 (broadcastInDim S7x20000 ![0, 1] bcast_S1x20000_S7x20000_0_1 : (⟨S1x20000, .f32⟩ : BufTy).Contents (Elt F) → (⟨S7x20000, .f32⟩ : BufTy).Contents (Elt F))
  :: StableHlo.binary main_while0b_v146 main_while0b_v147 main_while0b_v148 (maximumf : (⟨S7x20000, .f32⟩ : BufTy).Contents (Elt F) → (⟨S7x20000, .f32⟩ : BufTy).Contents (Elt F) → (⟨S7x20000, .f32⟩ : BufTy).Contents (Elt F))
  :: StableHlo.unary main_while0b_v130 main_while0b_v149 ((extractStridedSlice S7x1 ![0, 2] · slices_S7x4_S7x1_0_2) : (⟨S7x4, .f32⟩ : BufTy).Contents (Elt F) → (⟨S7x1, .f32⟩ : BufTy).Contents (Elt F))
  :: StableHlo.reshape main_while0b_v149 main_while0b_v150 (rfl : (.f32 : EltTy) = .f32) shapeCasts_S7x1_S7
  :: StableHlo.unary main_v78_0 main_while0b_v151 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v151 main_while0b_v152 (rfl : (.f32 : EltTy) = .f32) shapeCasts_S20000x1_S20000
  :: StableHlo.unary main_while0b_v152 main_while0b_v153 (broadcastInDim S1x20000 ![1] bcast_S20000_S1x20000_1 : (⟨S20000, .f32⟩ : BufTy).Contents (Elt F) → (⟨S1x20000, .f32⟩ : BufTy).Contents (Elt F))
  :: StableHlo.unary main_while0b_v150 main_while0b_v154 (broadcastInDim S7x1 ![0] bcast_S7_S7x1_0 : (⟨S7, .f32⟩ : BufTy).Contents (Elt F) → (⟨S7x1, .f32⟩ : BufTy).Contents (Elt F))
  :: StableHlo.unary main_while0b_v154 main_while0b_v155 (broadcastInDim S7x20000 ![0, 1] bcast_S7x1_S7x20000_0_1 : (⟨S7x1, .f32⟩ : BufTy).Contents (Elt F) → (⟨S7x20000, .f32⟩ : BufTy).Contents (Elt F))
  :: StableHlo.unary main_while0b_v153 main_while0b_v156 (broadcastInDim S7x20000 ![0, 1] bcast_S1x20000_S7x20000_0_1 : (⟨S1x20000, .f32⟩ : BufTy).Contents (Elt F) → (⟨S7x20000, .f32⟩ : BufTy).Contents (Elt F))
  :: StableHlo.binary main_while0b_v155 main_while0b_v156 main_while0b_v157 (minimumf : (⟨S7x20000, .f32⟩ : BufTy).Contents (Elt F) → (⟨S7x20000, .f32⟩ : BufTy).Contents (Elt F) → (⟨S7x20000, .f32⟩ : BufTy).Contents (Elt F))
  :: StableHlo.unary main_while0b_v130 main_while0b_v158 ((extractStridedSlice S7x1 ![0, 3] · slices_S7x4_S7x1_0_3) : (⟨S7x4, .f32⟩ : BufTy).Contents (Elt F) → (⟨S7x1, .f32⟩ : BufTy).Contents (Elt F))
  :: StableHlo.reshape main_while0b_v158 main_while0b_v159 (rfl : (.f32 : EltTy) = .f32) shapeCasts_S7x1_S7
  :: StableHlo.unary main_v78_0 main_while0b_v160 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v160 main_while0b_v161 (rfl : (.f32 : EltTy) = .f32) shapeCasts_S20000x1_S20000
  :: StableHlo.unary main_while0b_v161 main_while0b_v162 (broadcastInDim S1x20000 ![1] bcast_S20000_S1x20000_1 : (⟨S20000, .f32⟩ : BufTy).Contents (Elt F) → (⟨S1x20000, .f32⟩ : BufTy).Contents (Elt F))
  :: StableHlo.unary main_while0b_v159 main_while0b_v163 (broadcastInDim S7x1 ![0] bcast_S7_S7x1_0 : (⟨S7, .f32⟩ : BufTy).Contents (Elt F) → (⟨S7x1, .f32⟩ : BufTy).Contents (Elt F))
  :: StableHlo.unary main_while0b_v163 main_while0b_v164 (broadcastInDim S7x20000 ![0, 1] bcast_S7x1_S7x20000_0_1 : (⟨S7x1, .f32⟩ : BufTy).Contents (Elt F) → (⟨S7x20000, .f32⟩ : BufTy).Contents (Elt F))
  :: StableHlo.unary main_while0b_v162 main_while0b_v165 (broadcastInDim S7x20000 ![0, 1] bcast_S1x20000_S7x20000_0_1 : (⟨S1x20000, .f32⟩ : BufTy).Contents (Elt F) → (⟨S7x20000, .f32⟩ : BufTy).Contents (Elt F))
  :: StableHlo.binary main_while0b_v164 main_while0b_v165 main_while0b_v166 (minimumf : (⟨S7x20000, .f32⟩ : BufTy).Contents (Elt F) → (⟨S7x20000, .f32⟩ : BufTy).Contents (Elt F) → (⟨S7x20000, .f32⟩ : BufTy).Contents (Elt F))
  :: StableHlo.binary main_while0b_v157 main_while0b_v139 main_while0b_v167 (subf : (⟨S7x20000, .f32⟩ : BufTy).Contents (Elt F) → (⟨S7x20000, .f32⟩ : BufTy).Contents (Elt F) → (⟨S7x20000, .f32⟩ : BufTy).Contents (Elt F))
  :: StableHlo.nullary main_while0b_cst_30 (constant S_ .f32 0x00000000#32)
  :: StableHlo.unary main_while0b_cst_30 main_while0b_v168 (broadcastInDim S7x20000 ![] bcast_S_S7x20000 : (⟨S_, .f32⟩ : BufTy).Contents (Elt F) → (⟨S7x20000, .f32⟩ : BufTy).Contents (Elt F))
  :: StableHlo.binary main_while0b_v167 main_while0b_v168 main_while0b_v169 (maximumf : (⟨S7x20000, .f32⟩ : BufTy).Contents (Elt F) → (⟨S7x20000, .f32⟩ : BufTy).Contents (Elt F) → (⟨S7x20000, .f32⟩ : BufTy).Contents (Elt F))
  :: StableHlo.binary main_while0b_v166 main_while0b_v148 main_while0b_v170 (subf : (⟨S7x20000, .f32⟩ : BufTy).Contents (Elt F) → (⟨S7x20000, .f32⟩ : BufTy).Contents (Elt F) → (⟨S7x20000, .f32⟩ : BufTy).Contents (Elt F))
  :: StableHlo.nullary main_while0b_cst_31 (constant S_ .f32 0x00000000#32)
  :: StableHlo.unary main_while0b_cst_31 main_while0b_v171 (broadcastInDim S7x20000 ![] bcast_S_S7x20000 : (⟨S_, .f32⟩ : BufTy).Contents (Elt F) → (⟨S7x20000, .f32⟩ : BufTy).Contents (Elt F))
  :: StableHlo.binary main_while0b_v170 main_while0b_v171 main_while0b_v172 (maximumf : (⟨S7x20000, .f32⟩ : BufTy).Contents (Elt F) → (⟨S7x20000, .f32⟩ : BufTy).Contents (Elt F) → (⟨S7x20000, .f32⟩ : BufTy).Contents (Elt F))
  :: StableHlo.binary main_while0b_v169 main_while0b_v172 main_while0b_v173 (mulf : (⟨S7x20000, .f32⟩ : BufTy).Contents (Elt F) → (⟨S7x20000, .f32⟩ : BufTy).Contents (Elt F) → (⟨S7x20000, .f32⟩ : BufTy).Contents (Elt F))
  :: StableHlo.unary main_while0b_v130 main_while0b_v174 ((extractStridedSlice S7x1 ![0, 2] · slices_S7x4_S7x1_0_2) : (⟨S7x4, .f32⟩ : BufTy).Contents (Elt F) → (⟨S7x1, .f32⟩ : BufTy).Contents (Elt F))
  :: StableHlo.reshape main_while0b_v174 main_while0b_v175 (rfl : (.f32 : EltTy) = .f32) shapeCasts_S7x1_S7
  :: StableHlo.unary main_while0b_v130 main_while0b_v176 ((extractStridedSlice S7x1 ![0, 0] · slices_S7x4_S7x1_0_0) : (⟨S7x4, .f32⟩ : BufTy).Contents (Elt F) → (⟨S7x1, .f32⟩ : BufTy).Contents (Elt F))
  :: StableHlo.reshape main_while0b_v176 main_while0b_v177 (rfl : (.f32 : EltTy) = .f32) shapeCasts_S7x1_S7
  :: StableHlo.binary main_while0b_v175 main_while0b_v177 main_while0b_v178 (subf : (⟨S7, .f32⟩ : BufTy).Contents (Elt F) → (⟨S7, .f32⟩ : BufTy).Contents (Elt F) → (⟨S7, .f32⟩ : BufTy).Contents (Elt F))
  :: StableHlo.nullary main_while0b_cst_32 (constant S_ .f32 0x00000000#32)
  :: StableHlo.unary main_while0b_cst_32 main_while0b_v179 (broadcastInDim S7 ![] bcast_S_S7 : (⟨S_, .f32⟩ : BufTy).Contents (Elt F) → (⟨S7, .f32⟩ : BufTy).Contents (Elt F))
  :: StableHlo.binary main_while0b_v178 main_while0b_v179 main_while0b_v180 (maximumf : (⟨S7, .f32⟩ : BufTy).Contents (Elt F) → (⟨S7, .f32⟩ : BufTy).Contents (Elt F) → (⟨S7, .f32⟩ : BufTy).Contents (Elt F))
  :: StableHlo.unary main_while0b_v130 main_while0b_v181 ((extractStridedSlice S7x1 ![0, 3] · slices_S7x4_S7x1_0_3) : (⟨S7x4, .f32⟩ : BufTy).Contents (Elt F) → (⟨S7x1, .f32⟩ : BufTy).Contents (Elt F))
  :: StableHlo.reshape main_while0b_v181 main_while0b_v182 (rfl : (.f32 : EltTy) = .f32) shapeCasts_S7x1_S7
  :: StableHlo.unary main_while0b_v130 main_while0b_v183 ((extractStridedSlice S7x1 ![0, 1] · slices_S7x4_S7x1_0_1) : (⟨S7x4, .f32⟩ : BufTy).Contents (Elt F) → (⟨S7x1, .f32⟩ : BufTy).Contents (Elt F))
  :: StableHlo.reshape main_while0b_v183 main_while0b_v184 (rfl : (.f32 : EltTy) = .f32) shapeCasts_S7x1_S7
  :: StableHlo.binary main_while0b_v182 main_while0b_v184 main_while0b_v185 (subf : (⟨S7, .f32⟩ : BufTy).Contents (Elt F) → (⟨S7, .f32⟩ : BufTy).Contents (Elt F) → (⟨S7, .f32⟩ : BufTy).Contents (Elt F))
  :: StableHlo.nullary main_while0b_cst_33 (constant S_ .f32 0x00000000#32)
  :: StableHlo.unary main_while0b_cst_33 main_while0b_v186 (broadcastInDim S7 ![] bcast_S_S7 : (⟨S_, .f32⟩ : BufTy).Contents (Elt F) → (⟨S7, .f32⟩ : BufTy).Contents (Elt F))
  :: StableHlo.binary main_while0b_v185 main_while0b_v186 main_while0b_v187 (maximumf : (⟨S7, .f32⟩ : BufTy).Contents (Elt F) → (⟨S7, .f32⟩ : BufTy).Contents (Elt F) → (⟨S7, .f32⟩ : BufTy).Contents (Elt F))
  :: StableHlo.binary main_while0b_v180 main_while0b_v187 main_while0b_v188 (mulf : (⟨S7, .f32⟩ : BufTy).Contents (Elt F) → (⟨S7, .f32⟩ : BufTy).Contents (Elt F) → (⟨S7, .f32⟩ : BufTy).Contents (Elt F))
  :: StableHlo.unary main_v78_0 main_while0b_v189 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v189 main_while0b_v190 (rfl : (.f32 : EltTy) = .f32) shapeCasts_S20000x1_S20000
  :: StableHlo.unary main_v78_0 main_while0b_v191 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v191 main_while0b_v192 (rfl : (.f32 : EltTy) = .f32) shapeCasts_S20000x1_S20000
  :: StableHlo.binary main_while0b_v190 main_while0b_v192 main_while0b_v193 (subf : (⟨S20000, .f32⟩ : BufTy).Contents (Elt F) → (⟨S20000, .f32⟩ : BufTy).Contents (Elt F) → (⟨S20000, .f32⟩ : BufTy).Contents (Elt F))
  :: StableHlo.nullary main_while0b_cst_34 (constant S_ .f32 0x00000000#32)
  :: StableHlo.unary main_while0b_cst_34 main_while0b_v194 (broadcastInDim S20000 ![] bcast_S_S20000 : (⟨S_, .f32⟩ : BufTy).Contents (Elt F) → (⟨S20000, .f32⟩ : BufTy).Contents (Elt F))
  :: StableHlo.binary main_while0b_v193 main_while0b_v194 main_while0b_v195 (maximumf : (⟨S20000, .f32⟩ : BufTy).Contents (Elt F) → (⟨S20000, .f32⟩ : BufTy).Contents (Elt F) → (⟨S20000, .f32⟩ : BufTy).Contents (Elt F))
  :: StableHlo.unary main_v78_0 main_while0b_v196 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v196 main_while0b_v197 (rfl : (.f32 : EltTy) = .f32) shapeCasts_S20000x1_S20000
  :: StableHlo.unary main_v78_0 main_while0b_v198 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v198 main_while0b_v199 (rfl : (.f32 : EltTy) = .f32) shapeCasts_S20000x1_S20000
  :: StableHlo.binary main_while0b_v197 main_while0b_v199 main_while0b_v200 (subf : (⟨S20000, .f32⟩ : BufTy).Contents (Elt F) → (⟨S20000, .f32⟩ : BufTy).Contents (Elt F) → (⟨S20000, .f32⟩ : BufTy).Contents (Elt F))
  :: StableHlo.nullary main_while0b_cst_35 (constant S_ .f32 0x00000000#32)
  :: StableHlo.unary main_while0b_cst_35 main_while0b_v201 (broadcastInDim S20000 ![] bcast_S_S20000 : (⟨S_, .f32⟩ : BufTy).Contents (Elt F) → (⟨S20000, .f32⟩ : BufTy).Contents (Elt F))
  :: StableHlo.binary main_while0b_v200 main_while0b_v201 main_while0b_v202 (maximumf : (⟨S20000, .f32⟩ : BufTy).Contents (Elt F) → (⟨S20000, .f32⟩ : BufTy).Contents (Elt F) → (⟨S20000, .f32⟩ : BufTy).Contents (Elt F))
  :: StableHlo.binary main_while0b_v195 main_while0b_v202 main_while0b_v203 (mulf : (⟨S20000, .f32⟩ : BufTy).Contents (Elt F) → (⟨S20000, .f32⟩ : BufTy).Contents (Elt F) → (⟨S20000, .f32⟩ : BufTy).Contents (Elt F))
  :: StableHlo.unary main_while0b_v203 main_while0b_v204 (broadcastInDim S1x20000 ![1] bcast_S20000_S1x20000_1 : (⟨S20000, .f32⟩ : BufTy).Contents (Elt F) → (⟨S1x20000, .f32⟩ : BufTy).Contents (Elt F))
  :: StableHlo.unary main_while0b_v188 main_while0b_v205 (broadcastInDim S7x1 ![0] bcast_S7_S7x1_0 : (⟨S7, .f32⟩ : BufTy).Contents (Elt F) → (⟨S7x1, .f32⟩ : BufTy).Contents (Elt F))
  :: StableHlo.unary main_while0b_v205 main_while0b_v206 (broadcastInDim S7x20000 ![0, 1] bcast_S7x1_S7x20000_0_1 : (⟨S7x1, .f32⟩ : BufTy).Contents (Elt F) → (⟨S7x20000, .f32⟩ : BufTy).Contents (Elt F))
  :: StableHlo.unary main_while0b_v204 main_while0b_v207 (broadcastInDim S7x20000 ![0, 1] bcast_S1x20000_S7x20000_0_1 : (⟨S1x20000, .f32⟩ : BufTy).Contents (Elt F) → (⟨S7x20000, .f32⟩ : BufTy).Contents (Elt F))
  :: StableHlo.binary main_while0b_v206 main_while0b_v207 main_while0b_v208 (addf : (⟨S7x20000, .f32⟩ : BufTy).Contents (Elt F) → (⟨S7x20000, .f32⟩ : BufTy).Contents (Elt F) → (⟨S7x20000, .f32⟩ : BufTy).Contents (Elt F))
  :: StableHlo.binary main_while0b_v208 main_while0b_v173 main_while0b_v209 (subf : (⟨S7x20000, .f32⟩ : BufTy).Contents (Elt F) → (⟨S7x20000, .f32⟩ : BufTy).Contents (Elt F) → (⟨S7x20000, .f32⟩ : BufTy).Contents (Elt F))
  :: StableHlo.nullary main_while0b_cst_36 (constant S_ .f32 0x3089705F#32)
  :: StableHlo.unary main_while0b_cst_36 main_while0b_v210 (broadcastInDim S7x20000 ![] bcast_S_S7x20000 : (⟨S_, .f32⟩ : BufTy).Contents (Elt F) → (⟨S7x20000, .f32⟩ : BufTy).Contents (Elt F))
  :: StableHlo.binary main_while0b_v209 main_while0b_v210 main_while0b_v211 (maximumf : (⟨S7x20000, .f32⟩ : BufTy).Contents (Elt F) → (⟨S7x20000, .f32⟩ : BufTy).Contents (Elt F) → (⟨S7x20000, .f32⟩ : BufTy).Contents (Elt F))
  :: StableHlo.binary main_while0b_v173 main_while0b_v211 main_while0b_v212 (Host.divf : (⟨S7x20000, .f32⟩ : BufTy).Contents (Elt F) → (⟨S7x20000, .f32⟩ : BufTy).Contents (Elt F) → (⟨S7x20000, .f32⟩ : BufTy).Contents (Elt F))
  :: StableHlo.nullary main_while0b_cst_37 (constant S_ .f32 0x3E99999A#32)
  :: StableHlo.unary main_while0b_cst_37 main_while0b_v213 (broadcastInDim S7x20000 ![] bcast_S_S7x20000 : (⟨S_, .f32⟩ : BufTy).Contents (Elt F) → (⟨S7x20000, .f32⟩ : BufTy).Contents (Elt F))
  :: StableHlo.binary main_while0b_v212 main_while0b_v213 main_while0b_v214 (cmpf .ole : (⟨S7x20000, .f32⟩ : BufTy).Contents (Elt F) → (⟨S7x20000, .f32⟩ : BufTy).Contents (Elt F) → (⟨S7x20000, .i1⟩ : BufTy).Contents (Elt F))
  :: StableHlo.nullary main_while0b_cst_38 (constant S_ .f32 0xBF000000#32)
  :: StableHlo.unary main_while0b_cst_38 main_while0b_v215 (broadcastInDim S7x20000 ![] bcast_S_S7x20000 : (⟨S_, .f32⟩ : BufTy).Contents (Elt F) → (⟨S7x20000, .f32⟩ : BufTy).Contents (Elt F))
  :: StableHlo.binary main_while0b_v215 main_while0b_v212 main_while0b_v216 (mulf : (⟨S7x20000, .f32⟩ : BufTy).Contents (Elt F) → (⟨S7x20000, .f32⟩ : BufTy).Contents (Elt F) → (⟨S7x20000, .f32⟩ : BufTy).Contents (Elt F))
  :: StableHlo.binary main_while0b_v216 main_while0b_v212 main_while0b_v217 (mulf : (⟨S7x20000, .f32⟩ : BufTy).Contents (Elt F) → (⟨S7x20000, .f32⟩ : BufTy).Contents (Elt F) → (⟨S7x20000, .f32⟩ : BufTy).Contents (Elt F))
  :: StableHlo.nullary main_while0b_cst_39 (constant S_ .f32 0x3F000000#32)
  :: StableHlo.unary main_while0b_cst_39 main_while0b_v218 (broadcastInDim S7x20000 ![] bcast_S_S7x20000 : (⟨S_, .f32⟩ : BufTy).Contents (Elt F) → (⟨S7x20000, .f32⟩ : BufTy).Contents (Elt F))
  :: StableHlo.binary main_while0b_v217 main_while0b_v218 main_while0b_v219 (Host.divf : (⟨S7x20000, .f32⟩ : BufTy).Contents (Elt F) → (⟨S7x20000, .f32⟩ : BufTy).Contents (Elt F) → (⟨S7x20000, .f32⟩ : BufTy).Contents (Elt F))
  :: StableHlo.unary main_while0b_v219 main_while0b_v220 (Host.exp : (⟨S7x20000, .f32⟩ : BufTy).Contents (Elt F) → (⟨S7x20000, .f32⟩ : BufTy).Contents (Elt F))
  :: StableHlo.nullary main_while0b_cst_40 (constant S_ .f32 0x00000000#32)
  :: [] )
set_option maxHeartbeats 40000000 in  -- a long stretch: its list (or the term over it) exceeds the default budget
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub ..⟩
/-- 3 host operations of @_where_2 (main_while0b_call6), in order. -/
abbrev while0Ops0_2 : List (HloOp τ sig (Elt F)) :=
  [ StableHlo.TRef.unary (.of main_while0b_cst_40 : StableHlo.TRef sig ⟨S_, .f32⟩) (.of main_while0b_call6_v0 : StableHlo.TRef sig ⟨S_, .f32⟩) id,
    StableHlo.TRef.unary (.of main_while0b_call6_v0 : StableHlo.TRef sig ⟨S_, .f32⟩) (.of main_while0b_call6_v1 : StableHlo.TRef sig ⟨S7x20000, .f32⟩) (broadcastInDim S7x20000 ![] bcast_S_S7x20000),
    StableHlo.TRef.ternary (.of main_while0b_v214 : StableHlo.TRef sig ⟨S7x20000, .i1⟩) (.of main_while0b_v220 : StableHlo.TRef sig ⟨S7x20000, .f32⟩) (.of main_while0b_call6_v1 : StableHlo.TRef sig ⟨S7x20000, .f32⟩) (.of main_while0b_v221 : StableHlo.TRef sig ⟨S7x20000, .f32⟩) select ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.ternary_bufs_sub ..⟩
/-- 21 host operations of host loop 0's body region, in order. -/
abbrev while0Ops0_3 : List (HloOp τ sig (Elt F)) :=
  [ StableHlo.binary main_v78_3 main_while0b_v221 main_while0b_v222 (mulf : (⟨S7x20000, .f32⟩ : BufTy).Contents (Elt F) → (⟨S7x20000, .f32⟩ : BufTy).Contents (Elt F) → (⟨S7x20000, .f32⟩ : BufTy).Contents (Elt F)),
    StableHlo.nullary main_while0b_c_41 (constantI S_ 32 0#32),
    StableHlo.unary main_while0b_c_41 main_while0b_v223 (broadcastInDim S7 ![] bcast_S_S7 : (⟨S_, .i32⟩ : BufTy).Contents (Elt F) → (⟨S7, .i32⟩ : BufTy).Contents (Elt F)),
    StableHlo.binary main_v78_1 main_while0b_v223 main_while0b_v224 (cmpi .slt : (⟨S7, .i32⟩ : BufTy).Contents (Elt F) → (⟨S7, .i32⟩ : BufTy).Contents (Elt F) → (⟨S7, .i1⟩ : BufTy).Contents (Elt F)),
    StableHlo.nullary main_while0b_c_42 (constantI S_ 32 7#32),
    StableHlo.unary main_while0b_c_42 main_while0b_v225 (broadcastInDim S7 ![] bcast_S_S7 : (⟨S_, .i32⟩ : BufTy).Contents (Elt F) → (⟨S7, .i32⟩ : BufTy).Contents (Elt F)),
    StableHlo.binary main_v78_1 main_while0b_v225 main_while0b_v226 (addi : (⟨S7, .i32⟩ : BufTy).Contents (Elt F) → (⟨S7, .i32⟩ : BufTy).Contents (Elt F) → (⟨S7, .i32⟩ : BufTy).Contents (Elt F)),
    StableHlo.ternary main_while0b_v224 main_while0b_v226 main_v78_1 main_while0b_v227 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.nullary main_while0b_c_43 (constantI S_ 32 0#32),
    StableHlo.unary main_while0b_c_43 main_while0b_v228 (broadcastInDim S7 ![] bcast_S_S7 : (⟨S_, .i32⟩ : BufTy).Contents (Elt F) → (⟨S7, .i32⟩ : BufTy).Contents (Elt F)),
    StableHlo.binary main_while0b_v123 main_while0b_v228 main_while0b_v229 (cmpi .slt : (⟨S7, .i32⟩ : BufTy).Contents (Elt F) → (⟨S7, .i32⟩ : BufTy).Contents (Elt F) → (⟨S7, .i1⟩ : BufTy).Contents (Elt F)),
    StableHlo.nullary main_while0b_c_44 (constantI S_ 32 20000#32),
    StableHlo.unary main_while0b_c_44 main_while0b_v230 (broadcastInDim S7 ![] bcast_S_S7 : (⟨S_, .i32⟩ : BufTy).Contents (Elt F) → (⟨S7, .i32⟩ : BufTy).Contents (Elt F)),
    StableHlo.binary main_while0b_v123 main_while0b_v230 main_while0b_v231 (addi : (⟨S7, .i32⟩ : BufTy).Contents (Elt F) → (⟨S7, .i32⟩ : BufTy).Contents (Elt F) → (⟨S7, .i32⟩ : BufTy).Contents (Elt F)),
    StableHlo.ternary main_while0b_v229 main_while0b_v231 main_while0b_v123 main_while0b_v232 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.unary main_while0b_v227 main_while0b_v233 (broadcastInDim S7x1 ![0] bcast_S7_S7x1_0 : (⟨S7, .i32⟩ : BufTy).Contents (Elt F) → (⟨S7x1, .i32⟩ : BufTy).Contents (Elt F)),
    StableHlo.unary main_while0b_v232 main_while0b_v234 (broadcastInDim S7x1 ![0] bcast_S7_S7x1_0 : (⟨S7, .i32⟩ : BufTy).Contents (Elt F) → (⟨S7x1, .i32⟩ : BufTy).Contents (Elt F)),
    StableHlo.binary main_while0b_v233 main_while0b_v234 main_while0b_v235 ((fun a b => concatenate S7x2 1 [⟨S7x1, a⟩, ⟨S7x1, b⟩] concatenates_S7x1_S7x1_S7x2_d1) : (⟨S7x1, .i32⟩ : BufTy).Contents (Elt F) → (⟨S7x1, .i32⟩ : BufTy).Contents (Elt F) → (⟨S7x2, .i32⟩ : BufTy).Contents (Elt F)),
    StableHlo.nullary main_while0b_cst_45 (constant S_ .f32 0xBF800000#32),
    StableHlo.unary main_while0b_cst_45 main_while0b_v236 (broadcastInDim S7 ![] bcast_S_S7 : (⟨S_, .f32⟩ : BufTy).Contents (Elt F) → (⟨S7, .f32⟩ : BufTy).Contents (Elt F)),
    StableHlo.ternary main_while0b_v222 main_while0b_v235 main_while0b_v236 main_while0b_v237 ((fun x i u => Host.scatter scatter_S7x20000_S7x2_S7_n_01_01_1 (fun _ b => b) x i u) : (⟨S7x20000, .f32⟩ : BufTy).Contents (Elt F) → (⟨S7x2, .i32⟩ : BufTy).Contents (Elt F) → (⟨S7, .f32⟩ : BufTy).Contents (Elt F) → (⟨S7x20000, .f32⟩ : BufTy).Contents (Elt F)) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
/-- 3 host operations of @dynamic_update_index_in_dim (main_while0b_call7), in order. -/
abbrev while0Ops0_4 : List (HloOp τ sig (Elt F)) :=
  [ StableHlo.TRef.unary (.of main_while0b_v123 : StableHlo.TRef sig ⟨S7, .i32⟩) (.of main_while0b_call7_v0 : StableHlo.TRef sig ⟨S1x7, .i32⟩) (broadcastInDim S1x7 ![1] bcast_S7_S1x7_1),
    StableHlo.TRef.nullary (.of main_while0b_call7_c : StableHlo.TRef sig ⟨S_, .i32⟩) (constantI S_ 32 0#32),
    StableHlo.TRef.binaryIndexed (.of main_v78_4 : StableHlo.TRef sig ⟨S100x7, .i32⟩) (.of main_while0b_call7_v0 : StableHlo.TRef sig ⟨S1x7, .i32⟩) ![(.of main_v78_2 : StableHlo.TRef sig ⟨S_, .i32⟩), (.of main_while0b_call7_c : StableHlo.TRef sig ⟨S_, .i32⟩)] (.of main_while0b_v238 : StableHlo.TRef sig ⟨S100x7, .i32⟩) (fun x u i => Host.dynamicUpdateSlice x u (fun k => (i k (Shape.Idx.first h_S_)).toInt) updateFits_S100x7_S1x7) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
/-- 5 host operations of host loop 0's body region, in order. -/
abbrev while0Ops0_5 : List (HloOp τ sig (Elt F)) :=
  [ StableHlo.nullary main_while0b_c_46 (constantI S_ 32 1#32),
    StableHlo.binary main_v78_2 main_while0b_c_46 main_while0b_v239 (addi : (⟨S_, .i32⟩ : BufTy).Contents (Elt F) → (⟨S_, .i32⟩ : BufTy).Contents (Elt F) → (⟨S_, .i32⟩ : BufTy).Contents (Elt F)),
    StableHlo.unary main_while0b_v239 main_v78_2 id,
    StableHlo.unary main_while0b_v237 main_v78_3 id,
    StableHlo.unary main_while0b_v238 main_v78_4 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons]
  chain_rfl

end Cert.ReferenceIdeal.Gen

end
-- ==== Proof.RefRun.lean ====
/- The run of the reference program: every weakly fair execution of @main terminates with every TensorCore buffer at the
   fold of its stretches and of 100 trips of its loop (`run_fold`). The loop's counter is read along the fold. -/
module

public import proofs.«01_k».proof.Proof.RefLists

@[expose] public section

-- a long stretch's `::` list and the decided enumerations over the program's references recurse past the default depth
set_option maxRecDepth 2684

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_cst, main_v5]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v6]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_cst_0, main_v7, main_v8, main_c, main_v9, main_v10, main_v11, main_v12, main_v13, main_v14, main_v15, main_v16, main_v17, main_v18, main_v19, main_v20, main_v21, main_v22, main_v23, main_cst_1, main_v24, main_v25, main_v26, main_v27, main_v28, main_cst_2, main_v29, main_v30, main_v31, main_v32, main_v33, main_v34, main_v35, main_v36, main_v37, main_v38, main_v39, main_cst_3, main_v40, main_v41, main_v42]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_call1_v2, main_v43]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v44]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_call2_v0, main_call2_v1, main_call2_v2, main_v45]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- The reference each operation of `hostOps0_6` writes, in order. -/
abbrev hostOps0_6_W : List (Ref sig .tc) := [main_v46, main_v47, main_v48, main_v49, main_v50, main_v51, main_v52, main_v53, main_cst_4, main_v54, main_v55, main_v56, main_cst_5, main_v57, main_v58, main_v59, main_cst_6, main_v60, main_v61, main_v62, main_cst_7, main_v63, main_v64, main_v65, main_v66, main_v67, main_v68, main_v69, main_v70, main_cst_8, main_cst_9]
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_7` writes, in order. -/
abbrev hostOps0_7_W : List (Ref sig .tc) := [main_call3_v0, main_call3_v1, main_call3_v2, main_call3_v3, main_call3_v4, main_v71]
theorem hostOps0_7_writes : (hostOps0_7 : List (HloOp τ sig (Elt F))).Forall fun op => op.writes ⊆ (hostOps0_7_W.map (Proc.devRef (τ := τ) .tc)).toFinset :=
  StableHlo.forall_writes_sub_of_map rfl
/-- No operation of `hostOps0_8` allocates a buffer. -/
theorem hostOps0_8_fresh : (hostOps0_8 : List (HloOp τ sig (Elt F))).Forall fun op => op.fresh = ∅ :=
  StableHlo.forall_fresh_of_map rfl
/-- The reference each operation of `hostOps0_8` writes, in order. -/
abbrev hostOps0_8_W : List (Ref sig .tc) := [main_v72, main_v73, main_v74, main_cst_10]
theorem hostOps0_8_writes : (hostOps0_8 : List (HloOp τ sig (Elt F))).Forall fun op => op.writes ⊆ (hostOps0_8_W.map (Proc.devRef (τ := τ) .tc)).toFinset :=
  StableHlo.forall_writes_sub_of_map rfl
/-- No operation of `hostOps0_9` allocates a buffer. -/
theorem hostOps0_9_fresh : (hostOps0_9 : List (HloOp τ sig (Elt F))).Forall fun op => op.fresh = ∅ :=
  StableHlo.forall_fresh_of_map rfl
/-- The reference each operation of `hostOps0_9` writes, in order. -/
abbrev hostOps0_9_W : List (Ref sig .tc) := [main_call4_v0, main_call4_v1, main_call4_v2, main_v75]
theorem hostOps0_9_writes : (hostOps0_9 : List (HloOp τ sig (Elt F))).Forall fun op => op.writes ⊆ (hostOps0_9_W.map (Proc.devRef (τ := τ) .tc)).toFinset :=
  StableHlo.forall_writes_sub_of_map rfl
/-- No operation of `hostOps0_10` allocates a buffer. -/
theorem hostOps0_10_fresh : (hostOps0_10 : List (HloOp τ sig (Elt F))).Forall fun op => op.fresh = ∅ :=
  StableHlo.forall_fresh_of_map rfl
/-- The reference each operation of `hostOps0_10` writes, in order. -/
abbrev hostOps0_10_W : List (Ref sig .tc) := [main_v76, main_c_11, main_v77, main_c_12, main_v78_0, main_v78_1, main_v78_2, main_v78_3, main_v78_4]
theorem hostOps0_10_writes : (hostOps0_10 : List (HloOp τ sig (Elt F))).Forall fun op => op.writes ⊆ (hostOps0_10_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call5_v0, main_while0b_call5_cst, main_while0b_call5_c, main_while0b_call5_v1_0, main_while0b_v123]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_28, main_while0b_v124, main_while0b_v125, main_while0b_c_29, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_v161, main_while0b_v162, main_while0b_v163, main_while0b_v164, main_while0b_v165, main_while0b_v166, main_while0b_v167, main_while0b_cst_30, main_while0b_v168, main_while0b_v169, main_while0b_v170, main_while0b_cst_31, main_while0b_v171, main_while0b_v172, main_while0b_v173, main_while0b_v174, main_while0b_v175, main_while0b_v176, main_while0b_v177, main_while0b_v178, main_while0b_cst_32, main_while0b_v179, main_while0b_v180, main_while0b_v181, main_while0b_v182, main_while0b_v183, main_while0b_v184, main_while0b_v185, main_while0b_cst_33, main_while0b_v186, main_while0b_v187, main_while0b_v188, main_while0b_v189, main_while0b_v190, main_while0b_v191, main_while0b_v192, main_while0b_v193, main_while0b_cst_34, main_while0b_v194, main_while0b_v195, main_while0b_v196, main_while0b_v197, main_while0b_v198, main_while0b_v199, main_while0b_v200, main_while0b_cst_35, main_while0b_v201, main_while0b_v202, main_while0b_v203, main_while0b_v204, main_while0b_v205, main_while0b_v206, main_while0b_v207, main_while0b_v208, main_while0b_v209, main_while0b_cst_36, main_while0b_v210, main_while0b_v211, main_while0b_v212, main_while0b_cst_37, main_while0b_v213, main_while0b_v214, main_while0b_cst_38, main_while0b_v215, main_while0b_v216, main_while0b_v217, main_while0b_cst_39, main_while0b_v218, main_while0b_v219, main_while0b_v220, main_while0b_cst_40]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call6_v0, main_while0b_call6_v1, main_while0b_v221]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v222, main_while0b_c_41, main_while0b_v223, main_while0b_v224, main_while0b_c_42, main_while0b_v225, main_while0b_v226, main_while0b_v227, main_while0b_c_43, main_while0b_v228, main_while0b_v229, main_while0b_c_44, main_while0b_v230, main_while0b_v231, main_while0b_v232, main_while0b_v233, main_while0b_v234, main_while0b_v235, main_while0b_cst_45, main_while0b_v236, main_while0b_v237]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call7_v0, main_while0b_call7_c, main_while0b_v238]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_c_46, main_while0b_v239, main_v78_2, main_v78_3, main_v78_4]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `hostOps0_11` allocates a buffer. -/
theorem hostOps0_11_fresh : (hostOps0_11 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_28 (constantI S_ 32 100#32),
    StableHlo.binary main_v78_2 main_while0c_c_28 main_while0c_v123 (cmpi .slt) ]

/-- @main's stretches before the loop, the loop body's, and @main's after the loop. -/
abbrev preI : List (List (HloOp τ sig (Elt F))) := [hostOps0, hostOps0_1, hostOps0_2, hostOps0_3, hostOps0_4, hostOps0_5, hostOps0_6, hostOps0_7, hostOps0_8, hostOps0_9, hostOps0_10]
abbrev bodyI : List (List (HloOp τ sig (Elt F))) := [while0Ops0, while0Ops0_1, while0Ops0_2, while0Ops0_3, while0Ops0_4, while0Ops0_5]
abbrev postI : List (List (HloOp τ sig (Elt F))) := [hostOps0_11]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.nil)))))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_11_sub (hf := List.forall_iff_forall_mem.mp hostOps0_11_fresh) (.nil)

/-- The reference each operation of `condOps` writes, in order. -/
abbrev condOps_W : List (Ref sig .tc) := [main_while0c_c_28, main_while0c_v123]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v78_2`) is written by one stretch of the body, `while0Ops0_5`: not by the condition, nor by the
    body's other stretches. -/
theorem ctr_cond (V : Valuation τ sig (Elt F)) : after condOps V (Proc.devRef .tc main_v78_2) = V (Proc.devRef .tc main_v78_2) :=
  after_of_writes_sub condOps V condOps_writes (by decide +kernel)
theorem ctr_while0Ops0 (V : Valuation τ sig (Elt F)) : after while0Ops0 V (Proc.devRef .tc main_v78_2) = V (Proc.devRef .tc main_v78_2) :=
  after_of_writes_sub while0Ops0 V while0Ops0_writes (by decide +kernel)
theorem ctr_while0Ops0_1 (V : Valuation τ sig (Elt F)) : after while0Ops0_1 V (Proc.devRef .tc main_v78_2) = V (Proc.devRef .tc main_v78_2) :=
  after_of_writes_sub while0Ops0_1 V while0Ops0_1_writes (by decide +kernel)
theorem ctr_while0Ops0_2 (V : Valuation τ sig (Elt F)) : after while0Ops0_2 V (Proc.devRef .tc main_v78_2) = V (Proc.devRef .tc main_v78_2) :=
  after_of_writes_sub while0Ops0_2 V while0Ops0_2_writes (by decide +kernel)
theorem ctr_while0Ops0_3 (V : Valuation τ sig (Elt F)) : after while0Ops0_3 V (Proc.devRef .tc main_v78_2) = V (Proc.devRef .tc main_v78_2) :=
  after_of_writes_sub while0Ops0_3 V while0Ops0_3_writes (by decide +kernel)
theorem ctr_while0Ops0_4 (V : Valuation τ sig (Elt F)) : after while0Ops0_4 V (Proc.devRef .tc main_v78_2) = V (Proc.devRef .tc main_v78_2) :=
  after_of_writes_sub while0Ops0_4 V while0Ops0_4_writes (by decide +kernel)

set_option maxRecDepth 100000 in
/-- `while0Ops0_5` leaves the counter one step on. -/
theorem ctr_step (X : Valuation τ sig (Elt F)) :
    after while0Ops0_5 X (Proc.devRef .tc main_v78_2) = addi (X (Proc.devRef .tc main_v78_2)) (constantI S_ 32 1#32) := by
  after_results
  rfl

/-- The counter is the loop's lower bound at the loop's entry: its last writer before the loop read back. -/
theorem ctr_entry (c : Dev nD) : entryContents preI m c (Proc.devRef .tc main_v78_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v78_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v78_2 HostLoop.idx0)
        (HloOp.result _ (atK m k c) main_while0c_c_28 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Value

end
-- ==== Proof.RefFrame.lean ====
/- The reference program's frame: its run ends with the four arguments as they were and no semaphore counter off zero. -/
module

public import proofs.«01_k».proof.Defs
public import proofs.«01_k».proof.Proof.RefRun
public import Idealize.ShloMosaic.Lib.Quiescent

@[expose] public section

set_option maxRecDepth 2684

noncomputable section

namespace Cert.RefFrame

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

/-- The buffers that the stretch after the loop writes. -/
abbrev postW : List (Ref sig .tc) := [main_v79, main_v80, main_v81, main_c_13, main_v82, main_v83, main_v84, main_v85, main_c_14, main_v86, main_v87, main_c_15, main_v88, main_v89, main_v90, main_c_16, main_v91, main_v92, main_c_17, main_v93, main_v94, main_v95, main_v96, main_v97, main_v98, main_v99, main_values, main_indices, main_c_18, main_v100, main_v101, main_c_19, main_v102, main_v103, main_v104, main_v105, main_v106, main_c_20, main_v107, main_v108, main_c_21, main_v109, main_v110, main_v111, main_v112, main_v113, main_c_22, main_v114, main_v115, main_c_23, main_v116, main_v117, main_v118, main_v119, main_v120, main_v121, main_v122]

theorem post_writes : (hostOps0_11 : List (HloOp τ sig (Elt F))).Forall fun op => op.writes ⊆ (postW.map (Proc.devRef (τ := τ) .tc)).toFinset :=
  StableHlo.forall_writes_sub_of_map rfl

/-- A buffer that no operation before the loop writes holds its launch contents at the loop's entry. -/
theorem pre_keep (V : Valuation τ sig (Elt F)) (r : Ref sig .tc)
    (h : r ∉ hostOps0_W ++ hostOps0_1_W ++ hostOps0_2_W ++ hostOps0_3_W ++ hostOps0_4_W ++ hostOps0_5_W ++ hostOps0_6_W ++ hostOps0_7_W
      ++ hostOps0_8_W ++ hostOps0_9_W ++ hostOps0_10_W) :
    afterL preI V (Proc.devRef .tc r) = V (Proc.devRef .tc r) := by
  simp only [List.mem_append, not_or] at h
  obtain ⟨⟨⟨⟨⟨⟨⟨⟨⟨⟨h0, h1⟩, h2⟩, h3⟩, h4⟩, h5⟩, h6⟩, h7⟩, h8⟩, h9⟩, h10⟩ := h
  simp only [preI, afterL_cons, afterL_nil]
  rw [after_of_writes_sub _ _ hostOps0_10_writes h10, after_of_writes_sub _ _ hostOps0_9_writes h9, after_of_writes_sub _ _ hostOps0_8_writes h8,
    after_of_writes_sub _ _ hostOps0_7_writes h7, after_of_writes_sub _ _ hostOps0_6_writes h6, after_of_writes_sub _ _ hostOps0_5_writes h5,
    after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- A buffer that the loop's body does not write is kept by a trip. -/
theorem body_keep (V : Valuation τ sig (Elt F)) (r : Ref sig .tc)
    (h : r ∉ while0Ops0_W ++ while0Ops0_1_W ++ while0Ops0_2_W ++ while0Ops0_3_W ++ while0Ops0_4_W ++ while0Ops0_5_W) :
    afterL bodyI V (Proc.devRef .tc r) = V (Proc.devRef .tc r) := by
  simp only [List.mem_append, not_or] at h
  obtain ⟨⟨⟨⟨⟨h0, h1⟩, h2⟩, h3⟩, h4⟩, h5⟩ := h
  simp only [bodyI, afterL_cons, afterL_nil]
  rw [after_of_writes_sub _ _ while0Ops0_5_writes h5, after_of_writes_sub _ _ while0Ops0_4_writes h4, after_of_writes_sub _ _ while0Ops0_3_writes h3,
    after_of_writes_sub _ _ while0Ops0_2_writes h2, after_of_writes_sub _ _ while0Ops0_1_writes h1, after_of_writes_sub _ _ while0Ops0_writes h0]

variable (m : (ℓ : Loc nD τ sig) → Buf (Elt F) ℓ) (ρ : Dev nD → PrngReg)

/-- A buffer that neither the loop's body nor its condition writes holds what it held at the loop's entry. -/
theorem atK_keep (c : Dev nD) (r : Ref sig .tc)
    (h : r ∉ while0Ops0_W ++ while0Ops0_1_W ++ while0Ops0_2_W ++ while0Ops0_3_W ++ while0Ops0_4_W ++ while0Ops0_5_W) (hc : r ∉ condOps_W) :
    ∀ k, atK m k c (Proc.devRef .tc r) = entryContents preI m c (Proc.devRef .tc r)
  | 0 => rfl
  | k + 1 => by
    rw [show atK m (k + 1) c = afterL bodyI (after condOps (atK m k c)) from rfl, body_keep _ _ h,
      after_of_writes_sub _ _ condOps_writes hc, atK_keep c r h hc k]

/-- A buffer that no operation of @main writes ends with its launch contents. -/
theorem final_keep (c : Dev nD) (r : Ref sig .tc)
    (hp : r ∉ hostOps0_W ++ hostOps0_1_W ++ hostOps0_2_W ++ hostOps0_3_W ++ hostOps0_4_W ++ hostOps0_5_W ++ hostOps0_6_W ++ hostOps0_7_W
      ++ hostOps0_8_W ++ hostOps0_9_W ++ hostOps0_10_W)
    (h : r ∉ while0Ops0_W ++ while0Ops0_1_W ++ while0Ops0_2_W ++ while0Ops0_3_W ++ while0Ops0_4_W ++ while0Ops0_5_W) (hc : r ∉ condOps_W)
    (hq : r ∉ postW) :
    finalContents condOps preI bodyI postI 100 m c (Proc.devRef .tc r) = m ((c.tc : Thread nD τ).loc r) := by
  show afterL postI (after condOps (atK m 100 c)) (Proc.devRef .tc r) = _
  simp only [postI, afterL_cons, afterL_nil]
  rw [after_of_writes_sub _ _ post_writes hq, after_of_writes_sub _ _ condOps_writes hc, atK_keep m c r h hc 100]
  exact pre_keep _ _ hp

theorem arg0_keep (c : Dev nD) : finalContents condOps preI bodyI postI 100 m c (Proc.devRef .tc main_arg0) = m ((c.tc : Thread nD τ).loc main_arg0) :=
  final_keep m c main_arg0 (by decide +kernel) (by decide +kernel) (by decide +kernel) (by decide +kernel)
theorem arg1_keep (c : Dev nD) : finalContents condOps preI bodyI postI 100 m c (Proc.devRef .tc main_arg1) = m ((c.tc : Thread nD τ).loc main_arg1) :=
  final_keep m c main_arg1 (by decide +kernel) (by decide +kernel) (by decide +kernel) (by decide +kernel)
theorem arg2_keep (c : Dev nD) : finalContents condOps preI bodyI postI 100 m c (Proc.devRef .tc main_arg2) = m ((c.tc : Thread nD τ).loc main_arg2) :=
  final_keep m c main_arg2 (by decide +kernel) (by decide +kernel) (by decide +kernel) (by decide +kernel)
theorem arg3_keep (c : Dev nD) : finalContents condOps preI bodyI postI 100 m c (Proc.devRef .tc main_arg3) = m ((c.tc : Thread nD τ).loc main_arg3) :=
  final_keep m c main_arg3 (by decide +kernel) (by decide +kernel) (by decide +kernel) (by decide +kernel)

/-- The reference's frame, at any float values and from any memory. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c main_arg0 rfl).trans (arg0_keep m c), (h c main_arg1 rfl).trans (arg1_keep m c),
    (h c main_arg2 rfl).trans (arg2_keep m c), (h c main_arg3 rfl).trans (arg3_keep m c)⟩, sem_eq_zero_of_no_sems rfl r.2⟩) (run_fold m ρ)

end Cert.RefFrame

end
-- ==== Proof.KernRun.lean ====
/- The whole kernel's run at the contents it leaves: every buffer that outlives the run ends at the contents of the last
   boundary of @main, where the value claim reads the two results. -/
module

public import proofs.«01_k».proof.Proof.Gen.KernelIdeal.Frame

@[expose] public section

set_option maxRecDepth 16384

noncomputable section

namespace Cert.KernRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution of the kernel's @main from a launch with zero counters ends, and at its end every buffer of
    a device that is not scoped to a region holds the contents of the last boundary. -/
theorem contents : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

/-- The run with the two results named and the arguments unchanged, as the value claim asks it. -/
theorem run : θ_run defs (onTc (τ := τ) (main (F := F))) ⟨m, fun _ => 0, ρ⟩ (fun r => ∀ c : Dev nD,
      r.2.mem ((c.tc : Thread nD τ).loc main_v20) = W12 m ρ c (Proc.devRef .tc main_v20)
      ∧ r.2.mem ((c.tc : Thread nD τ).loc main_v21) = W12 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : ∀ c : Dev nD, ∀ b ∈ Pipeline.ucRefs τ sig,
      r.2.mem (((c : Thread nD τ)).1, b) = W12 m ρ c b) c =>
    ⟨h c _ (mem_uc main_v20 (by decide)), h c _ (mem_uc main_v21 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c)⟩) (contents m ρ)

end Cert.KernRun

end
-- ==== Proof.KernLoop.lean ====
/- The soft NMS loop of the kernel's first region as a plain recursion on blocks: what one trip leaves in the scores'
   scratch and in the two outputs that it adds a column to, and what all trips before the `k`-th leave. -/
module

public import proofs.«01_k».proof.Proof.KernRun
public import Idealize.ShloMosaic.Lib.Pipeline.ValueKit

@[expose] public section

set_option maxRecDepth 16384

noncomputable section

namespace Cert.KernLoop

open Idealize.ShloMosaic Idealize.ShloMosaic.TcCoe Idealize.ShloMosaic.Tactic
open Cert.KernelIdeal Cert.KernelIdeal.Gen

variable {F : FTy → Type} [FloatOps F] [Named F]

/-- A store through the whole-shape rectangle at offset zero leaves its payload, whatever was there before. -/
theorem read_whole_write {sig : RefSig} {κ : Kind} {sp : Space} {Val : EltTy → Type} {S : Shape} {e : EltTy}
    (v : View sig κ sp S e) (f : v.ty.Contents Val) {off : Fin S.rank → Nat} (h : ∀ a, off a = 0)
    (inb : ∀ a, off a + S.size a ≤ S.size a) (w : S.Idx → Val e) (L : List (View.Piece Val S e)) :
    v.read Val (v.writes Val f ((⟨Rect.unit off S.size inb, w⟩ : View.Piece Val S e) :: L)) = w := by
  obtain rfl : off = fun _ => 0 := funext h
  funext x
  have := View.read_writes_cons_emb (v := v) (Val := Val) (f := f) (Rect.unit (fun _ => 0) S.size inb) w L x
  rw [show (Rect.unit (fun _ => 0) S.size inb).emb x = x from funext fun a => Fin.ext (by simp [Rect.emb, Rect.unit])] at this
  exact this

/-- Row `r` of the twelve rows that the loop keeps (four of boxes, eight of class scores), as the trip loads it. -/
abbrev catRow0 (cat : Vec F S12x20480 .f32) : Vec F S1x20480 .f32 := View.ld (Val := Elt F) (e' := .f32) cat (Rect.unit (s := S12x20480) ![0, 0] S1x20480.size inb_S12x20480_S1x20480_0_0)
abbrev catRow1 (cat : Vec F S12x20480 .f32) : Vec F S1x20480 .f32 := View.ld (Val := Elt F) (e' := .f32) cat (Rect.unit (s := S12x20480) ![1, 0] S1x20480.size inb_S12x20480_S1x20480_1_0)
abbrev catRow2 (cat : Vec F S12x20480 .f32) : Vec F S1x20480 .f32 := View.ld (Val := Elt F) (e' := .f32) cat (Rect.unit (s := S12x20480) ![2, 0] S1x20480.size inb_S12x20480_S1x20480_2_0)
abbrev catRow3 (cat : Vec F S12x20480 .f32) : Vec F S1x20480 .f32 := View.ld (Val := Elt F) (e' := .f32) cat (Rect.unit (s := S12x20480) ![3, 0] S1x20480.size inb_S12x20480_S1x20480_3_0)

/-- The scores after one trip, from the scores before it, the twelve rows and the boxes' areas. -/
def sNext (v113 : FVec F S8x20480 .f32) (cat : Vec F S12x20480 .f32) (area : Vec F S1x20480 .f32) (s : Vec F S8x20480 .f32) : Vec F S8x20480 .f32 :=
  k0_pay17 s (k0_pay7 v113 s) (k0_pay9 v113 s cat) (k0_pay10 v113 s cat) (k0_pay11 v113 s cat) (k0_pay12 v113 s cat)
    (k0_pay14 v113 s cat (catRow0 cat)) (k0_pay15 v113 s cat (catRow1 cat)) (k0_pay16 v113 s cat (catRow2 cat)) (catRow3 cat) area

/-- The scores before trip `k`. -/
def sAt (v113 : FVec F S8x20480 .f32) (cat : Vec F S12x20480 .f32) (area : Vec F S1x20480 .f32) (s0 : Vec F S8x20480 .f32) : ℕ → Vec F S8x20480 .f32
  | 0 => s0
  | k + 1 => sNext v113 cat area (sAt v113 cat area s0 k)

/-- The selected scores' block before trip `k`: trip `k` adds the selected boxes' own scores in column `k`. -/
def scoreAt (v113 : FVec F S8x20480 .f32) (v114 : IVec S8x1 32) (v117 : IVec S8x8 1) (v120 : IVec S1x128 32)
    (cat : Vec F S12x20480 .f32) (area : Vec F S1x20480 .f32) (s0 : Vec F S8x20480 .f32) (b0 : Vec F S8x128 .f32) : ℕ → Vec F S8x128 .f32
  | 0 => b0
  | k + 1 => k0_pay4 (k0_pay13 v113 v114 (k0_pay1 v117) (sAt v113 cat area s0 k) cat) (k0_pay18 v120 (Scf.iv 0#32 1#32 k))
      (scoreAt v113 v114 v117 v120 cat area s0 b0 k)

/-- The selected indices' block before trip `k`: trip `k` adds the selected indices in column `k`. -/
def idxAt (v113 : FVec F S8x20480 .f32) (v120 : IVec S1x128 32)
    (cat : Vec F S12x20480 .f32) (area : Vec F S1x20480 .f32) (s0 : Vec F S8x20480 .f32) (b0 : Vec F S8x128 .f32) : ℕ → Vec F S8x128 .f32
  | 0 => b0
  | k + 1 => k0_pay5 (k0_pay6 v113 (sAt v113 cat area s0 k)) (k0_pay18 v120 (Scf.iv 0#32 1#32 k))
      (idxAt v113 v120 cat area s0 b0 k)

section
variable (𝒱 : Variants) (c : Dev nD) (bd : Option 𝒱.V) (arg0 : Memref sig .tc .vmem S1x20480 .f32) (harg0 : arg0.IsWhole) (arg1 : Memref sig .tc .vmem S8x20480 .f32) (harg1 : arg1.IsWhole) (arg2 : Memref sig .tc .vmem S4x20480 .f32) (harg2 : arg2.IsWhole) (arg3 : Memref sig .tc .vmem S4x20480 .f32) (harg3 : arg3.IsWhole) (arg4 : Memref sig .tc .vmem S8x20480 .f32) (harg4 : arg4.IsWhole) (arg5 : Memref sig .tc .vmem S4x20480 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x20480 .f32) (harg8 : arg8.IsWhole) (arg9 : Memref sig .tc .vmem S12x20480 .f32) (harg9 : arg9.IsWhole) (arg10 : Memref sig .tc .vmem S1x20480 .f32) (harg10 : arg10.IsWhole) (v113 : FVec F S8x20480 .f32) (v114 : IVec S8x1 32) (v117 : IVec S8x8 1) (v120 : IVec S1x128 32) (X9 : BufTy.Contents (Elt F) arg9.view.ty) (X10 : BufTy.Contents (Elt F) arg10.view.ty)

/-- One trip's store into the selected scores. -/
theorem trip_score (k : Fin k0_t1_loop.trips) (f6 : BufTy.Contents (Elt F) arg6.view.ty) (f7 : BufTy.Contents (Elt F) arg7.view.ty) (f8 : BufTy.Contents (Elt F) arg8.view.ty) :
    (tripL_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 k f6 f7 f8).1 =
      [⟨Rect.unit (s := S8x128) ![0, 0] S8x128.size inb_S8x128_S8x128_0_0,
        k0_pay4 (k0_pay13 v113 v114 (k0_pay1 v117) (arg8.view.read (Elt F) f8) (arg9.view.read (Elt F) X9)) (k0_pay18 v120 (Scf.iv 0#32 1#32 k)) (arg6.view.read (Elt F) f6)⟩] := by
  unfold tripL_k0_t1 trip_k0_t1
  dsimp only
  frame_out
  rfl

/-- One trip's store into the selected indices. -/
theorem trip_idx (k : Fin k0_t1_loop.trips) (f6 : BufTy.Contents (Elt F) arg6.view.ty) (f7 : BufTy.Contents (Elt F) arg7.view.ty) (f8 : BufTy.Contents (Elt F) arg8.view.ty) :
    (tripL_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 k f6 f7 f8).2.1 =
      [⟨Rect.unit (s := S8x128) ![0, 0] S8x128.size inb_S8x128_S8x128_0_0,
        k0_pay5 (k0_pay6 v113 (arg8.view.read (Elt F) f8)) (k0_pay18 v120 (Scf.iv 0#32 1#32 k)) (arg7.view.read (Elt F) f7)⟩] := by
  unfold tripL_k0_t1 trip_k0_t1
  dsimp only
  frame_out
  rfl

/-- One trip's store into the scores' scratch. -/
theorem trip_s (k : Fin k0_t1_loop.trips) (f6 : BufTy.Contents (Elt F) arg6.view.ty) (f7 : BufTy.Contents (Elt F) arg7.view.ty) (f8 : BufTy.Contents (Elt F) arg8.view.ty) :
    (tripL_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 k f6 f7 f8).2.2 =
      [⟨Rect.unit (s := S8x20480) ![0, 0] S8x20480.size inb_S8x20480_S8x20480_0_0,
        sNext v113 (arg9.view.read (Elt F) X9) (arg10.view.read (Elt F) X10) (arg8.view.read (Elt F) f8)⟩] := by
  unfold tripL_k0_t1 trip_k0_t1
  dsimp only
  frame_out
  rfl

variable (G6 : BufTy.Contents (Elt F) arg6.view.ty) (G7 : BufTy.Contents (Elt F) arg7.view.ty) (G8 : BufTy.Contents (Elt F) arg8.view.ty)

/-- The trips before the `k`-th leave the three buffers at the recursion's contents. -/
theorem loop_reads (k : ℕ) (hk : k ≤ k0_t1_loop.trips) :
    arg6.view.read (Elt F) (arg6.view.writes (Elt F) G6 (pb_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 G6 G7 G8 k).1)
        = scoreAt v113 v114 v117 v120 (arg9.view.read (Elt F) X9) (arg10.view.read (Elt F) X10) (arg8.view.read (Elt F) G8) (arg6.view.read (Elt F) G6) k
      ∧ arg7.view.read (Elt F) (arg7.view.writes (Elt F) G7 (pb_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 G6 G7 G8 k).2.1)
        = idxAt v113 v120 (arg9.view.read (Elt F) X9) (arg10.view.read (Elt F) X10) (arg8.view.read (Elt F) G8) (arg7.view.read (Elt F) G7) k
      ∧ arg8.view.read (Elt F) (arg8.view.writes (Elt F) G8 (pb_k0_t1 (F := F) 𝒱 c bd arg0 harg0 arg1 harg1 arg2 harg2 arg3 harg3 arg4 harg4 arg5 harg5 arg6 harg6 arg7 harg7 arg8 harg8 arg9 harg9 arg10 harg10 v113 v114 v117 v120 X9 X10 G6 G7 G8 k).2.2)
        = sAt v113 (arg9.view.read (Elt F) X9) (arg10.view.read (Elt F) X10) (arg8.view.read (Elt F) G8) k := by
  induction k with
  | zero => exact ⟨rfl, rfl, rfl⟩
  | succ k ih =>
    obtain ⟨h6, h7, h8⟩ := ih (Nat.le_of_succ_le hk)
    have hs := pb_k0_t1_succ (F := F) 𝒱 c bd arg0 harg0 arg1 harg1 arg2 harg2 arg3 harg3 arg4 harg4 arg5 harg5 arg6 harg6 arg7 harg7 arg8 harg8 arg9 harg9 arg10 harg10 v113 v114 v117 v120 X9 X10 G6 G7 G8 ⟨k, hk⟩
    rw [trip_score, trip_idx, trip_s] at hs
    dsimp only at hs
    rw [hs]
    dsimp only
    refine ⟨?_, ?_, ?_⟩
    · rw [List.singleton_append, read_whole_write _ _ (by decide), h6, h8]; rfl
    · rw [List.singleton_append, read_whole_write _ _ (by decide), h7, h8]; rfl
    · rw [List.singleton_append, read_whole_write _ _ (by decide), h8]; rfl

end

end Cert.KernLoop
end
-- ==== Proof.KernOut.lean ====
/- What the kernel's two regions leave in their output buffers, as terms over the payloads of the printed bodies. -/
module

public import proofs.«01_k».proof.Proof.KernLoop
public import Idealize.ShloMosaic.Lib.Pipeline.ReadBack

@[expose] public section

set_option maxRecDepth 16384

noncomputable section

namespace Cert.KernOut

open Idealize.ShloMosaic Idealize.ShloMosaic.TcCoe Idealize.ShloMosaic.Tactic
open Idealize.ShloMosaic.Pipeline (Dat Window)
open Cert.KernelIdeal Cert.KernelIdeal.Gen Cert.KernLoop

variable {F : FTy → Type} [FloatOps F] [Named F]

/-- Row `r` of a four-row block, as the body loads it. -/
abbrev quadRow0 (x : Vec F S4x20480 .f32) : Vec F S1x20480 .f32 := View.ld (Val := Elt F) (e' := .f32) x (Rect.unit (s := S4x20480) ![0, 0] S1x20480.size inb_S4x20480_S1x20480_0_0)
abbrev quadRow1 (x : Vec F S4x20480 .f32) : Vec F S1x20480 .f32 := View.ld (Val := Elt F) (e' := .f32) x (Rect.unit (s := S4x20480) ![1, 0] S1x20480.size inb_S4x20480_S1x20480_1_0)
abbrev quadRow2 (x : Vec F S4x20480 .f32) : Vec F S1x20480 .f32 := View.ld (Val := Elt F) (e' := .f32) x (Rect.unit (s := S4x20480) ![2, 0] S1x20480.size inb_S4x20480_S1x20480_2_0)
abbrev quadRow3 (x : Vec F S4x20480 .f32) : Vec F S1x20480 .f32 := View.ld (Val := Elt F) (e' := .f32) x (Rect.unit (s := S4x20480) ![3, 0] S1x20480.size inb_S4x20480_S1x20480_3_0)

/-- The four rows of the decoded and clipped boxes: left, top, right, bottom, from the regression and the anchors. -/
def boxL (reg anc : Vec F S4x20480 .f32) : FVec F S1x20480 .f32 :=
  k0_pay33 (k0_pay22 (quadRow0 anc) (quadRow2 anc)) (k0_pay24 (quadRow0 anc) (quadRow2 anc)) (k0_pay26 (quadRow0 reg)) (k0_pay28 (quadRow2 reg))
def boxT (reg anc : Vec F S4x20480 .f32) : FVec F S1x20480 .f32 :=
  k0_pay34 (k0_pay23 (quadRow1 anc) (quadRow3 anc)) (k0_pay25 (quadRow1 anc) (quadRow3 anc)) (k0_pay27 (quadRow1 reg)) (quadRow3 reg)
def boxR (reg anc : Vec F S4x20480 .f32) : FVec F S1x20480 .f32 :=
  k0_pay35 (k0_pay22 (quadRow0 anc) (quadRow2 anc)) (k0_pay24 (quadRow0 anc) (quadRow2 anc)) (k0_pay26 (quadRow0 reg)) (k0_pay28 (quadRow2 reg))
def boxB (reg anc : Vec F S4x20480 .f32) : FVec F S1x20480 .f32 :=
  k0_pay36 (k0_pay23 (quadRow1 anc) (quadRow3 anc)) (k0_pay25 (quadRow1 anc) (quadRow3 anc)) (k0_pay27 (quadRow1 reg)) (quadRow3 reg)

/-- The boxes' block, the twelve rows that the loop reads, the boxes' areas and the scores before the first trip. -/
def boxesB (reg anc : Vec F S4x20480 .f32) : FVec F S4x20480 .f32 :=
  k0_pay37 (boxL reg anc) (boxT reg anc) (boxR reg anc) (boxB reg anc)
def catB (sc : Vec F S1x20480 .f32) (lg : Vec F S8x20480 .f32) (reg anc : Vec F S4x20480 .f32) : FVec F S12x20480 .f32 :=
  k0_pay38 (k0_pay19 sc lg) (boxL reg anc) (boxT reg anc) (boxR reg anc) (boxB reg anc)
def areaB (reg anc : Vec F S4x20480 .f32) : FVec F S1x20480 .f32 :=
  k0_pay39 (boxL reg anc) (boxT reg anc) (boxR reg anc) (boxB reg anc)
def s0B (sc : Vec F S1x20480 .f32) (lg : Vec F S8x20480 .f32) : FVec F S8x20480 .f32 := k0_pay40 (k0_pay19 sc lg)

/-- The class numbers down a column and the trip numbers along a row, as the body counts them. -/
abbrev rowI : IVec S8x1 32 := iota .tc S8x1 32 [0] iota_S8x1_d0_w32
abbrev colI : IVec S1x128 32 := iota .tc S1x128 32 [1] iota_S1x128_d1_w32

variable (V : (c : Dev nD) → (b : Ref sig .tc) → Buf (Elt F) ((c : Thread nD τ).loc b))

/-- The class scores' block: scores times logits. -/
theorem out_logit (c : Dev nD) (t : Fin cfg0.N) : (outsAt0 V c t).1 = k0_pay19 (iblk0 V c 0 t) (iblk0 V c 1 t) := by
  unfold outsAt0
  dsimp only
  frame_out
  simp only [read_unread_whole]

/-- The boxes' block. -/
theorem out_boxes (c : Dev nD) (t : Fin cfg0.N) : (outsAt0 V c t).2.1 = boxesB (iblk0 V c 2 t) (iblk0 V c 3 t) := by
  unfold outsAt0
  dsimp only
  frame_out
  simp only [read_unread_whole]
  rfl

/-- The selected scores' block: a hundred trips from a block of zeros. -/
theorem out_score (c : Dev nD) (t : Fin cfg0.N) : (outsAt0 V c t).2.2.1 =
    scoreAt k0_pay41 rowI k0_pay42 colI (catB (iblk0 V c 0 t) (iblk0 V c 1 t) (iblk0 V c 2 t) (iblk0 V c 3 t))
      (areaB (iblk0 V c 2 t) (iblk0 V c 3 t)) (s0B (iblk0 V c 0 t) (iblk0 V c 1 t)) k0_pay2 k0_t1_loop.trips := by
  unfold outsAt0
  dsimp only
  frame_out
  refine (View.read_writes_eq_canon (View.whole cc0_stg6_0) (View.whole cc0_stg6_0).junk _ ?_).symm.trans ?_
  · exact fun y => ⟨_, List.mem_append_right _ (List.mem_singleton_self _), View.mem_set_unit_zero (S := S8x128) (off := ![0, 0]) (by decide) inb_S8x128_S8x128_0_0 y⟩
  · rw [View.writes_append]
    refine ((loop_reads (F := F) Variants.none c none (ms0_0 t) _ (ms0_1 t) _ (ms0_2 t) _ (ms0_3 t) _ (ms0_4 t) _ (ms0_5 t) _ (ms0_6 t) _ (ms0_7 t) _ scM0_0 _ scM0_1 _ scM0_2 _ _ _ _ _ _ _ _ _ _ k0_t1_loop.trips le_rfl).1).trans ?_
    rw [read_whole_write _ _ (by decide), read_whole_write _ _ (by decide), read_whole_write _ _ (by decide), read_whole_write _ _ (by decide)]
    simp only [read_unread_whole]
    rfl

/-- The selected indices' block: a hundred trips from a block of zeros. -/
theorem out_idx (c : Dev nD) (t : Fin cfg0.N) : (outsAt0 V c t).2.2.2 =
    idxAt k0_pay41 colI (catB (iblk0 V c 0 t) (iblk0 V c 1 t) (iblk0 V c 2 t) (iblk0 V c 3 t))
      (areaB (iblk0 V c 2 t) (iblk0 V c 3 t)) (s0B (iblk0 V c 0 t) (iblk0 V c 1 t)) k0_pay3 k0_t1_loop.trips := by
  unfold outsAt0
  dsimp only
  frame_out
  refine (View.read_writes_eq_canon (View.whole cc0_stg7_0) (View.whole cc0_stg7_0).junk _ ?_).symm.trans ?_
  · exact fun y => ⟨_, List.mem_append_right _ (List.mem_singleton_self _), View.mem_set_unit_zero (S := S8x128) (off := ![0, 0]) (by decide) inb_S8x128_S8x128_0_0 y⟩
  · rw [View.writes_append]
    refine ((loop_reads (F := F) Variants.none c none (ms0_0 t) _ (ms0_1 t) _ (ms0_2 t) _ (ms0_3 t) _ (ms0_4 t) _ (ms0_5 t) _ (ms0_6 t) _ (ms0_7 t) _ scM0_0 _ scM0_1 _ scM0_2 _ _ _ _ _ _ _ _ _ _ k0_t1_loop.trips le_rfl).2.1).trans ?_
    rw [read_whole_write _ _ (by decide), read_whole_write _ _ (by decide), read_whole_write _ _ (by decide), read_whole_write _ _ (by decide)]
    simp only [read_unread_whole]
    rfl

/-- The inputs' blocks of the first region are their arrays, each window one block that is the whole array. -/
theorem in0_0 (c : Dev nD) (t : Fin cfg0.N) : iblk0 V c 0 t = (V c main_v2 : Vec F S1x20480 .f32) := by
  have h : ∀ t a, win0_0.index t a = 0 := by decide +kernel
  funext y
  exact congrArg (V c main_v2) (funext fun a => Fin.ext (Window.rect_emb_val_of_index_zero win0_0 t a (h t a) y))
theorem in0_1 (c : Dev nD) (t : Fin cfg0.N) : iblk0 V c 1 t = (V c main_v5 : Vec F S8x20480 .f32) := by
  have h : ∀ t a, win0_1.index t a = 0 := by decide +kernel
  funext y
  exact congrArg (V c main_v5) (funext fun a => Fin.ext (Window.rect_emb_val_of_index_zero win0_1 t a (h t a) y))
theorem in0_2 (c : Dev nD) (t : Fin cfg0.N) : iblk0 V c 2 t = (V c main_v8 : Vec F S4x20480 .f32) := by
  have h : ∀ t a, win0_2.index t a = 0 := by decide +kernel
  funext y
  exact congrArg (V c main_v8) (funext fun a => Fin.ext (Window.rect_emb_val_of_index_zero win0_2 t a (h t a) y))
theorem in0_3 (c : Dev nD) (t : Fin cfg0.N) : iblk0 V c 3 t = (V c main_v10 : Vec F S4x20480 .f32) := by
  have h : ∀ t a, win0_3.index t a = 0 := by decide +kernel
  funext y
  exact congrArg (V c main_v10) (funext fun a => Fin.ext (Window.rect_emb_val_of_index_zero win0_3 t a (h t a) y))

/-- The first region's output arrays: each is what its one block was left at. -/
theorem arr0_4 (c : Dev nD) : (dat0 V c).arrAt 4 cfg0.N =
    k0_pay19 (V c main_v2 : Vec F S1x20480 .f32) (V c main_v5 : Vec F S8x20480 .f32) := by
  refine Dat.arrAt_eq_of_after_last (dat0 V c) 4 ⟨0, by decide⟩ (by decide +kernel) _ fun j => ?_
  rw [after0_4, out_logit, in0_0, in0_1]
  rfl

theorem arr0_5 (c : Dev nD) : (dat0 V c).arrAt 5 cfg0.N =
    boxesB (V c main_v8 : Vec F S4x20480 .f32) (V c main_v10 : Vec F S4x20480 .f32) := by
  refine Dat.arrAt_eq_of_after_last (dat0 V c) 5 ⟨0, by decide⟩ (by decide +kernel) _ fun j => ?_
  rw [after0_5, out_boxes, in0_2, in0_3]
  rfl

theorem arr0_6 (c : Dev nD) : (dat0 V c).arrAt 6 cfg0.N =
    scoreAt k0_pay41 rowI k0_pay42 colI (catB (V c main_v2 : Vec F S1x20480 .f32) (V c main_v5 : Vec F S8x20480 .f32) (V c main_v8 : Vec F S4x20480 .f32) (V c main_v10 : Vec F S4x20480 .f32))
      (areaB (V c main_v8 : Vec F S4x20480 .f32) (V c main_v10 : Vec F S4x20480 .f32)) (s0B (V c main_v2 : Vec F S1x20480 .f32) (V c main_v5 : Vec F S8x20480 .f32)) k0_pay2 k0_t1_loop.trips := by
  refine Dat.arrAt_eq_of_after_last (dat0 V c) 6 ⟨0, by decide⟩ (by decide +kernel) _ fun j => ?_
  rw [after0_6, out_score, in0_0, in0_1, in0_2, in0_3]
  rfl

theorem arr0_7 (c : Dev nD) : (dat0 V c).arrAt 7 cfg0.N =
    idxAt k0_pay41 colI (catB (V c main_v2 : Vec F S1x20480 .f32) (V c main_v5 : Vec F S8x20480 .f32) (V c main_v8 : Vec F S4x20480 .f32) (V c main_v10 : Vec F S4x20480 .f32))
      (areaB (V c main_v8 : Vec F S4x20480 .f32) (V c main_v10 : Vec F S4x20480 .f32)) (s0B (V c main_v2 : Vec F S1x20480 .f32) (V c main_v5 : Vec F S8x20480 .f32)) k0_pay3 k0_t1_loop.trips := by
  refine Dat.arrAt_eq_of_after_last (dat0 V c) 7 ⟨0, by decide⟩ (by decide +kernel) _ fun j => ?_
  rw [after0_7, out_idx, in0_0, in0_1, in0_2, in0_3]
  rfl

end Cert.KernOut
end
-- ==== Proof.KernHost.lean ====
/- The kernel's two results as one term over its arguments: the padded and transposed arguments, the two regions'
   blocks, and the reshaped candidates between the regions. -/
module

public import proofs.«01_k».proof.Proof.KernOut
public import Idealize.ShloMosaic.Lib.StableHlo.RunRead

@[expose] public section

set_option maxRecDepth 16384

noncomputable section

namespace Cert.KernHost

open Idealize.ShloMosaic Idealize.ShloMosaic.TcCoe Idealize.ShloMosaic.Tactic
open Idealize.ShloMosaic.Pipeline (Dat Window)
open Cert.KernelIdeal Cert.KernelIdeal.Gen Cert.KernLoop Cert.KernOut

variable {F : FTy → Type} [FloatOps F] [Named F]

/-- The value that the arguments are padded with. -/
def padZ : FVec F S_ .f32 := sitofp .f32 (constantI S_ 32 0#32)
/-- The padded scores, logits, regression and anchors, boxes along the lanes. -/
def scT (x : FVec F S1x20000x1 .f32) : FVec F S1x20480 .f32 :=
  pad S1x20480 ![0, 0] ![0, 480] ![0, 0] (broadcastInDim S1x20000 ![1] bcast_S20000_S1x20000_1 (shapeCast S20000 x shapeCasts_S1x20000x1_S20000)) padZ pads_S1x20000_S1x20480_000_04800 h_S_
def lgT (x : FVec F S1x20000x8 .f32) : FVec F S8x20480 .f32 :=
  pad S8x20480 ![0, 0] ![0, 480] ![0, 0] (transpose S8x20000 [1, 0] (shapeCast S20000x8 x shapeCasts_S1x20000x8_S20000x8) transposes_S20000x8_S8x20000_1_0) padZ pads_S8x20000_S8x20480_000_04800 h_S_
def rgT (x : FVec F S1x20000x4 .f32) : FVec F S4x20480 .f32 :=
  pad S4x20480 ![0, 0] ![0, 480] ![0, 0] (transpose S4x20000 [1, 0] (shapeCast S20000x4 x shapeCasts_S1x20000x4_S20000x4) transposes_S20000x4_S4x20000_1_0) padZ pads_S4x20000_S4x20480_000_04800 h_S_
def anT (x : FVec F S20000x4 .f32) : FVec F S4x20480 .f32 :=
  pad S4x20480 ![0, 0] ![0, 480] ![0, 0] (transpose S4x20000 [1, 0] x transposes_S20000x4_S4x20000_1_0) padZ pads_S4x20000_S4x20480_000_04800 h_S_

/-- The eight hundred candidates in one line, class by class. -/
def flat (x : FVec F S8x128 .f32) : FVec F S800 .f32 :=
  shapeCast S800 (extractStridedSlice S8x100 ![0, 0] x slices_S8x128_S8x100_0_0) shapeCasts_S8x100_S800

variable (m : (ℓ : Loc nD τ sig) → Buf (Elt F) ℓ) (ρ : Dev nD → PrngReg)

/-- The first region's inputs. -/
theorem v2_val (c : Dev nD) : (V8 m ρ c main_v2 : Vec F S1x20480 .f32) = scT (m ((c : Thread nD τ).loc main_arg0)) := by
  show W8 m ρ c (Proc.devRef .tc main_v2) = _
  rw [W8_of m ρ c main_v2 (by decide), W7_of m ρ c main_v2 (by decide), W6_of m ρ c main_v2 (by decide), W5_of m ρ c main_v2 (by decide), W4_of m ρ c main_v2 (by decide), W3_of m ρ c main_v2 (by decide)]
  show StableHlo.after hostOps0_1 _ _ = _
  after_reads_simp
  rw [← W0_args m ρ c main_arg0 (by decide)]
  rfl

theorem v5_val (c : Dev nD) : (V8 m ρ c main_v5 : Vec F S8x20480 .f32) = lgT (m ((c : Thread nD τ).loc main_arg1)) := by
  show W8 m ρ c (Proc.devRef .tc main_v5) = _
  rw [W8_of m ρ c main_v5 (by decide), W7_of m ρ c main_v5 (by decide), W6_of m ρ c main_v5 (by decide), W5_of m ρ c main_v5 (by decide)]
  show StableHlo.after hostOps0_3 _ _ = _
  after_reads_simp
  rw [← W2_args m ρ c main_arg1 (by decide)]
  rfl

theorem v8_val (c : Dev nD) : (V8 m ρ c main_v8 : Vec F S4x20480 .f32) = rgT (m ((c : Thread nD τ).loc main_arg2)) := by
  show W8 m ρ c (Proc.devRef .tc main_v8) = _
  rw [W8_of m ρ c main_v8 (by decide), W7_of m ρ c main_v8 (by decide)]
  show StableHlo.after hostOps0_5 _ _ = _
  after_reads_simp
  rw [← W4_args m ρ c main_arg2 (by decide)]
  rfl

theorem v10_val (c : Dev nD) : (V8 m ρ c main_v10 : Vec F S4x20480 .f32) = anT (m ((c : Thread nD τ).loc main_arg3)) := by
  show W8 m ρ c (Proc.devRef .tc main_v10) = _
  show StableHlo.after hostOps0_7 _ _ = _
  after_reads_simp
  rw [← W6_args m ρ c main_arg3 (by decide)]
  rfl

/-- The four arguments' padded forms, the twelve rows, the areas, the first scores, and the blocks after all trips. -/
def KL (a0 : FVec F S1x20000x1 .f32) (a1 : FVec F S1x20000x8 .f32) : FVec F S8x20480 .f32 := k0_pay19 (scT a0) (lgT a1)
def KB (a2 : FVec F S1x20000x4 .f32) (a3 : FVec F S20000x4 .f32) : FVec F S4x20480 .f32 := boxesB (rgT a2) (anT a3)
def KScore (a0 : FVec F S1x20000x1 .f32) (a1 : FVec F S1x20000x8 .f32) (a2 : FVec F S1x20000x4 .f32) (a3 : FVec F S20000x4 .f32) : FVec F S8x128 .f32 :=
  scoreAt k0_pay41 rowI k0_pay42 colI (catB (scT a0) (lgT a1) (rgT a2) (anT a3)) (areaB (rgT a2) (anT a3)) (s0B (scT a0) (lgT a1)) k0_pay2 k0_t1_loop.trips
def KIdx (a0 : FVec F S1x20000x1 .f32) (a1 : FVec F S1x20000x8 .f32) (a2 : FVec F S1x20000x4 .f32) (a3 : FVec F S20000x4 .f32) : FVec F S8x128 .f32 :=
  idxAt k0_pay41 colI (catB (scT a0) (lgT a1) (rgT a2) (anT a3)) (areaB (rgT a2) (anT a3)) (s0B (scT a0) (lgT a1)) k0_pay3 k0_t1_loop.trips

theorem v11_0_val (c : Dev nD) : (W9 m ρ c (Proc.devRef .tc main_v11_0) : Vec F S8x20480 .f32) = KL (m ((c : Thread nD τ).loc main_arg0)) (m ((c : Thread nD τ).loc main_arg1)) := by
  refine (W9_arr m ρ c 4).trans ?_
  rw [arr0_4, v2_val, v5_val]
  rfl

theorem v11_1_val (c : Dev nD) : (W9 m ρ c (Proc.devRef .tc main_v11_1) : Vec F S4x20480 .f32) = KB (m ((c : Thread nD τ).loc main_arg2)) (m ((c : Thread nD τ).loc main_arg3)) := by
  refine (W9_arr m ρ c 5).trans ?_
  rw [arr0_5, v8_val, v10_val]
  rfl

theorem v11_2_val (c : Dev nD) : (W9 m ρ c (Proc.devRef .tc main_v11_2) : Vec F S8x128 .f32) = KScore (m ((c : Thread nD τ).loc main_arg0)) (m ((c : Thread nD τ).loc main_arg1)) (m ((c : Thread nD τ).loc main_arg2)) (m ((c : Thread nD τ).loc main_arg3)) := by
  refine (W9_arr m ρ c 6).trans ?_
  rw [arr0_6, v2_val, v5_val, v8_val, v10_val]
  rfl

theorem v11_3_val (c : Dev nD) : (W9 m ρ c (Proc.devRef .tc main_v11_3) : Vec F S8x128 .f32) = KIdx (m ((c : Thread nD τ).loc main_arg0)) (m ((c : Thread nD τ).loc main_arg1)) (m ((c : Thread nD τ).loc main_arg2)) (m ((c : Thread nD τ).loc main_arg3)) := by
  refine (W9_arr m ρ c 7).trans ?_
  rw [arr0_7, v2_val, v5_val, v8_val, v10_val]
  rfl

/-- The second region's inputs. -/
theorem v16_val (c : Dev nD) : (V10 m ρ c main_v16 : Vec F S800x1 .f32) =
    broadcastInDim S800x1 ![0] bcast_S800_S800x1_0 (flat (KScore (m ((c : Thread nD τ).loc main_arg0)) (m ((c : Thread nD τ).loc main_arg1)) (m ((c : Thread nD τ).loc main_arg2)) (m ((c : Thread nD τ).loc main_arg3)))) := by
  rw [← v11_2_val m ρ]
  show StableHlo.after hostOps1 _ _ = _
  after_reads_simp
  rfl
theorem v17_val (c : Dev nD) : (V10 m ρ c main_v17 : Vec F S1x800 .f32) =
    broadcastInDim S1x800 ![1] bcast_S800_S1x800_1 (flat (KScore (m ((c : Thread nD τ).loc main_arg0)) (m ((c : Thread nD τ).loc main_arg1)) (m ((c : Thread nD τ).loc main_arg2)) (m ((c : Thread nD τ).loc main_arg3)))) := by
  rw [← v11_2_val m ρ]
  show StableHlo.after hostOps1 _ _ = _
  after_reads_simp
  rfl
theorem v18_val (c : Dev nD) : (V10 m ρ c main_v18 : Vec F S800x1 .f32) =
    broadcastInDim S800x1 ![0] bcast_S800_S800x1_0 (flat (KIdx (m ((c : Thread nD τ).loc main_arg0)) (m ((c : Thread nD τ).loc main_arg1)) (m ((c : Thread nD τ).loc main_arg2)) (m ((c : Thread nD τ).loc main_arg3)))) := by
  rw [← v11_3_val m ρ]
  show StableHlo.after hostOps1 _ _ = _
  after_reads_simp
  rfl

theorem in1_0 (V : (c : Dev nD) → (b : Ref sig .tc) → Buf (Elt F) ((c : Thread nD τ).loc b)) (c : Dev nD) (t : Fin cfg1.N) : iblk1 V c 0 t = (V c main_v16 : Vec F S800x1 .f32) := by
  have h : ∀ t a, win1_0.index t a = 0 := by decide +kernel
  funext y
  exact congrArg (V c main_v16) (funext fun a => Fin.ext (Window.rect_emb_val_of_index_zero win1_0 t a (h t a) y))
theorem in1_1 (V : (c : Dev nD) → (b : Ref sig .tc) → Buf (Elt F) ((c : Thread nD τ).loc b)) (c : Dev nD) (t : Fin cfg1.N) : iblk1 V c 1 t = (V c main_v17 : Vec F S1x800 .f32) := by
  have h : ∀ t a, win1_1.index t a = 0 := by decide +kernel
  funext y
  exact congrArg (V c main_v17) (funext fun a => Fin.ext (Window.rect_emb_val_of_index_zero win1_1 t a (h t a) y))
theorem in1_2 (V : (c : Dev nD) → (b : Ref sig .tc) → Buf (Elt F) ((c : Thread nD τ).loc b)) (c : Dev nD) (t : Fin cfg1.N) : iblk1 V c 2 t = (V c main_v18 : Vec F S800x1 .f32) := by
  have h : ∀ t a, win1_2.index t a = 0 := by decide +kernel
  funext y
  exact congrArg (V c main_v18) (funext fun a => Fin.ext (Window.rect_emb_val_of_index_zero win1_2 t a (h t a) y))
theorem in1_3 (V : (c : Dev nD) → (b : Ref sig .tc) → Buf (Elt F) ((c : Thread nD τ).loc b)) (c : Dev nD) (t : Fin cfg1.N) : iblk1 V c 3 t = (V c main_v11_0 : Vec F S8x20480 .f32) := by
  have h : ∀ t a, win1_3.index t a = 0 := by decide +kernel
  funext y
  exact congrArg (V c main_v11_0) (funext fun a => Fin.ext (Window.rect_emb_val_of_index_zero win1_3 t a (h t a) y))
theorem in1_4 (V : (c : Dev nD) → (b : Ref sig .tc) → Buf (Elt F) ((c : Thread nD τ).loc b)) (c : Dev nD) (t : Fin cfg1.N) : iblk1 V c 4 t = (V c main_v11_1 : Vec F S4x20480 .f32) := by
  have h : ∀ t a, win1_4.index t a = 0 := by decide +kernel
  funext y
  exact congrArg (V c main_v11_1) (funext fun a => Fin.ext (Window.rect_emb_val_of_index_zero win1_4 t a (h t a) y))

/-- The second region's outputs as blocks. -/
theorem out5 (x0 : Vec F S800x1 .f32) (x1 : Vec F S1x800 .f32) (x2 : Vec F S800x1 .f32) (x3 : Vec F S8x20480 .f32) (x4 : Vec F S4x20480 .f32) :
    out1_5 x0 x1 x2 x3 x4 = k1_pay2 x0 x1 x2 x3 := by
  unfold out1_5; frame_out
theorem out6 (x0 : Vec F S800x1 .f32) (x1 : Vec F S1x800 .f32) (x2 : Vec F S800x1 .f32) (x3 : Vec F S8x20480 .f32) (x4 : Vec F S4x20480 .f32) :
    out1_6 x0 x1 x2 x3 x4 = k1_pay3 x0 x1 x2 x4 := by
  unfold out1_6; frame_out

theorem arr1_5 (V : (c : Dev nD) → (b : Ref sig .tc) → Buf (Elt F) ((c : Thread nD τ).loc b)) (c : Dev nD) : (dat1 V c).arrAt 5 cfg1.N =
    k1_pay2 (V c main_v16 : Vec F S800x1 .f32) (V c main_v17 : Vec F S1x800 .f32) (V c main_v18 : Vec F S800x1 .f32) (V c main_v11_0 : Vec F S8x20480 .f32) := by
  refine Dat.arrAt_eq_of_after_last (dat1 V c) 5 ⟨0, by decide⟩ (by decide +kernel) _ fun j => ?_
  rw [after1_5, out5, in1_0, in1_1, in1_2, in1_3]
  rfl
theorem arr1_6 (V : (c : Dev nD) → (b : Ref sig .tc) → Buf (Elt F) ((c : Thread nD τ).loc b)) (c : Dev nD) : (dat1 V c).arrAt 6 cfg1.N =
    k1_pay3 (V c main_v16 : Vec F S800x1 .f32) (V c main_v17 : Vec F S1x800 .f32) (V c main_v18 : Vec F S800x1 .f32) (V c main_v11_1 : Vec F S4x20480 .f32) := by
  refine Dat.arrAt_eq_of_after_last (dat1 V c) 6 ⟨0, by decide⟩ (by decide +kernel) _ fun j => ?_
  rw [after1_6, out6, in1_0, in1_1, in1_2, in1_4]
  rfl

/-- The kernel's two results, as functions of its arguments. -/
def KOut0 (a0 : FVec F S1x20000x1 .f32) (a1 : FVec F S1x20000x8 .f32) (a2 : FVec F S1x20000x4 .f32) (a3 : FVec F S20000x4 .f32) : FVec F S1x100x8 .f32 :=
  broadcastInDim S1x100x8 ![1, 2] bcast_S100x8_S1x100x8_1_2
    (k1_pay2 (broadcastInDim S800x1 ![0] bcast_S800_S800x1_0 (flat (KScore a0 a1 a2 a3))) (broadcastInDim S1x800 ![1] bcast_S800_S1x800_1 (flat (KScore a0 a1 a2 a3)))
      (broadcastInDim S800x1 ![0] bcast_S800_S800x1_0 (flat (KIdx a0 a1 a2 a3))) (KL a0 a1))
def KOut1 (a0 : FVec F S1x20000x1 .f32) (a1 : FVec F S1x20000x8 .f32) (a2 : FVec F S1x20000x4 .f32) (a3 : FVec F S20000x4 .f32) : FVec F S1x100x4 .f32 :=
  broadcastInDim S1x100x4 ![1, 2] bcast_S100x4_S1x100x4_1_2
    (k1_pay3 (broadcastInDim S800x1 ![0] bcast_S800_S800x1_0 (flat (KScore a0 a1 a2 a3))) (broadcastInDim S1x800 ![1] bcast_S800_S1x800_1 (flat (KScore a0 a1 a2 a3)))
      (broadcastInDim S800x1 ![0] bcast_S800_S800x1_0 (flat (KIdx a0 a1 a2 a3))) (KB a2 a3))

theorem res20 (c : Dev nD) : (W12 m ρ c (Proc.devRef .tc main_v20) : Vec F S1x100x8 .f32) =
    KOut0 (m ((c : Thread nD τ).loc main_arg0)) (m ((c : Thread nD τ).loc main_arg1)) (m ((c : Thread nD τ).loc main_arg2)) (m ((c : Thread nD τ).loc main_arg3)) := by
  show StableHlo.after hostOps2 _ _ = _
  after_reads_simp
  have h := (W11_arr m ρ c 5).trans (arr1_5 (V10 m ρ) c)
  rw [v16_val, v17_val, v18_val, show V10 m ρ c main_v11_0 = KL (m ((c : Thread nD τ).loc main_arg0)) (m ((c : Thread nD τ).loc main_arg1)) from (W10_of m ρ c main_v11_0 (by decide)).trans (v11_0_val m ρ c)] at h
  exact congrArg (broadcastInDim S1x100x8 ![1, 2] bcast_S100x8_S1x100x8_1_2) h
theorem res21 (c : Dev nD) : (W12 m ρ c (Proc.devRef .tc main_v21) : Vec F S1x100x4 .f32) =
    KOut1 (m ((c : Thread nD τ).loc main_arg0)) (m ((c : Thread nD τ).loc main_arg1)) (m ((c : Thread nD τ).loc main_arg2)) (m ((c : Thread nD τ).loc main_arg3)) := by
  show StableHlo.after hostOps2 _ _ = _
  after_reads_simp
  have h := (W11_arr m ρ c 6).trans (arr1_6 (V10 m ρ) c)
  rw [v16_val, v17_val, v18_val, show V10 m ρ c main_v11_1 = KB (m ((c : Thread nD τ).loc main_arg2)) (m ((c : Thread nD τ).loc main_arg3)) from (W10_of m ρ c main_v11_1 (by decide)).trans (v11_1_val m ρ c)] at h
  exact congrArg (broadcastInDim S1x100x4 ![1, 2] bcast_S100x4_S1x100x4_1_2) h

end Cert.KernHost
end
-- ==== Proof.Model.lean ====
/-
  The mathematics both programs compute, over the extended reals: the first index of a maximum, the overlap
  of two boxes and the weight it gives, one round of the suppression, the rank of a candidate among all of them,
  and the decoding of one box.  Nothing here speaks of either program.
-/
module

public import Idealize.ShloMosaic.Lib.ValueIdx
public import Idealize.ShloMosaic.Lib.SortFacts
public import Idealize.ShloMosaic.Lib.SortPrefix
public import Idealize.ShloMosaic.PureOps.Ideal.Laws

@[expose] public section

set_option maxRecDepth 16384

noncomputable section

namespace Cert.Model

open Idealize.ShloMosaic

/-- The number a 32-bit float word stands for. -/
abbrev w (b : BitVec 32) : EReal := Ideal.ofBits .f32 b

/-! ## The first index of a maximum -/

/-- `i` holds a maximum of `s`, and every earlier index holds strictly less. -/
def IsFirstMax {N : ℕ} (s : Fin N → EReal) (i : Fin N) : Prop := (∀ j, s j ≤ s i) ∧ ∀ j, j < i → s j < s i

/-- There is such an index, when there is an index at all. -/
theorem exists_firstMax {N : ℕ} [NeZero N] (s : Fin N → EReal) : ∃ i, IsFirstMax s i := by
  classical
  obtain ⟨i0, -, h0⟩ := Finset.exists_max_image (Finset.univ : Finset (Fin N)) s ⟨0, Finset.mem_univ _⟩
  let A : Finset (Fin N) := Finset.univ.filter fun i => s i = s i0
  have hA : A.Nonempty := ⟨i0, by simp [A]⟩
  refine ⟨A.min' hA, ?_, ?_⟩
  · intro j
    have : s (A.min' hA) = s i0 := by simpa [A] using A.min'_mem hA
    rw [this]; exact h0 j (Finset.mem_univ _)
  · intro j hj
    have e : s (A.min' hA) = s i0 := by simpa [A] using A.min'_mem hA
    rw [e]
    refine lt_of_le_of_ne (h0 j (Finset.mem_univ _)) fun hne => ?_
    exact absurd (A.min'_le j (by simp [A, hne])) (not_le.mpr hj)

/-- The first index of a maximum. -/
def am {N : ℕ} [NeZero N] (s : Fin N → EReal) : Fin N := Classical.choose (exists_firstMax s)

theorem am_spec {N : ℕ} [NeZero N] (s : Fin N → EReal) : IsFirstMax s (am s) := Classical.choose_spec (exists_firstMax s)

/-- It is the only one. -/
theorem am_eq {N : ℕ} [NeZero N] {s : Fin N → EReal} {i : Fin N} (h : IsFirstMax s i) : am s = i := by
  have h' := am_spec s
  rcases lt_trichotomy (am s) i with hl | he | hg
  · exact absurd (h'.1 i) (not_le.mpr (h.2 _ hl))
  · exact he
  · exact absurd (h.1 (am s)) (not_le.mpr (h'.2 _ hg))

/-- A row that is extended by entries none of which exceeds the maximum keeps its first maximum. -/
theorem am_castLE {N M : ℕ} [NeZero N] [NeZero M] (hNM : N ≤ M) (s : Fin N → EReal) (s' : Fin M → EReal)
    (hs : ∀ n : Fin N, s' (n.castLE hNM) = s n) (hp : ∀ m : Fin M, N ≤ m.val → s' m ≤ s (am s)) :
    am s' = (am s).castLE hNM := by
  refine am_eq ⟨fun j => ?_, fun j hj => ?_⟩
  · rw [hs]
    by_cases h : j.val < N
    · have := hs ⟨j.val, h⟩
      have e : (⟨j.val, h⟩ : Fin N).castLE hNM = j := Fin.ext rfl
      rw [e] at this; rw [this]; exact (am_spec s).1 _
    · exact hp j (not_lt.mp h)
  · have hlt : j.val < (am s).val := hj
    have h : j.val < N := hlt.trans (am s).isLt
    have := hs ⟨j.val, h⟩
    have e : (⟨j.val, h⟩ : Fin N).castLE hNM = j := Fin.ext rfl
    rw [e] at this; rw [this, hs]
    exact (am_spec s).2 _ hlt

/-! ## A scan for the first maximum -/

/-- One step of a left-to-right scan: the later entry wins only when it is strictly greater, or equal and not at a
    greater position. -/
def pick (a b : EReal × BitVec 32) : EReal × BitVec 32 :=
  if b.1 < a.1 then a else if a.1 = b.1 ∧ a.2.slt b.2 = true then (b.1, a.2) else b

theorem scan_range {N : ℕ} (hN : N ≤ 2 ^ 31) (x : ℕ → EReal) (k : ℕ) (hk : k ≤ N) :
    (k = 0 ∧ (List.range k).foldl (fun a n => pick a (x n, BitVec.ofNat 32 n)) (⊥, 0#32) = (⊥, 0#32)) ∨
    ∃ i < k, (List.range k).foldl (fun a n => pick a (x n, BitVec.ofNat 32 n)) (⊥, 0#32) = (x i, BitVec.ofNat 32 i)
      ∧ (∀ j < k, x j ≤ x i) ∧ ∀ j < i, x j < x i := by
  induction k with
  | zero => exact Or.inl ⟨rfl, rfl⟩
  | succ k ih =>
    right
    rw [List.range_succ, List.foldl_append, List.foldl_cons, List.foldl_nil]
    rcases ih (by omega) with ⟨rfl, h⟩ | ⟨i, hi, h, h1, h2⟩
    · refine ⟨0, by omega, ?_, ?_, ?_⟩
      · rw [h]; unfold pick
        rw [if_neg (by simp), if_neg]
        rintro ⟨-, h'⟩
        have h'' : (0#32).slt (BitVec.ofNat 32 0) = true := h'
        exact absurd h'' (by decide)
      · intro j hj; have : j = 0 := by omega
        rw [this]
      · intro j hj; omega
    · rw [h]; unfold pick
      have hslt : (BitVec.ofNat 32 i).slt (BitVec.ofNat 32 k) = true := by
        rw [BitVec.slt_iff_toInt_lt, BitVec.toInt_eq_toNat_cond, BitVec.toInt_eq_toNat_cond]
        simp only [BitVec.toNat_ofNat]
        rw [Nat.mod_eq_of_lt (by omega), Nat.mod_eq_of_lt (by omega), if_pos (by omega), if_pos (by omega)]
        omega
      by_cases c1 : x k < x i
      · rw [if_pos c1]
        refine ⟨i, by omega, rfl, fun j hj => ?_, h2⟩
        rcases Nat.lt_succ_iff_lt_or_eq.mp hj with hj | rfl
        · exact h1 j hj
        · exact c1.le
      · rw [if_neg c1]
        by_cases c2 : x i = x k
        · rw [if_pos ⟨c2, hslt⟩]
          refine ⟨i, by omega, by rw [c2], fun j hj => ?_, h2⟩
          rcases Nat.lt_succ_iff_lt_or_eq.mp hj with hj | rfl
          · exact h1 j hj
          · exact c2.ge
        · rw [if_neg (fun h => c2 h.1)]
          have c3 : x i < x k := lt_of_le_of_ne (not_lt.mp c1) c2
          refine ⟨k, by omega, rfl, fun j hj => ?_, fun j hj => (h1 j hj).trans_lt c3⟩
          rcases Nat.lt_succ_iff_lt_or_eq.mp hj with hj | rfl
          · exact (h1 j hj).trans c3.le
          · exact le_rfl

/-- The scan over a whole row ends with the position of the row's first maximum. -/
theorem scan_firstMax {N : ℕ} [NeZero N] (hN : N ≤ 2 ^ 31) (x : Fin N → EReal) :
    ((List.finRange N).foldl (fun a n => pick a (x n, BitVec.ofNat 32 n.val)) (⊥, 0#32)).2 = BitVec.ofNat 32 (am x).val := by
  let y : ℕ → EReal := fun n => if h : n < N then x ⟨n, h⟩ else ⊥
  have e : (List.finRange N).foldl (fun a n => pick a (x n, BitVec.ofNat 32 n.val)) (⊥, 0#32)
      = (List.range N).foldl (fun a n => pick a (y n, BitVec.ofNat 32 n)) (⊥, 0#32) := by
    rw [← List.map_coe_finRange_eq_range, List.foldl_map]
    congr 1; funext a n
    simp only [y, n.isLt, dif_pos, Fin.eta]
  rw [e]
  rcases scan_range hN y N le_rfl with ⟨h0, -⟩ | ⟨i, hi, h, h1, h2⟩
  · exact absurd h0 (NeZero.ne N)
  · rw [h]
    have : am x = ⟨i, hi⟩ := by
      refine am_eq ⟨fun j => ?_, fun j hj => ?_⟩
      · have := h1 j.val j.isLt
        simpa only [y, j.isLt, hi, dif_pos, Fin.eta] using this
      · have := h2 j.val hj
        simpa only [y, j.isLt, hi, dif_pos, Fin.eta] using this
    rw [this]

/-! ## Overlap and weight -/

/-- The area of a box `(x1, y1, x2, y2)`. -/
def area (p : Fin 4 → EReal) : EReal := max (p 2 - p 0) 0 * max (p 3 - p 1) 0

/-- The area two boxes share. -/
def inter (p q : Fin 4 → EReal) : EReal := max (min (p 2) (q 2) - max (p 0) (q 0)) 0 * max (min (p 3) (q 3) - max (p 1) (q 1)) 0

/-- Shared area over joint area. -/
def iou (p q : Fin 4 → EReal) : EReal := Ideal.div (inter p q) (max (area p + area q - inter p q) (w 0x3089705F#32))

/-- The weight an overlap gives: a Gaussian up to the threshold, zero above. -/
def wt (x : EReal) : EReal :=
  if x ≤ w 0x3E99999A#32 then Ideal.exp (Ideal.div (w 0xBF000000#32 * x * x) (w 0x3F000000#32)) else 0

/-- No weight is negative. -/
theorem wt_nonneg (x : EReal) : 0 ≤ wt x := by
  unfold wt
  split
  · generalize Ideal.div (w 0xBF000000#32 * x * x) (w 0x3F000000#32) = y
    induction y using EReal.rec with
    | bot => exact le_refl (0 : EReal)
    | top => exact le_top
    | coe r => exact EReal.coe_nonneg.mpr (Real.exp_pos r).le
  · exact le_rfl

/-! ## One round of the suppression -/

/-- One round on the row of one class: the best score is taken (set to −1), every other one weighted by its overlap
    with the best. -/
def stepRow {N : ℕ} [NeZero N] (B : Fin N → Fin 4 → EReal) (s : Fin N → EReal) : Fin N → EReal :=
  fun n => if n = am s then w 0xBF800000#32 else s n * wt (iou (B (am s)) (B n))

/-- The row after `t` rounds. -/
def rowAt {N : ℕ} [NeZero N] (B : Fin N → Fin 4 → EReal) (s0 : Fin N → EReal) : ℕ → Fin N → EReal
  | 0 => s0
  | t + 1 => stepRow B (rowAt B s0 t)

/-- The number of negative scores grows by one per round at most. -/
theorem card_neg_rowAt {N : ℕ} [NeZero N] (B : Fin N → Fin 4 → EReal) (s0 : Fin N → EReal) (h0 : ∀ n, 0 ≤ s0 n) (t : ℕ) :
    (Finset.univ.filter fun n => rowAt B s0 t n < 0).card ≤ t := by
  classical
  induction t with
  | zero =>
    rw [Nat.le_zero, Finset.card_eq_zero, Finset.filter_eq_empty_iff]
    intro n _; exact not_lt.mpr (h0 n)
  | succ t ih =>
    have hsub : (Finset.univ.filter fun n => rowAt B s0 (t + 1) n < 0)
        ⊆ insert (am (rowAt B s0 t)) (Finset.univ.filter fun n => rowAt B s0 t n < 0) := by
      intro n hn
      rw [Finset.mem_filter] at hn
      rw [Finset.mem_insert, Finset.mem_filter]
      by_cases e : n = am (rowAt B s0 t)
      · exact Or.inl e
      · right
        refine ⟨Finset.mem_univ _, ?_⟩
        by_contra hc
        have h1 : rowAt B s0 (t + 1) n = rowAt B s0 t n * wt (iou (B (am (rowAt B s0 t))) (B n)) := by
          show stepRow B (rowAt B s0 t) n = _
          unfold stepRow; rw [if_neg e]
        have := hn.2
        rw [h1] at this
        exact absurd (EReal.mul_nonneg (not_lt.mp hc) (wt_nonneg _)) (not_le.mpr this)
    exact (Finset.card_le_card hsub).trans ((Finset.card_insert_le _ _).trans (by omega))

/-- Before every score is used up, the best one is not negative. -/
theorem rowAt_am_nonneg {N : ℕ} [NeZero N] (B : Fin N → Fin 4 → EReal) (s0 : Fin N → EReal) (h0 : ∀ n, 0 ≤ s0 n) (t : ℕ)
    (ht : t < N) : 0 ≤ rowAt B s0 t (am (rowAt B s0 t)) := by
  classical
  by_contra hc
  have : (Finset.univ.filter fun n => rowAt B s0 t n < 0) = Finset.univ := by
    rw [Finset.filter_eq_self]
    intro n _
    exact ((am_spec (rowAt B s0 t)).1 n).trans_lt (not_le.mp hc)
  have h := card_neg_rowAt B s0 h0 t
  rw [this, Finset.card_univ, Fintype.card_fin] at h
  omega

/-- Rows extended by zero scores go through the same rounds: the best score stays among the first ones, and the
    extension stays zero. -/
theorem rowAt_castLE {N M : ℕ} [NeZero N] [NeZero M] (hNM : N ≤ M) (B : Fin N → Fin 4 → EReal) (B' : Fin M → Fin 4 → EReal)
    (hB : ∀ n : Fin N, B' (n.castLE hNM) = B n) (s0 : Fin N → EReal) (s0' : Fin M → EReal) (h0 : ∀ n, 0 ≤ s0 n)
    (hs : ∀ n : Fin N, s0' (n.castLE hNM) = s0 n) (hp : ∀ m : Fin M, N ≤ m.val → s0' m = 0) (t : ℕ) (ht : t < N) :
    (∀ n : Fin N, rowAt B' s0' t (n.castLE hNM) = rowAt B s0 t n) ∧ (∀ m : Fin M, N ≤ m.val → rowAt B' s0' t m = 0)
      ∧ am (rowAt B' s0' t) = (am (rowAt B s0 t)).castLE hNM := by
  have key : ∀ t, t < N → (∀ n : Fin N, rowAt B' s0' t (n.castLE hNM) = rowAt B s0 t n) →
      (∀ m : Fin M, N ≤ m.val → rowAt B' s0' t m = 0) → am (rowAt B' s0' t) = (am (rowAt B s0 t)).castLE hNM :=
    fun t ht h1 h2 => am_castLE hNM _ _ h1 fun m hm => (h2 m hm).trans_le (rowAt_am_nonneg B s0 h0 t ht)
  have main : ∀ t, t < N → (∀ n : Fin N, rowAt B' s0' t (n.castLE hNM) = rowAt B s0 t n) ∧
      (∀ m : Fin M, N ≤ m.val → rowAt B' s0' t m = 0) := by
    intro t
    induction t with
    | zero => exact fun _ => ⟨hs, hp⟩
    | succ t ih =>
      intro ht
      obtain ⟨h1, h2⟩ := ih (by omega)
      have ha := key t (by omega) h1 h2
      constructor
      · intro n
        show stepRow B' (rowAt B' s0' t) _ = stepRow B (rowAt B s0 t) n
        unfold stepRow
        rw [ha, h1, hB, hB]
        have : (n.castLE hNM = (am (rowAt B s0 t)).castLE hNM) ↔ n = am (rowAt B s0 t) :=
          ⟨fun h => Fin.castLE_injective hNM h, fun h => h ▸ rfl⟩
        simp only [this]
      · intro m hm
        show stepRow B' (rowAt B' s0' t) _ = 0
        unfold stepRow
        rw [ha, h2 m hm, if_neg, zero_mul]
        intro h
        have := congrArg Fin.val h
        have h3 := (am (rowAt B s0 t)).isLt
        simp only [Fin.val_castLE] at this
        omega
  obtain ⟨h1, h2⟩ := main t ht
  exact ⟨h1, h2, key t ht h1 h2⟩

/-! ## Rank -/

/-- Candidate `k` comes before candidate `j`: a greater value, or the same value at an earlier position. -/
def Beats {K : ℕ} (v : Fin K → EReal) (k j : Fin K) : Prop := v j < v k ∨ (v k = v j ∧ k < j)

/-- How many candidates come before candidate `j`. -/
def rk {K : ℕ} (v : Fin K → EReal) (j : Fin K) : ℕ := by
  classical exact (Finset.univ.filter fun k => Beats v k j).card

theorem Beats.trans {K : ℕ} {v : Fin K → EReal} {a b c : Fin K} (h : Beats v a b) (h' : Beats v b c) : Beats v a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Beats.irrefl {K : ℕ} (v : Fin K → EReal) (a : Fin K) : ¬ Beats v a a := by
  rintro (h | ⟨-, h⟩)
  · exact lt_irrefl _ h
  · exact lt_irrefl _ h

theorem Beats.total {K : ℕ} (v : Fin K → EReal) {a b : Fin K} (h : a ≠ b) : Beats v a b ∨ Beats v b a := by
  rcases lt_trichotomy (v a) (v b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- A candidate that comes before another has the smaller rank. -/
theorem rk_lt {K : ℕ} {v : Fin K → EReal} {a b : Fin K} (h : Beats v a b) : rk v a < rk v b := by
  classical
  unfold rk
  refine Finset.card_lt_card (Finset.ssubset_iff_of_subset (fun k hk => ?_) |>.mpr ⟨a, ?_, ?_⟩)
  · simp only [Finset.mem_filter, Finset.mem_univ, true_and] at hk ⊢
    exact hk.trans h
  · simpa using h
  · simpa using Beats.irrefl v a

/-- Two candidates never share a rank. -/
theorem rk_inj {K : ℕ} {v : Fin K → EReal} {a b : Fin K} (h : rk v a = rk v b) : a = b := by
  by_contra hne
  rcases Beats.total v hne with h' | h'
  · exact absurd h (rk_lt h').ne
  · exact absurd h (rk_lt h').ne'

/-- "Comes before", as a test. -/
def beatsB {K : ℕ} (v : Fin K → EReal) (k j : Fin K) : Bool := decide (v j < v k) || (decide (v k = v j) && decide (k < j))

theorem beatsB_iff {K : ℕ} (v : Fin K → EReal) (k j : Fin K) : beatsB v k j = true ↔ Beats v k j := by
  simp [beatsB, Beats]

theorem beatsB_total {K : ℕ} (v : Fin K → EReal) : StrictTotalBefore (beatsB v) where
  irrefl k := by
    rw [← Bool.not_eq_true, beatsB_iff]; exact Beats.irrefl v k
  trans a b c h h' := (beatsB_iff v a c).mpr (((beatsB_iff v a b).mp h).trans ((beatsB_iff v b c).mp h'))
  total a b h := by
    rw [beatsB_iff, beatsB_iff]; exact Beats.total v h

/-- A stable sort that compares the values alone sorts a list of ascending positions as one that also compares
    the positions. -/
theorem stableSort_beats {K : ℕ} (v : Fin K → EReal) (l : List (Fin K)) (hl : l.Pairwise (· < ·)) :
    stableSort (fun k j => decide (v j < v k)) l = stableSort (beatsB v) l := by
  induction l with
  | nil => rfl
  | cons a l ih =>
    rw [List.pairwise_cons] at hl
    unfold stableSort
    rw [ih hl.2]
    refine insertBefore_congr _ _ a _ fun b hb => ?_
    have hab : a < b := hl.1 b ((perm_stableSort (beatsB v) l).mem_iff.mp hb)
    simp [beatsB, not_lt.mpr hab.le]

/-- Position `r` of the stable descending sort holds the candidate of rank `r`. -/
theorem rk_sortedFrom {K : ℕ} (v : Fin K → EReal) (r : Fin K) :
    rk v (sortedFrom (fun k j => decide (v j < v k)) r) = r.val := by
  classical
  have e : sortedFrom (fun k j => decide (v j < v k)) = sortedFrom (beatsB v) := by
    have : sortPositions K (fun k j => decide (v j < v k)) = sortPositions K (beatsB v) :=
      stableSort_beats v _ (List.pairwise_lt_finRange K)
    funext r
    unfold sortedFrom
    simp only [List.get_eq_getElem, Fin.val_cast, this]
  rw [e]
  set σ := sortedFrom (beatsB v) with hσ
  have hT := beatsB_total v
  have hno : ∀ i j : Fin K, i < j → ¬ Beats v (σ j) (σ i) := fun i j hij => by
    rw [← beatsB_iff, Bool.not_eq_true]
    exact sortedFrom_noInversion (beatsB v) (beatsB v) (fun a b => hT.asymm a b) (fun _ _ h => h) hT.negTrans i j hij
  have hinj : Function.Injective σ := sortedFrom_injective _
  have hsurj : Function.Surjective σ := sortedFrom_surjective _
  have hiff : ∀ i, Beats v (σ i) (σ r) ↔ i < r := fun i => by
    constructor
    · intro h
      rcases lt_trichotomy i r with h' | h' | h'
      · exact h'
      · exact absurd (h' ▸ h) (Beats.irrefl v _)
      · exact absurd h (hno _ _ h')
    · intro h
      rcases Beats.total v (fun h' => h.ne (hinj h')) with h' | h'
      · exact h'
      · exact absurd h' (hno _ _ h)
  unfold rk
  have : (Finset.univ.filter fun k => Beats v k (σ r)) = (Finset.univ.filter fun i : Fin K => i < r).image σ := by
    ext k
    simp only [Finset.mem_filter, Finset.mem_univ, true_and, Finset.mem_image]
    constructor
    · intro h
      obtain ⟨i, rfl⟩ := hsurj k
      exact ⟨i, (hiff i).mp h, rfl⟩
    · rintro ⟨i, h, rfl⟩
      exact (hiff i).mpr h
  rw [this, Finset.card_image_of_injective _ hinj]
  have : (Finset.univ.filter fun i : Fin K => i < r) = Finset.Iio r := by ext; simp
  rw [this, Fin.card_Iio]

/-- Candidates put in front that are all below every other one do not change the others' ranks. -/
theorem rk_front {K M : ℕ} (v : Fin K → EReal) (u : Fin (M + K) → EReal) (hv : ∀ k : Fin K, u (Fin.natAdd M k) = v k)
    (hf : ∀ (m : Fin M) (k : Fin K), u (Fin.castAdd K m) < v k) (j : Fin K) : rk u (Fin.natAdd M j) = rk v j := by
  classical
  unfold rk
  have : (Finset.univ.filter fun k => Beats u k (Fin.natAdd M j))
      = (Finset.univ.filter fun k : Fin K => Beats v k j).map (Fin.natAddEmb M) := by
    ext k
    simp only [Finset.mem_filter, Finset.mem_univ, true_and, Finset.mem_map, Fin.natAddEmb_apply]
    refine Fin.addCases (fun m => ?_) (fun i => ?_) k
    · constructor
      · rintro (h | ⟨h, -⟩)
        · rw [hv] at h; exact absurd h (not_lt.mpr (hf m j).le)
        · rw [hv] at h; exact absurd h (hf m j).ne
      · rintro ⟨i, -, h⟩
        have h1 := congrArg Fin.val h
        simp only [Fin.val_natAdd, Fin.val_castAdd] at h1
        have := m.isLt
        omega
    · constructor
      · intro h
        refine ⟨i, ?_, rfl⟩
        unfold Beats at h ⊢
        rw [hv, hv] at h
        simpa using h
      · rintro ⟨i', h, h'⟩
        have : i' = i := by
          have h1 := congrArg Fin.val h'
          simp only [Fin.val_natAdd] at h1
          exact Fin.ext (by omega)
        subst this
        unfold Beats at h ⊢
        rw [hv, hv]
        simpa using h
  rw [this, Finset.card_map]

/-- Such a candidate's own rank is past all the others. -/
theorem rk_front_ge {K M : ℕ} (v : Fin K → EReal) (u : Fin (M + K) → EReal) (hv : ∀ k : Fin K, u (Fin.natAdd M k) = v k)
    (hf : ∀ (m : Fin M) (k : Fin K), u (Fin.castAdd K m) < v k) (m : Fin M) : K ≤ rk u (Fin.castAdd K m) := by
  classical
  unfold rk
  have : ((Finset.univ : Finset (Fin K)).map (Fin.natAddEmb M)) ⊆ (Finset.univ.filter fun k => Beats u k (Fin.castAdd K m)) := by
    intro k hk
    obtain ⟨i, -, rfl⟩ := Finset.mem_map.mp hk
    refine Finset.mem_filter.mpr ⟨Finset.mem_univ _, Or.inl ?_⟩
    exact (hf m i).trans_eq (hv i).symm
  have h := Finset.card_le_card this
  rwa [Finset.card_map, Finset.card_univ, Fintype.card_fin] at h

/-! ## The decoding of one box -/

/-- A corner clipped to the unit square. -/
def clip01 (x : EReal) : EReal := min 1 (max 0 x)

/-- A size offset clipped to the given ratio, symmetrically. -/
def clipR (mr x : EReal) : EReal := min mr (max (0 - mr) x)

/-- The size along one axis: the anchor's, scaled by the exponential of the clipped offset. -/
def size (mr lo hi d : EReal) : EReal := (hi - lo) * Ideal.exp (clipR mr d)

/-- The centre along one axis: the anchor's, moved by the offset times the anchor's size. -/
def centre (lo hi d : EReal) : EReal := lo + w 0x3F000000#32 * (hi - lo) + d * (hi - lo)

/-- The box an anchor `a` and its four offsets `g` decode to. -/
def box (mr : EReal) (g a : Fin 4 → EReal) : Fin 4 → EReal :=
  ![clip01 (centre (a 0) (a 2) (g 0) - w 0x3F000000#32 * size mr (a 0) (a 2) (g 2)),
    clip01 (centre (a 1) (a 3) (g 1) - w 0x3F000000#32 * size mr (a 1) (a 3) (g 3)),
    clip01 (centre (a 0) (a 2) (g 0) + w 0x3F000000#32 * size mr (a 0) (a 2) (g 2)),
    clip01 (centre (a 1) (a 3) (g 1) + w 0x3F000000#32 * size mr (a 1) (a 3) (g 3))]

/-! ## The whole computation -/

/-- The scores a class starts from: those of the rows whose best class passes the threshold and is not the background,
    and zero elsewhere. -/
def start (L : Fin 20000 → Fin 8 → EReal) (c : Fin 7) (n : Fin 20000) : EReal :=
  if w 0x3F333333#32 ≤ L n (am (L n)) ∧ L n 0 < L n (am (L n)) then L n c.succ else 0

/-- The row class `c` takes in round `t`. -/
def taken (L : Fin 20000 → Fin 8 → EReal) (B : Fin 20000 → Fin 4 → EReal) (c : Fin 7) (t : ℕ) : Fin 20000 :=
  am (rowAt B (start L c) t)

/-- The row candidate `j` of the 700 names: class `j / 100`, round `j % 100`. -/
def candRow (L : Fin 20000 → Fin 8 → EReal) (B : Fin 20000 → Fin 4 → EReal) (j : Fin 700) : Fin 20000 :=
  taken L B ⟨j.val / 100, by omega⟩ (j.val % 100)

/-- The value of candidate `j`. -/
def candVal (L : Fin 20000 → Fin 8 → EReal) (B : Fin 20000 → Fin 4 → EReal) (j : Fin 700) : EReal :=
  L (candRow L B j) (⟨j.val / 100, by omega⟩ : Fin 7).succ

end Cert.Model

end
-- ==== Proof.KernIdeal.lean ====
/-
  The kernel's first region at the extended reals: each block of the suppression loop read at an index, and the loop's
  three buffers as the rounds of the model.
-/
module

public import proofs.«01_k».proof.Proof.KernHost
public import proofs.«01_k».proof.Proof.Model
public import Idealize.ShloMosaic.Lib.Pointwise

@[expose] public section

set_option maxRecDepth 16384

noncomputable section

namespace Cert.KernIdeal

open Idealize.ShloMosaic Idealize.ShloMosaic.TcCoe
open Cert.KernelIdeal Cert.KernelIdeal.Gen Cert.KernLoop Cert.KernOut Cert.KernHost
open Cert.Model

/-! ## Numbers -/

theorem w_neg_inf : Ideal.ofBits .f32 0xFF800000#32 = ⊥ := by simp [Ideal.ofBits, Ideal.ieee]
theorem w_pos_inf : Ideal.ofBits .f32 0x7F800000#32 = ⊤ := by simp [Ideal.ofBits, Ideal.ieee]
theorem w_20480 : Ideal.ofBits .f32 0x46A00000#32 = ((20480 : ℝ) : EReal) := by
  simp [Ideal.ofBits, Ideal.ieee]; rw [← EReal.coe_mul]; norm_num
theorem w_low : Ideal.ofBits .f32 0xCE6E6B28#32 < 0 := by
  simp [Ideal.ofBits, Ideal.ieee]; norm_cast

/-- A small count as a 32-bit word, read signed, is the count. -/
theorem toInt_ofNat32 {n : ℕ} (h : n < 2 ^ 31) : (BitVec.ofNat 32 n).toInt = n := by
  rw [BitVec.toInt_eq_toNat_cond, BitVec.toNat_ofNat, Nat.mod_eq_of_lt (by omega), if_pos (by omega)]

/-- A small count as a word, converted, is the count. -/
theorem sitofp_ofNat {n : ℕ} (h : n < 2 ^ 31) :
    (FloatOps.sitofp (F := Ideal) .f32 (BitVec.ofNat 32 n)) = ((n : ℝ) : EReal) := by
  show (((BitVec.ofNat 32 n).toInt : ℝ) : EReal) = _
  rw [toInt_ofNat32 h]; norm_cast

/-- A truth value, widened and converted, is one or zero. -/
theorem sitofp_bit (p : Prop) [Decidable p] :
    (FloatOps.sitofp (F := Ideal) .f32 (BitVec.setWidth 32 (BitVec.ofBool (decide p)))) = if p then (1 : EReal) else 0 := by
  show (((BitVec.setWidth 32 (BitVec.ofBool (decide p))).toInt : ℝ) : EReal) = _
  by_cases h : p
  · rw [if_pos h, decide_eq_true h]
    have : (BitVec.setWidth 32 (BitVec.ofBool true)).toInt = 1 := by decide
    rw [this]; norm_num
  · rw [if_neg h, decide_eq_false h]
    have : (BitVec.setWidth 32 (BitVec.ofBool false)).toInt = 0 := by decide
    rw [this]; norm_num

/-- Two small counts as words are equal when the counts are. -/
theorem cmpi_eq_ofNat {a b : ℕ} (ha : a < 2 ^ 32) (hb : b < 2 ^ 32) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · intro h; rw [h]
  show BitVec.ofBool (BitVec.ofNat 32 a == BitVec.ofNat 32 b) = _
  congr 1
  rw [Bool.eq_iff_iff, beq_iff_eq, decide_eq_true_iff, this]

/-- A choice by a truth value as a word. -/
theorem select_bit {α : Type} (p : Prop) [Decidable p] (x y : α) :
    Scalar.select (BitVec.ofBool (decide p)) x y = if p then x else y := by
  by_cases h : p
  · rw [decide_eq_true h, if_pos h]; rfl
  · rw [decide_eq_false h, if_neg h]; rfl

theorem andi_bit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- A sum against an indicator is the value at the indicated place. -/
theorem sum_one_hot {ι : Type} [Fintype ι] [DecidableEq ι] (i : ι) (f : ι → EReal) :
    ∑ x, (if x = i then (1 : EReal) else 0) * f x = f i := by
  rw [Finset.sum_eq_single i]
  · rw [if_pos rfl, one_mul]
  · intro b _ h; rw [if_neg h, zero_mul]
  · intro h; exact absurd (Finset.mem_univ _) h

/-- The greatest of a row is the row at its first maximum. -/
theorem fold_max_am {N : ℕ} [NeZero N] (s : Fin N → EReal) : Finset.univ.fold max ⊥ s = s (am s) := by
  refine le_antisymm ?_ ?_
  · rw [Finset.fold_max_le]
    exact ⟨bot_le, fun j _ => (am_spec s).1 j⟩
  · rw [Finset.le_fold_max]
    exact Or.inr ⟨am s, Finset.mem_univ _, le_rfl⟩

/-- The least position at which a row is at its greatest is the first maximum. -/
theorem fold_min_am {N : ℕ} [NeZero N] (s : Fin N → EReal) (b : EReal) (hb : ∀ n : Fin N, ((n.val : ℝ) : EReal) ≤ b) :
    Finset.univ.fold min ⊤ (fun x : Fin N => if s x = s (am s) then ((x.val : ℝ) : EReal) else b) = (((am s).val : ℝ) : EReal) := by
  refine le_antisymm ?_ ?_
  · rw [Finset.fold_min_le]
    exact Or.inr ⟨am s, Finset.mem_univ _, by rw [if_pos rfl]⟩
  · rw [Finset.le_fold_min]
    refine ⟨le_top, fun j _ => ?_⟩
    split
    · rename_i h
      have : ¬ j < am s := fun hj => absurd h ((am_spec s).2 j hj).ne
      have : (am s).val ≤ j.val := not_lt.mp this
      exact_mod_cast this
    · exact hb _

/-! ## One trip of the loop -/

/-- The lane number, as the body counts it. -/
theorem pay41_apply (r : Fin 8) (l : Fin 20480) : (k0_pay41 (F := Ideal)) (ix2 r l) = ((l.val : ℝ) : EReal) := by
  pointwise [k0_pay41]
  exact sitofp_ofNat (by omega)

/-- The position the body takes on row `r`: the first maximum of the row. -/
theorem pay6_apply (s : FVec Ideal S8x20480 .f32) (r : Fin 8) (l : Fin 1) :
    (k0_pay6 (F := Ideal) k0_pay41 s) (ix2 r l) = (((am fun n => s (ix2 r n)).val : ℝ) : EReal) := by
  pointwise [k0_pay6]
  rw [w_neg_inf, w_pos_inf, w_20480]
  rw [fold_max_am fun x => s (ix2 r x)]
  simp only [pay41_apply]
  refine fold_min_am (fun n => s (ix2 r n)) _ fun n => ?_
  exact_mod_cast n.isLt.le

/-- The one-hot of that position. -/
theorem pay7_apply (s : FVec Ideal S8x20480 .f32) (r : Fin 8) (l : Fin 20480) :
    (k0_pay7 (F := Ideal) k0_pay41 s) (ix2 r l) = BitVec.ofBool (decide (l = am fun n => s (ix2 r n))) := by
  pointwise [k0_pay7]
  rw [pay6_apply, pay41_apply]
  have : (((l.val : ℝ) : EReal) = (((am fun n => s (ix2 r n)).val : ℝ) : EReal)) ↔ l = am fun n => s (ix2 r n) := by
    rw [EReal.coe_eq_coe_iff, Nat.cast_inj, Fin.ext_iff]
  simp only [this]

/-- The twelve numbers taken at that position. -/
theorem pay8_apply (s : FVec Ideal S8x20480 .f32) (cat : FVec Ideal S12x20480 .f32) (r : Fin 8) (k : Fin 12) :
    (k0_pay8 (F := Ideal) k0_pay41 s cat) (ix2 r k) = cat (ix2 k (am fun n => s (ix2 r n))) := by
  pointwise [k0_pay8]
  simp only [pay7_apply, sitofp_bit]
  exact sum_one_hot _ fun x => cat (ix2 k x)

/-- The scores after one trip are one round of the suppression on every row. -/
theorem sNext_apply (s : FVec Ideal S8x20480 .f32) (cat : FVec Ideal S12x20480 .f32) (ar : FVec Ideal S1x20480 .f32)
    (har : ∀ l : Fin 20480, ar (ix2 0 l) = area fun k => cat (ix2 (k.castLE (by decide)) l)) (r : Fin 8) (l : Fin 20480) :
    (sNext (F := Ideal) k0_pay41 cat ar s) (ix2 r l)
      = stepRow (fun n k => cat (ix2 (k.castLE (by decide)) n)) (fun n => s (ix2 r n)) l := by
  pointwise [sNext, k0_pay17, k0_pay14, k0_pay15, k0_pay16, k0_pay9, k0_pay10, k0_pay11, k0_pay12, catRow0, catRow1, catRow2, catRow3]
  rw [har]
  simp only [pay8_apply, pay7_apply]
  unfold stepRow
  by_cases h : l = am fun n => s (ix2 r n)
  · rw [decide_eq_true h, if_pos h]; rfl
  · rw [decide_eq_false h, if_neg h]; rfl

/-- The scores before trip `t` are the rounds of the suppression on every row. -/
theorem sAt_apply (s0 : FVec Ideal S8x20480 .f32) (cat : FVec Ideal S12x20480 .f32) (ar : FVec Ideal S1x20480 .f32)
    (har : ∀ l : Fin 20480, ar (ix2 0 l) = area fun k => cat (ix2 (k.castLE (by decide)) l)) (t : ℕ) (r : Fin 8) (l : Fin 20480) :
    (sAt (F := Ideal) k0_pay41 cat ar s0 t) (ix2 r l)
      = rowAt (fun n k => cat (ix2 (k.castLE (by decide)) n)) (fun n => s0 (ix2 r n)) t l := by
  induction t generalizing r l with
  | zero => rfl
  | succ t ih =>
    refine (sNext_apply _ cat ar har r l).trans ?_
    rw [show (fun n => (sAt (F := Ideal) k0_pay41 cat ar s0 t) (ix2 r n)) = _ from funext fun n => ih r n]
    rfl

/-- The number a trip adds for row `r`: the filler on row 0, else the row's own class score at the taken position. -/
theorem pay13_apply (s : FVec Ideal S8x20480 .f32) (cat : FVec Ideal S12x20480 .f32) (r : Fin 8) (l : Fin 1) :
    (k0_pay13 (F := Ideal) k0_pay41 rowI (k0_pay1 k0_pay42) s cat) (ix2 r l)
      = if r = 0 then w 0xCE6E6B28#32 else cat (ix2 (⟨4 + r.val, by omega⟩ : Fin 12) (am fun n => s (ix2 r n))) := by
  pointwise [k0_pay13, k0_pay1, k0_pay42]
  simp only [pay8_apply]
  rw [cmpi_eq_ofNat (by omega) (by omega), select_bit]
  have h0 : r.val = 0 ↔ r = 0 := by rw [Fin.ext_iff]; rfl
  simp only [h0]
  congr 1
  have hx : ∀ x : Fin 8, (FloatOps.sitofp (F := Ideal) .f32 (BitVec.setWidth 32 (IntOp.cmpi .eq (BitVec.ofNat 32 r.val) (BitVec.ofNat 32 x.val))))
      = if x = r then (1 : EReal) else 0 := fun x => by
    rw [cmpi_eq_ofNat (by omega) (by omega), sitofp_bit]
    have : r.val = x.val ↔ x = r := by rw [Fin.ext_iff, eq_comm]
    simp only [this]
  simp only [hx]
  refine Eq.trans (Finset.sum_congr rfl fun x _ => mul_comm _ _) ?_
  exact sum_one_hot r fun x : Fin 8 => cat (ix2 (⟨4 + x.val, by omega⟩ : Fin 12) (am fun n => s (ix2 r n)))

/-- The indicator of column `t`. -/
theorem pay18_apply (t : ℕ) (ht : t < 2 ^ 32) (r : Fin 1) (l : Fin 128) :
    (k0_pay18 (F := Ideal) colI (Scf.iv 0#32 1#32 t)) (ix2 r l) = if l.val = t then (1 : EReal) else 0 := by
  pointwise [k0_pay18]
  have : Scf.iv 0#32 1#32 t = BitVec.ofNat 32 t := by simp [Scf.iv]
  rw [this, cmpi_eq_ofNat (by omega) ht, sitofp_bit]

theorem pay4_apply (v : FVec Ideal S8x1 .f32) (o : FVec Ideal S1x128 .f32) (p : FVec Ideal S8x128 .f32) (r : Fin 8) (l : Fin 128) :
    (k0_pay4 (F := Ideal) v o p) (ix2 r l) = p (ix2 r l) + v (ix2 r 0) * o (ix2 0 l) := by
  pointwise [k0_pay4]
theorem pay5_apply (v : FVec Ideal S8x1 .f32) (o : FVec Ideal S1x128 .f32) (p : FVec Ideal S8x128 .f32) (r : Fin 8) (l : Fin 128) :
    (k0_pay5 (F := Ideal) v o p) (ix2 r l) = p (ix2 r l) + v (ix2 r 0) * o (ix2 0 l) := by
  pointwise [k0_pay5]
theorem pay2_apply (r : Fin 8) (l : Fin 128) : (k0_pay2 (F := Ideal)) (ix2 r l) = (0 : EReal) := by
  pointwise [k0_pay2]
theorem pay3_apply (r : Fin 8) (l : Fin 128) : (k0_pay3 (F := Ideal)) (ix2 r l) = (0 : EReal) := by
  pointwise [k0_pay3]

/-- The scores before the first trip on a class row. -/
theorem s0_apply (s : FVec Ideal S8x20480 .f32) (r : Fin 8) (l : Fin 20480) (hr : r ≠ 0) :
   (k0_pay40 (F := Ideal) s) (ix2 r l) =
     if w 0x3F333333#32 ≤ s (ix2 (am fun x => s (ix2 x l)) l) ∧ s (ix2 0 l) < s (ix2 (am fun x => s (ix2 x l)) l)
     then s (ix2 r l) else 0 := by
  pointwise [k0_pay40]
  rw [w_neg_inf]
  simp only [fold_max_am fun x => s (ix2 x l)]
  rw [cmpi_eq_ofNat (by omega) (by omega), andi_bit, select_bit, select_bit, if_neg]
  exact fun h => hr (Fin.ext h)

/-- The class scores at a lane of a row of the input. -/
def Lm (a0 : FVec Ideal S1x20000x1 .f32) (a1 : FVec Ideal S1x20000x8 .f32) (n : Fin 20000) (c : Fin 8) : EReal :=
  a0 (ix3 0 n 0) * a1 (ix3 0 n c)

/-- The greatest size ratio, as the named real. -/
def mr : EReal := ((-(Real.log (8589935 / 536870912)) : ℝ) : EReal)

/-- The decoded boxes. -/
def Bm (a2 : FVec Ideal S1x20000x4 .f32) (a3 : FVec Ideal S20000x4 .f32) (n : Fin 20000) : Fin 4 → EReal :=
  box mr (fun k => a2 (ix3 0 n k)) (fun k => a3 (ix2 n k))

theorem KL_apply (a0 : FVec Ideal S1x20000x1 .f32) (a1 : FVec Ideal S1x20000x8 .f32) (c : Fin 8) (l : Fin 20480) :
    (KL (F := Ideal) a0 a1) (ix2 c l) = if h : l.val < 20000 then Lm a0 a1 ⟨l.val, h⟩ c else 0 := by
  pointwise [KL, k0_pay19, scT, lgT, padZ]
  unfold Lm
  split
  · rfl
  · show ((((0#32 : BitVec 32).toInt : ℝ) : EReal)) * _ = 0
    simp

/-- The named greatest size ratio is the real it is named for. -/
theorem named_mr : Named.named (F := Ideal) κ "max_ratio" (φ := .f32) 0x40845349#32 = mr :=
  IdealRules.named_const.ideal_named_scalar κ "max_ratio" (φ := .f32) 0x40845349#32 _ rfl

/-- The lower eight of the twelve rows are the class scores. -/
theorem cat_logit (a0 : FVec Ideal S1x20480 .f32) (a1 : FVec Ideal S8x20480 .f32) (a2 : FVec Ideal S4x20480 .f32) (a3 : FVec Ideal S4x20480 .f32) (c : Fin 8) (l : Fin 20480) :
    (catB (F := Ideal) a0 a1 a2 a3) (ix2 (⟨4 + c.val, by omega⟩ : Fin 12) l) = (k0_pay19 (F := Ideal) a0 a1) (ix2 c l) := by
  have e : ∀ x : Fin 12, 4 ≤ x.val → ∀ h : x.val - 4 < 8, (catB (F := Ideal) a0 a1 a2 a3) (ix2 x l) = (k0_pay19 (F := Ideal) a0 a1) (ix2 ⟨x.val - 4, h⟩ l) := by
    intro x hx h
    pointwise [catB, k0_pay38, k0_pay37]
    exact dif_neg (by omega)
  refine (e ⟨4 + c.val, by omega⟩ (by simp) (by simp)).trans ?_
  congr 2
  exact Fin.ext (by simp)

/-- The upper four of the twelve rows are the boxes. -/
theorem cat_box (a0 : FVec Ideal S1x20480 .f32) (a1 : FVec Ideal S8x20480 .f32) (a2 : FVec Ideal S4x20480 .f32) (a3 : FVec Ideal S4x20480 .f32) (k : Fin 4) (l : Fin 20480) :
    (catB (F := Ideal) a0 a1 a2 a3) (ix2 (k.castLE (by decide) : Fin 12) l) = (boxesB (F := Ideal) a2 a3) (ix2 k l) := by
  have e : ∀ x : Fin 12, ∀ h : x.val < 4, (catB (F := Ideal) a0 a1 a2 a3) (ix2 x l) = (boxesB (F := Ideal) a2 a3) (ix2 ⟨x.val, h⟩ l) := by
    intro x hx
    pointwise [catB, k0_pay38, boxesB]
    exact dif_pos hx
  exact e (k.castLE (by decide)) k.isLt

section
variable (a2 : FVec Ideal S4x20480 .f32) (a3 : FVec Ideal S4x20480 .f32) (l : Fin 20480)

/-- The four corners at a lane. -/
theorem bL_apply : (boxL (F := Ideal) a2 a3) (ix2 0 l) = box mr (fun k => a2 (ix2 k l)) (fun k => a3 (ix2 k l)) 0 := by
  rw [← named_mr]
  pointwise [boxL,k0_pay33,k0_pay22,k0_pay24,k0_pay26,k0_pay28,k0_pay31,k0_pay29,k0_pay20,quadRow0,quadRow2,quadRow1,quadRow3]
  rfl
theorem bT_apply : (boxT (F := Ideal) a2 a3) (ix2 0 l) = box mr (fun k => a2 (ix2 k l)) (fun k => a3 (ix2 k l)) 1 := by
  rw [← named_mr]
  pointwise [boxT,k0_pay34,k0_pay23,k0_pay25,k0_pay27,k0_pay32,k0_pay30,k0_pay21,quadRow0,quadRow2,quadRow1,quadRow3]
  rfl
theorem bR_apply : (boxR (F := Ideal) a2 a3) (ix2 0 l) = box mr (fun k => a2 (ix2 k l)) (fun k => a3 (ix2 k l)) 2 := by
  rw [← named_mr]
  pointwise [boxR,k0_pay35,k0_pay22,k0_pay24,k0_pay26,k0_pay28,k0_pay31,k0_pay29,k0_pay20,quadRow0,quadRow2,quadRow1,quadRow3]
  rfl
theorem bB_apply : (boxB (F := Ideal) a2 a3) (ix2 0 l) = box mr (fun k => a2 (ix2 k l)) (fun k => a3 (ix2 k l)) 3 := by
  rw [← named_mr]
  pointwise [boxB,k0_pay36,k0_pay23,k0_pay25,k0_pay27,k0_pay32,k0_pay30,k0_pay21,quadRow0,quadRow2,quadRow1,quadRow3]
  rfl

/-- The boxes' block at a lane. -/
theorem boxes_apply (k : Fin 4) :
    (boxesB (F := Ideal) a2 a3) (ix2 k l) = box mr (fun k => a2 (ix2 k l)) (fun k => a3 (ix2 k l)) k := by
  pointwise [boxesB, k0_pay37]
  match k with
  | 0 => exact bL_apply a2 a3 l
  | 1 => exact bT_apply a2 a3 l
  | 2 => exact bR_apply a2 a3 l
  | 3 => exact bB_apply a2 a3 l

/-- The area at a lane is the area of the lane's box. -/
theorem area_apply : (areaB (F := Ideal) a2 a3) (ix2 0 l) = area fun k => (boxesB (F := Ideal) a2 a3) (ix2 k l) := by
  simp only [boxes_apply]
  pointwise [areaB, k0_pay39]
  rw [bL_apply, bT_apply, bR_apply, bB_apply]
  rfl

end

/-- The padded regression and anchors at a lane of a row of the input. -/
theorem rg_apply (a2 : FVec Ideal S1x20000x4 .f32) (k : Fin 4) (n : Fin 20000) :
    (rgT (F := Ideal) a2) (ix2 k (n.castLE (by decide) : Fin 20480)) = a2 (ix3 0 n k) := by
  have e : ∀ l : Fin 20480, ∀ h : l.val < 20000, (rgT (F := Ideal) a2) (ix2 k l) = a2 (ix3 0 ⟨l.val, h⟩ k) := by
    intro l h
    pointwise [rgT]
    exact dif_pos h
  exact e (n.castLE (by decide)) n.isLt
theorem an_apply (a3 : FVec Ideal S20000x4 .f32) (k : Fin 4) (n : Fin 20000) :
    (anT (F := Ideal) a3) (ix2 k (n.castLE (by decide) : Fin 20480)) = a3 (ix2 n k) := by
  have e : ∀ l : Fin 20480, ∀ h : l.val < 20000, (anT (F := Ideal) a3) (ix2 k l) = a3 (ix2 ⟨l.val, h⟩ k) := by
    intro l h
    pointwise [anT]
    exact dif_pos h
  exact e (n.castLE (by decide)) n.isLt

section
variable (a0 : FVec Ideal S1x20000x1 .f32) (a1 : FVec Ideal S1x20000x8 .f32) (a2 : FVec Ideal S1x20000x4 .f32) (a3 : FVec Ideal S20000x4 .f32)

theorem KL_row (c : Fin 8) (n : Fin 20000) : (KL (F := Ideal) a0 a1) (ix2 c (n.castLE (by decide) : Fin 20480)) = Lm a0 a1 n c :=
  (KL_apply a0 a1 c (n.castLE (by decide))).trans (dif_pos n.isLt)

theorem KB_row (k : Fin 4) (n : Fin 20000) : (KB (F := Ideal) a2 a3) (ix2 k (n.castLE (by decide) : Fin 20480)) = Bm a2 a3 n k := by
  refine (boxes_apply _ _ _ k).trans ?_
  simp only [rg_apply, an_apply]
  rfl

/-- The twelve rows, the scores before the first trip and the areas. -/
abbrev CAT : FVec Ideal S12x20480 .f32 := catB (F := Ideal) (scT a0) (lgT a1) (rgT a2) (anT a3)
abbrev AR : FVec Ideal S1x20480 .f32 := areaB (F := Ideal) (rgT a2) (anT a3)
abbrev S0 : FVec Ideal S8x20480 .f32 := s0B (F := Ideal) (scT a0) (lgT a1)

theorem AR_area (l : Fin 20480) : AR a2 a3 (ix2 0 l) = area fun k => CAT a0 a1 a2 a3 (ix2 (k.castLE (by decide)) l) := by
  refine (area_apply _ _ l).trans ?_
  congr 1
  funext k
  exact (cat_box _ _ _ _ k l).symm

theorem S0_row (c : Fin 7) (n : Fin 20000) : S0 a0 a1 (ix2 c.succ (n.castLE (by decide) : Fin 20480)) = start (Lm a0 a1) c n := by
  refine (s0_apply _ _ _ (Fin.succ_ne_zero c)).trans ?_
  have e : ∀ x : Fin 8, (k0_pay19 (F := Ideal) (scT a0) (lgT a1)) (ix2 x (n.castLE (by decide) : Fin 20480)) = Lm a0 a1 n x :=
    fun x => KL_row a0 a1 x n
  simp only [e]
  rfl

theorem S0_pad (c : Fin 7) (l : Fin 20480) (h : 20000 ≤ l.val) : S0 a0 a1 (ix2 c.succ l) = 0 := by
  refine (s0_apply _ _ _ (Fin.succ_ne_zero c)).trans ?_
  have e : (k0_pay19 (F := Ideal) (scT a0) (lgT a1)) (ix2 c.succ l) = 0 := (KL_apply a0 a1 c.succ l).trans (dif_neg (by omega))
  rw [e, ite_self]

/-- The lane a class takes in a trip is the row the suppression takes. -/
theorem taken_lane (hL : ∀ n c, 0 ≤ Lm a0 a1 n c) (c : Fin 7) (t : ℕ) (ht : t < 20000) :
    (am fun n => (sAt (F := Ideal) k0_pay41 (CAT a0 a1 a2 a3) (AR a2 a3) (S0 a0 a1) t) (ix2 c.succ n))
      = (taken (Lm a0 a1) (Bm a2 a3) c t).castLE (by decide) := by
  rw [show (fun n => (sAt (F := Ideal) k0_pay41 (CAT a0 a1 a2 a3) (AR a2 a3) (S0 a0 a1) t) (ix2 c.succ n)) = _ from
    funext fun n => sAt_apply _ _ _ (AR_area a0 a1 a2 a3) t c.succ n]
  refine (rowAt_castLE (N := 20000) (M := 20480) (by decide) (Bm a2 a3) _ (fun n => ?_) (start (Lm a0 a1) c) _ (fun n => ?_) (fun n => S0_row a0 a1 c n)
    (fun l h => S0_pad a0 a1 c l h) t ht).2.2
  · funext k
    exact (cat_box _ _ _ _ k _).trans (KB_row a2 a3 k n)
  · unfold start
    split
    · exact hL _ _
    · exact le_refl _

/-- A block that adds `f t` in column `t` at trip `t`, from zeros, holds `f l` in every column reached. -/
theorem columns (A f : ℕ → EReal) (l : ℕ) (h0 : A 0 = 0) (T : ℕ)
    (hs : ∀ t < T, A (t + 1) = A t + f t * (if l = t then 1 else 0)) : A T = if l < T then f l else 0 := by
  induction T with
  | zero => simpa using h0
  | succ T ih =>
    rw [hs T (Nat.lt_succ_self T), ih fun t ht => hs t (ht.trans (Nat.lt_succ_self T))]
    rcases Nat.lt_trichotomy l T with h | h | h
    · rw [if_pos h, if_neg h.ne, if_pos (by omega), mul_zero, add_zero]
    · subst h
      rw [if_neg (lt_irrefl l), if_pos rfl, if_pos (Nat.lt_succ_self l), mul_one, zero_add]
    · rw [if_neg (by omega), if_neg (by omega), if_neg (by omega), mul_zero, add_zero]

/-- The selected scores: the filler on row 0, and on a class row the class score of the row taken in that trip. -/
theorem KScore_apply (r : Fin 8) (l : Fin 128) (hl : l.val < 100) :
    (KScore (F := Ideal) a0 a1 a2 a3) (ix2 r l) = if r = 0 then w 0xCE6E6B28#32 else
      CAT a0 a1 a2 a3 (ix2 (⟨4 + r.val, by omega⟩ : Fin 12) (am fun n => (sAt (F := Ideal) k0_pay41 (CAT a0 a1 a2 a3) (AR a2 a3) (S0 a0 a1) l.val) (ix2 r n))) := by
  have := columns (fun t => (scoreAt (F := Ideal) k0_pay41 rowI k0_pay42 colI (CAT a0 a1 a2 a3) (AR a2 a3) (S0 a0 a1) (k0_pay2 (F := Ideal)) t) (ix2 r l))
    (fun t => if r = 0 then w 0xCE6E6B28#32 else
      CAT a0 a1 a2 a3 (ix2 (⟨4 + r.val, by omega⟩ : Fin 12) (am fun n => (sAt (F := Ideal) k0_pay41 (CAT a0 a1 a2 a3) (AR a2 a3) (S0 a0 a1) t) (ix2 r n))))
    l.val (pay2_apply r l) 100 (fun t ht => by
      refine (pay4_apply _ _ _ r l).trans ?_
      rw [pay13_apply, pay18_apply t (by omega)])
  rw [if_pos hl] at this
  exact this

theorem KIdx_apply (r : Fin 8) (l : Fin 128) (hl : l.val < 100) :
    (KIdx (F := Ideal) a0 a1 a2 a3) (ix2 r l) =
      (((am fun n => (sAt (F := Ideal) k0_pay41 (CAT a0 a1 a2 a3) (AR a2 a3) (S0 a0 a1) l.val) (ix2 r n)).val : ℝ) : EReal) := by
  have := columns (fun t => (idxAt (F := Ideal) k0_pay41 colI (CAT a0 a1 a2 a3) (AR a2 a3) (S0 a0 a1) (k0_pay3 (F := Ideal)) t) (ix2 r l))
    (fun t => (((am fun n => (sAt (F := Ideal) k0_pay41 (CAT a0 a1 a2 a3) (AR a2 a3) (S0 a0 a1) t) (ix2 r n)).val : ℝ) : EReal))
    l.val (pay3_apply r l) 100 (fun t ht => by
      refine (pay5_apply _ _ _ r l).trans ?_
      rw [pay6_apply, pay18_apply t (by omega)])
  rw [if_pos hl] at this
  exact this

/-- A class row's selected scores and indices. -/
theorem KScore_class (hL : ∀ n c, 0 ≤ Lm a0 a1 n c) (c : Fin 7) (l : Fin 128) (hl : l.val < 100) :
    (KScore (F := Ideal) a0 a1 a2 a3) (ix2 c.succ l) = Lm a0 a1 (taken (Lm a0 a1) (Bm a2 a3) c l.val) c.succ := by
  rw [KScore_apply a0 a1 a2 a3 _ _ hl, if_neg (Fin.succ_ne_zero c), taken_lane a0 a1 a2 a3 hL c l.val (by omega)]
  exact (cat_logit _ _ _ _ c.succ _).trans (KL_row a0 a1 c.succ _)

theorem KScore_zero (l : Fin 128) (hl : l.val < 100) : (KScore (F := Ideal) a0 a1 a2 a3) (ix2 0 l) = w 0xCE6E6B28#32 := by
  rw [KScore_apply a0 a1 a2 a3 _ _ hl, if_pos rfl]

theorem KIdx_class (hL : ∀ n c, 0 ≤ Lm a0 a1 n c) (c : Fin 7) (l : Fin 128) (hl : l.val < 100) :
    (KIdx (F := Ideal) a0 a1 a2 a3) (ix2 c.succ l) = (((taken (Lm a0 a1) (Bm a2 a3) c l.val).val : ℝ) : EReal) := by
  rw [KIdx_apply a0 a1 a2 a3 _ _ hl, taken_lane a0 a1 a2 a3 hL c l.val (by omega)]
  rfl

/-- Every index the kernel keeps is a lane's number. -/
theorem KIdx_nat (r : Fin 8) (l : Fin 128) (hl : l.val < 100) : ∃ n : Fin 20480, (KIdx (F := Ideal) a0 a1 a2 a3) (ix2 r l) = ((n.val : ℝ) : EReal) :=
  ⟨_, KIdx_apply a0 a1 a2 a3 r l hl⟩

end

end Cert.KernIdeal
end
-- ==== Proof.KernSel.lean ====
/-
  The kernel's second region at the extended reals: the ranks of the kept scores as sums of indicators, the row a rank
  names, and the two results as rows of the class scores and of the boxes.
-/
module

public import proofs.«01_k».proof.Proof.KernIdeal

@[expose] public section

set_option maxRecDepth 16384

noncomputable section

namespace Cert.KernSel

open Idealize.ShloMosaic Idealize.ShloMosaic.TcCoe
open Cert.KernelIdeal Cert.KernelIdeal.Gen Cert.KernLoop Cert.KernOut Cert.KernHost
open Cert.Model Cert.KernIdeal

/-- Either of two truth values as words. -/
theorem ori_bit (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

/-- Small counts as words compare as the counts do. -/
theorem cmpi_slt_ofNat {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  rw [BitVec.slt, toInt_ofNat32 ha, toInt_ofNat32 hb]
  simp

/-- A sum of ones counts. -/
theorem sum_ones {ι : Type} (s : Finset ι) : (∑ _i ∈ s, (1 : EReal)) = ((s.card : ℝ) : EReal) := by
  classical
  induction s using Finset.induction_on with
  | empty => simp
  | insert a s ha ih =>
    rw [Finset.sum_insert ha, ih, Finset.card_insert_of_notMem ha, ← EReal.coe_one, ← EReal.coe_add]
    push_cast
    rw [add_comm]

/-- A sum of indicators counts. -/
theorem sum_bits {ι : Type} [Fintype ι] (p : ι → Prop) [DecidablePred p] :
    (∑ i, if p i then (1 : EReal) else 0) = (((Finset.univ.filter p).card : ℝ) : EReal) := by
  rw [← Finset.sum_filter, sum_ones]

/-- The number a small count converts to. -/
theorem fptosi_nat {n : ℕ} (h : n < 2 ^ 31) : FloatOps.fptosi (F := Ideal) (φ := .f32) 32 ((n : ℝ) : EReal) = BitVec.ofNat 32 n := by
  show BitVec.ofInt 32 (max (-(2 ^ 31)) (min (2 ^ 31 - 1) (if (0 : ℝ) ≤ (n : ℝ) then ⌊(n : ℝ)⌋ else ⌈(n : ℝ)⌉))) = _
  rw [if_pos (Nat.cast_nonneg n), Int.floor_natCast, min_eq_right (by omega), max_eq_right (by omega)]
  rfl

/-- The rows in one line. -/
theorem flat_apply (x : FVec Ideal S8x128 .f32) (j : Fin 800) :
    (flat (F := Ideal) x) (ix1 j) = x (ix2 (⟨j.val / 100, by omega⟩ : Fin 8) (⟨j.val % 100, by omega⟩ : Fin 128)) := by
  pointwise [flat]

/-- The indicator of the lane that the candidate of rank `r` names. -/
theorem pay1_apply (u : Fin 800 → EReal) (a c : FVec Ideal S800x1 .f32) (b : FVec Ideal S1x800 .f32)
    (ha : ∀ x : Fin 800, a (ix2 x 0) = u x) (hb : ∀ x : Fin 800, b (ix2 0 x) = u x) (r : Fin 100) (j : Fin 800) (hj : rk u j = r.val)
    (n : Fin 20480) (hc : c (ix2 j 0) = ((n.val : ℝ) : EReal)) (l : Fin 20480) :
    (k1_pay1 (F := Ideal) a b c) (ix2 r l) = if l = n then (1 : EReal) else 0 := by
  classical
  pointwise [k1_pay1]
  simp only [ha, hb]
  have e1 : ∀ x x1 : Fin 800, FloatOps.sitofp (F := Ideal) .f32 (BitVec.setWidth 32
        (IntOp.ori (BitVec.ofBool (decide (u x < u x1))) (IntOp.andi (BitVec.ofBool (decide (u x1 = u x)))
          (IntOp.cmpi .slt (BitVec.ofNat 32 x1.val) (BitVec.ofNat 32 x.val)))))
      = if Beats u x1 x then (1 : EReal) else 0 := fun x x1 => by
    rw [cmpi_slt_ofNat (by omega) (by omega), andi_bit, ori_bit, sitofp_bit]
    exact if_congr Iff.rfl rfl rfl
  have e2 : ∀ x : Fin 800, (∑ x1 : Fin 800, if Beats u x1 x then (1 : EReal) else 0) = ((rk u x : ℝ) : EReal) := fun x => by
    rw [sum_bits]
    unfold rk
    congr!
  simp only [e1, e2]
  have e3 : ∀ x : Fin 800, (FloatOps.sitofp (F := Ideal) .f32 (BitVec.ofNat 32 r.val) = ((rk u x : ℝ) : EReal)) ↔ x = j := fun x => by
    rw [sitofp_ofNat (by omega), EReal.coe_eq_coe_iff, Nat.cast_inj, ← hj]
    exact ⟨fun h => (rk_inj h).symm, fun h => by rw [h]⟩
  have e4 : ∀ x : Fin 800, FloatOps.sitofp (F := Ideal) .f32 (BitVec.setWidth 32 (BitVec.ofBool (decide (FloatOps.sitofp (F := Ideal) .f32 (BitVec.ofNat 32 r.val) = ((rk u x : ℝ) : EReal)))))
      = if x = j then (1 : EReal) else 0 := fun x => by
    rw [sitofp_bit]
    simp only [e3]
  simp only [e4]
  rw [show (∑ x : Fin 800, (if x = j then (1 : EReal) else 0) * c (ix2 x 0)) = c (ix2 j 0) from sum_one_hot j fun x => c (ix2 x 0), hc,
    fptosi_nat (by omega), cmpi_eq_ofNat (by omega) (by omega), sitofp_bit]
  simp only [Fin.ext_iff]

section
variable (u : Fin 800 → EReal) (a c : FVec Ideal S800x1 .f32) (b : FVec Ideal S1x800 .f32)
    (ha : ∀ x : Fin 800, a (ix2 x 0) = u x) (hb : ∀ x : Fin 800, b (ix2 0 x) = u x) (r : Fin 100) (j : Fin 800) (hj : rk u j = r.val)
    (n : Fin 20480) (hc : c (ix2 j 0) = ((n.val : ℝ) : EReal))
include ha hb hj hc

/-- The result's row of rank `r` is the row of the class scores that the candidate names. -/
theorem pay2_sel (L : FVec Ideal S8x20480 .f32) (k : Fin 8) : (k1_pay2 (F := Ideal) a b c L) (ix2 r k) = L (ix2 k n) := by
  have e := pay1_apply u a c b ha hb r j hj n hc
  pointwise [k1_pay2]
  simp only [e]
  exact sum_one_hot n fun x => L (ix2 k x)

theorem pay3_sel (L : FVec Ideal S4x20480 .f32) (k : Fin 4) : (k1_pay3 (F := Ideal) a b c L) (ix2 r k) = L (ix2 k n) := by
  have e := pay1_apply u a c b ha hb r j hj n hc
  pointwise [k1_pay3]
  simp only [e]
  exact sum_one_hot n fun x => L (ix2 k x)

end

section
variable (a0 : FVec Ideal S1x20000x1 .f32) (a1 : FVec Ideal S1x20000x8 .f32) (a2 : FVec Ideal S1x20000x4 .f32) (a3 : FVec Ideal S20000x4 .f32)

/-- The kept scores in one line: a hundred fillers, then the 700 candidates. -/
def line (x : Fin (100 + 700)) : EReal := (flat (F := Ideal) (KScore (F := Ideal) a0 a1 a2 a3)) (ix1 (x : Fin 800))

theorem class_of (j : Fin 700) : (⟨(100 + j.val) / 100, by omega⟩ : Fin 8) = (⟨j.val / 100, by omega⟩ : Fin 7).succ := by
  apply Fin.ext
  show (100 + j.val) / 100 = j.val / 100 + 1
  omega

theorem line_back (hL : ∀ n c, 0 ≤ Lm a0 a1 n c) (j : Fin 700) :
    line a0 a1 a2 a3 (Fin.natAdd 100 j) = candVal (Lm a0 a1) (Bm a2 a3) j := by
  refine (flat_apply _ _).trans ?_
  have e1 : (⟨(Fin.natAdd 100 j).val / 100, by omega⟩ : Fin 8) = (⟨j.val / 100, by omega⟩ : Fin 7).succ := class_of j
  have e2 : (⟨(Fin.natAdd 100 j).val % 100, by omega⟩ : Fin 128) = ⟨j.val % 100, by omega⟩ := by
    apply Fin.ext
    show (100 + j.val) % 100 = j.val % 100
    omega
  rw [e1, e2, KScore_class a0 a1 a2 a3 hL _ _ (Nat.mod_lt _ (by decide))]
  rfl

theorem line_front (m : Fin 100) : line a0 a1 a2 a3 (Fin.castAdd 700 m) = w 0xCE6E6B28#32 := by
  refine (flat_apply _ _).trans ?_
  have e1 : (⟨(Fin.castAdd 700 m).val / 100, by omega⟩ : Fin 8) = 0 := by
    apply Fin.ext
    show m.val / 100 = 0
    omega
  rw [e1, KScore_zero a0 a1 a2 a3 _ (Nat.mod_lt _ (by decide))]

theorem idx_back (hL : ∀ n c, 0 ≤ Lm a0 a1 n c) (j : Fin 700) :
    (flat (F := Ideal) (KIdx (F := Ideal) a0 a1 a2 a3)) (ix1 (Fin.natAdd 100 j : Fin 800)) = (((candRow (Lm a0 a1) (Bm a2 a3) j).val : ℝ) : EReal) := by
  refine (flat_apply _ _).trans ?_
  have e1 : (⟨(Fin.natAdd 100 j).val / 100, by omega⟩ : Fin 8) = (⟨j.val / 100, by omega⟩ : Fin 7).succ := class_of j
  have e2 : (⟨(Fin.natAdd 100 j).val % 100, by omega⟩ : Fin 128) = ⟨j.val % 100, by omega⟩ := by
    apply Fin.ext
    show (100 + j.val) % 100 = j.val % 100
    omega
  rw [e1, e2, KIdx_class a0 a1 a2 a3 hL _ _ (Nat.mod_lt _ (by decide))]
  rfl

/-- The rank of a candidate in the line is its rank among the candidates. -/
theorem line_rank (hL : ∀ n c, 0 ≤ Lm a0 a1 n c) (j : Fin 700) :
    rk (line a0 a1 a2 a3) (Fin.natAdd 100 j) = rk (candVal (Lm a0 a1) (Bm a2 a3)) j :=
  rk_front _ _ (line_back a0 a1 a2 a3 hL) (fun m k => by
    rw [line_front]
    exact w_low.trans_le (hL _ _)) j

/-- The first result: row `r` is the row of the class scores of the candidate of rank `r`. -/
theorem KOut0_sel (hL : ∀ n c, 0 ≤ Lm a0 a1 n c) (r : Fin 100) (j : Fin 700) (hj : rk (candVal (Lm a0 a1) (Bm a2 a3)) j = r.val) (k : Fin 8) :
    (KOut0 (F := Ideal) a0 a1 a2 a3) (ix3 0 r k) = Lm a0 a1 (candRow (Lm a0 a1) (Bm a2 a3) j) k := by
  pointwise [KOut0]
  refine (pay2_sel (line a0 a1 a2 a3) _ _ _ (fun x => ?_) (fun x => ?_) r (Fin.natAdd 100 j : Fin 800)
    ((line_rank a0 a1 a2 a3 hL j).trans hj) ((candRow (Lm a0 a1) (Bm a2 a3) j).castLE (by decide)) ?_ _ k).trans (KL_row a0 a1 k _)
  · pointwise
    rfl
  · pointwise
    rfl
  · pointwise
    exact idx_back a0 a1 a2 a3 hL j

/-- The second result: row `r` is the box of the candidate of rank `r`. -/
theorem KOut1_sel (hL : ∀ n c, 0 ≤ Lm a0 a1 n c) (r : Fin 100) (j : Fin 700) (hj : rk (candVal (Lm a0 a1) (Bm a2 a3)) j = r.val) (k : Fin 4) :
    (KOut1 (F := Ideal) a0 a1 a2 a3) (ix3 0 r k) = Bm a2 a3 (candRow (Lm a0 a1) (Bm a2 a3) j) k := by
  pointwise [KOut1]
  refine (pay3_sel (line a0 a1 a2 a3) _ _ _ (fun x => ?_) (fun x => ?_) r (Fin.natAdd 100 j : Fin 800)
    ((line_rank a0 a1 a2 a3 hL j).trans hj) ((candRow (Lm a0 a1) (Bm a2 a3) j).castLE (by decide)) ?_ _ k).trans (KB_row a2 a3 k _)
  · pointwise
    rfl
  · pointwise
    rfl
  · pointwise
    exact idx_back a0 a1 a2 a3 hL j

end

end Cert.KernSel
end
-- ==== Proof.RefOps.lean ====
/-
  The reference's host operations that no library lemma reads at an index, at the extended reals: the arg-max along the
  last axis, the gathers of rows and of elements, the scatter of one number per class, and the ordering of the candidates.
-/
module

public import proofs.«01_k».proof.Proof.RefFrame
public import proofs.«01_k».proof.Proof.KernSel
public import Idealize.ShloMosaic.Lib.Routing.Ops
public import Idealize.ShloMosaic.Lib.Routing.OpsOrder

@[expose] public section

set_option maxRecDepth 16384

noncomputable section

namespace Cert.RefOps

open Idealize.ShloMosaic Idealize.ShloMosaic.TcCoe
open Cert.ReferenceIdeal Cert.ReferenceIdeal.Gen
open Cert.Model Cert.KernIdeal

/-! ## The arg-max along the last axis -/

/-- The positions that reduce to row `c`, in order, are row `c`'s. -/
theorem row_fiber {M N : ℕ} {t : Shape} (h : (⟨2, ![M, N]⟩ : Shape).ReducesTo [1] t) (j : t.Idx) (c : Fin M)
    (hc : c.val = (j ⟨0, h.lt_r2_a1_0⟩).val) :
    ((List.finRange (⟨2, ![M, N]⟩ : Shape).numel).filter fun n => h.drop ((⟨2, ![M, N]⟩ : Shape).rowMajor.symm n) = j)
      = (List.finRange N).map fun k => (⟨2, ![M, N]⟩ : Shape).rowMajor (ix2 c k) := by
  have hmem : ∀ n, h.drop ((⟨2, ![M, N]⟩ : Shape).rowMajor.symm n) = j ↔ ∃ k : Fin N, (⟨2, ![M, N]⟩ : Shape).rowMajor (ix2 c k) = n := fun n => by
    rw [h.fiber_r2_a1 j]
    have : (⟨(j ⟨0, h.lt_r2_a1_0⟩).val, Shape.coordLt (j ⟨0, h.lt_r2_a1_0⟩) h.size_r2_a1_0⟩ : Fin M) = c := Fin.ext hc.symm
    rw [this]
    constructor
    · rintro ⟨k, e⟩
      exact ⟨k, by rw [e, Equiv.apply_symm_apply]⟩
    · rintro ⟨k, e⟩
      exact ⟨k, by rw [← e, Equiv.symm_apply_apply]⟩
  refine List.Perm.eq_of_pairwise (le := fun a b => a < b) (fun a b _ _ h1 h2 => absurd (h1.trans h2) (lt_irrefl _)) ?_ ?_ ?_
  · exact (List.pairwise_lt_finRange _).filter _
  · rw [List.pairwise_map]
    refine (List.pairwise_lt_finRange N).imp fun {a b} hab => ?_
    show ((⟨2, ![M, N]⟩ : Shape).rowMajor (ix2 c a)).val < ((⟨2, ![M, N]⟩ : Shape).rowMajor (ix2 c b)).val
    rw [Shape.rowMajor_val_two, Shape.rowMajor_val_two]
    exact Nat.add_lt_add_left hab _
  · rw [List.perm_ext_iff_of_nodup]
    · intro n
      simp only [List.mem_filter, List.mem_finRange, true_and, decide_eq_true_eq, List.mem_map]
      exact hmem n
    · exact (List.nodup_finRange _).filter _
    · refine (List.nodup_finRange N).map fun a b e => ?_
      have e1 := congrFun ((⟨2, ![M, N]⟩ : Shape).rowMajor.injective e) 1
      exact e1

/-- The reducer's step is the model's. -/
theorem reducer_pick (a b : EReal × BitVec 32) : reducer_argmax_f32_i32 (F := Ideal) a b = pick a b := by
  have e2 : FloatOps.cmpf (F := Ideal) (φ := .f32) .ogt a.1 b.1 = BitVec.ofBool (decide (b.1 < a.1)) := rfl
  have e3 : FloatOps.cmpf (F := Ideal) (φ := .f32) .une a.1 a.1 = BitVec.ofBool (decide False) := by
    show BitVec.ofBool (decide (a.1 ≠ a.1)) = _
    congr 1
    simp
  have e5 : FloatOps.cmpf (F := Ideal) (φ := .f32) .oeq a.1 b.1 = BitVec.ofBool (decide (a.1 = b.1)) := rfl
  have e6 : IntOp.cmpi .slt a.2 b.2 = BitVec.ofBool (decide (a.2.slt b.2 = true)) := by
    show BitVec.ofBool (a.2.slt b.2) = _
    congr 1
    simp
  unfold reducer_argmax_f32_i32
  dsimp only
  rw [e2, e3, e5, e6, andi_bit, KernSel.ori_bit, KernSel.ori_bit, select_bit, select_bit]
  unfold pick
  by_cases h1 : b.1 < a.1
  · simp [h1]
  · by_cases h2 : a.1 = b.1 ∧ a.2.slt b.2 = true
    · simp [h1, h2]
    · simp [h1, h2]

/-- The arg-max along the last axis is the first greatest position. -/
theorem argmax_row {M N : ℕ} [NeZero N] (hN : N ≤ 2 ^ 31) {t u : Shape} (h : (⟨2, ![M, N]⟩ : Shape).ReducesTo [1] t) (hu : 0 < u.numel)
    (x : FVec Ideal ⟨2, ![M, N]⟩ .f32) (y : (⟨2, ![M, N]⟩ : Shape).Idx → BitVec 32) (ix : u.Idx → EReal) (iy : u.Idx → BitVec 32)
    (j : t.Idx) (c : Fin M) (hc : c.val = (j ⟨0, h.lt_r2_a1_0⟩).val) (hy : ∀ k : Fin N, y (ix2 c k) = BitVec.ofNat 32 k.val)
    (hix : ∀ i, ix i = ⊥) (hiy : ∀ i, iy i = 0#32) :
    (Host.argReduce (F := Ideal) (φ := .f32) reducer_argmax_f32_i32 x y ix iy h hu j).2 = BitVec.ofNat 32 (am fun k => x (ix2 c k)).val := by
  rw [Ideal.argReduce_eq_reduce2]
  unfold Host.reduce2
  rw [row_fiber h j c hc, List.foldl_map, hix, hiy]
  simp only [Equiv.symm_apply_apply, hy, reducer_pick]
  exact scan_firstMax hN fun k => x (ix2 c k)

/-! ## The ordering of the candidates -/

/-- The positions of the greatest, in order: the stable sort's, by "greater". -/
theorem topK_index {N K : ℕ} (hKN : K ≤ N) (x : FVec Ideal ⟨1, ![N]⟩ .f32) (v : Fin N → EReal) (hx : ∀ j, x (ix1 j) = v j)
    (h : Shape.Slices (⟨1, ![N]⟩ : Shape) (fun _ => 0) ⟨1, ![K]⟩) (r : Fin K) :
    (Host.topK (⟨1, ![K]⟩ : Shape) 0 (FloatOps.cmpfTotal (F := Ideal) (φ := .f32) .gt) x h).2 (ix1 r)
      = BitVec.ofNat 32 (sortedFrom (fun k j => decide (v j < v k)) (r.castLE hKN)).val := by
  have ha : ∀ (j : (⟨1, ![N]⟩ : Shape).Idx) (k : Fin N), Shape.Idx.along j (0 : Fin 1) k = ix1 k := fun j k =>
    (Shape.Idx.along_rank1 j k).trans (by
      funext b
      match b with
      | ⟨0, _⟩ => rfl)
  have hb : (fun k k' : Fin N => FloatOps.cmpfTotal (F := Ideal) (φ := .f32) .gt (v k) (v k') == 1#1) = fun k j => decide (v j < v k) := by
    funext k k'
    show (BitVec.ofBool (decide (v k' < v k)) == 1#1) = _
    by_cases hk : v k' < v k
    · rw [decide_eq_true hk]; rfl
    · rw [decide_eq_false hk]; rfl
  have he : ∀ (i : (⟨1, ![N]⟩ : Shape).Idx), (fun k k' : Fin N => FloatOps.cmpfTotal (F := Ideal) (φ := .f32) .gt (x (i.along (0 : Fin 1) k)) (x (i.along (0 : Fin 1) k')) == 1#1)
      = fun k j => decide (v j < v k) := fun i => by
    simp only [ha, hx]
    exact hb
  unfold Host.topK
  dsimp only
  unfold Host.sort2
  rw [dif_pos (show 0 < (⟨1, ![N]⟩ : Shape).rank from Nat.one_pos)]
  unfold extractStridedSlice
  dsimp only
  rw [dif_pos Nat.one_pos]
  have hi : ∀ (i : (⟨1, ![N]⟩ : Shape).Idx) (q q' : Fin N), q = q' → iotaInDim (⟨1, ![N]⟩ : Shape) 32 (0 : Fin 1) (i.along (0 : Fin 1) q) = BitVec.ofNat 32 q'.val := by
    rintro i q _ rfl
    rw [ha]
    rfl
  refine hi _ _ _ ?_
  exact (congrArg (fun B => sortedFrom B _) (he _)).trans (congrArg _ (Fin.ext (Nat.zero_add _)))

/-! ## Gathers -/

/-- A gather of single elements of a table: the entry that the two numbers name. -/
theorem gather_elem (x : FVec Ideal S20000x8 .f32) (idx : IVec S700x2 32) (j : Fin 700) (n : Fin 20000) (c : Fin 8)
    (h0 : idx (ix2 j 0) = BitVec.ofNat 32 n.val) (h1 : idx (ix2 j 1) = BitVec.ofNat 32 c.val) :
    Host.gather gather_S20000x8_S700x2_S700_n_01_n_n_01_1_11 x idx (ix1 j) = x (ix2 n c) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (by revert a; decide))]
  unfold GatherDims.start
  rw [dif_pos (by revert a; decide)]
  match a with
  | ⟨0, _⟩ =>
    have hsi : gather_S20000x8_S700x2_S700_n_01_n_n_01_1_11.siIdx (ix1 j) ⟨0, by decide⟩ = ix2 j 0 := by
      funext b
      match b with
      | ⟨0, _⟩ => rfl
      | ⟨1, _⟩ => rfl
    show min (idx (gather_S20000x8_S700x2_S700_n_01_n_n_01_1_11.siIdx (ix1 j) ⟨0, by decide⟩)).toInt.toNat (20000 - 1) = n.val
    rw [hsi, h0, toInt_ofNat32 (by omega)]
    omega
  | ⟨1, _⟩ =>
    have hsi : gather_S20000x8_S700x2_S700_n_01_n_n_01_1_11.siIdx (ix1 j) ⟨1, by decide⟩ = ix2 j 1 := by
      funext b
      match b with
      | ⟨0, _⟩ => rfl
      | ⟨1, _⟩ => rfl
    show min (idx (gather_S20000x8_S700x2_S700_n_01_n_n_01_1_11.siIdx (ix1 j) ⟨1, by decide⟩)).toInt.toNat (8 - 1) = c.val
    rw [hsi, h1, toInt_ofNat32 (by omega)]
    omega

/-! ## The scatter of one number per class -/

/-- Overwriting by one value under a condition, along a list. -/
theorem foldl_const {α β : Type} (L : List β) (p : β → Prop) [DecidablePred p] (v x0 : α) :
    ((∃ n ∈ L, p n) → L.foldl (fun a n => if p n then v else a) x0 = v)
      ∧ ((∀ n ∈ L, ¬ p n) → L.foldl (fun a n => if p n then v else a) x0 = x0) := by
  induction L generalizing x0 with
  | nil => exact ⟨fun ⟨_, h, _⟩ => absurd h List.not_mem_nil, fun _ => rfl⟩
  | cons b L ih =>
    rw [List.foldl_cons]
    by_cases hb : p b
    · refine ⟨fun _ => ?_, fun h => absurd hb (h b List.mem_cons_self)⟩
      rw [if_pos hb]
      by_cases hL : ∃ n ∈ L, p n
      · exact (ih v).1 hL
      · exact (ih v).2 fun n hn hp => hL ⟨n, hn, hp⟩
    · rw [if_neg hb]
      refine ⟨fun ⟨n, hn, hp⟩ => (ih x0).1 ?_, fun h => (ih x0).2 fun n hn => h n (List.mem_cons_of_mem _ hn)⟩
      rcases List.mem_cons.mp hn with rfl | hn
      · exact absurd hp hb
      · exact ⟨n, hn, hp⟩

/-- Where the scatter's update of class `c` lands. -/
theorem scatter_at (idx : IVec S7x2 32) (m : Fin 7 → Fin 20000)
    (h0 : ∀ c : Fin 7, idx (ix2 c 0) = BitVec.ofNat 32 c.val) (h1 : ∀ c : Fin 7, idx (ix2 c 1) = BitVec.ofNat 32 (m c).val) (c : Fin 7) :
    scatter_S7x20000_S7x2_S7_n_01_01_1.resultIdx? (ix1 c) idx = some (ix2 c (m c)) := by
  have hst0 : scatter_S7x20000_S7x2_S7_n_01_01_1.start (ix1 c) idx 0 = (c.val : Int) := by
    unfold ScatterDims.start
    rw [dif_pos (by decide)]
    have hsi : scatter_S7x20000_S7x2_S7_n_01_01_1.siIdx (ix1 c) ⟨0, by decide⟩ = ix2 c 0 := by
      funext b
      match b with
      | ⟨0, _⟩ => rfl
      | ⟨1, _⟩ => rfl
    show (idx (scatter_S7x20000_S7x2_S7_n_01_01_1.siIdx (ix1 c) ⟨0, by decide⟩)).toInt = _
    rw [hsi, h0, toInt_ofNat32 (by omega)]
  have hst1 : scatter_S7x20000_S7x2_S7_n_01_01_1.start (ix1 c) idx 1 = ((m c).val : Int) := by
    unfold ScatterDims.start
    rw [dif_pos (by decide)]
    have hsi : scatter_S7x20000_S7x2_S7_n_01_01_1.siIdx (ix1 c) ⟨1, by decide⟩ = ix2 c 1 := by
      funext b
      match b with
      | ⟨0, _⟩ => rfl
      | ⟨1, _⟩ => rfl
    show (idx (scatter_S7x20000_S7x2_S7_n_01_01_1.siIdx (ix1 c) ⟨1, by decide⟩)).toInt = _
    rw [hsi, h1, toInt_ofNat32 (by omega)]
  have hw : ∀ a, scatter_S7x20000_S7x2_S7_n_01_01_1.window (ix1 c) a = 0 := fun a => by
    unfold ScatterDims.window
    rw [dif_neg (by revert a; decide)]
  have hall : ∀ a, 0 ≤ scatter_S7x20000_S7x2_S7_n_01_01_1.start (ix1 c) idx a + scatter_S7x20000_S7x2_S7_n_01_01_1.window (ix1 c) a ∧
      scatter_S7x20000_S7x2_S7_n_01_01_1.start (ix1 c) idx a + scatter_S7x20000_S7x2_S7_n_01_01_1.window (ix1 c) a < S7x20000.size a := fun a => by
    rw [hw]
    match a with
    | ⟨0, _⟩ =>
      have : (S7x20000.size ⟨0, by decide⟩) = 7 := rfl
      rw [this]
      show 0 ≤ scatter_S7x20000_S7x2_S7_n_01_01_1.start (ix1 c) idx 0 + _ ∧ scatter_S7x20000_S7x2_S7_n_01_01_1.start (ix1 c) idx 0 + _ < _
      rw [hst0]
      omega
    | ⟨1, _⟩ =>
      have : (S7x20000.size ⟨1, by decide⟩) = 20000 := rfl
      rw [this]
      show 0 ≤ scatter_S7x20000_S7x2_S7_n_01_01_1.start (ix1 c) idx 1 + _ ∧ scatter_S7x20000_S7x2_S7_n_01_01_1.start (ix1 c) idx 1 + _ < _
      rw [hst1]
      omega
  unfold ScatterDims.resultIdx?
  rw [dif_pos hall]
  congr 1
  funext a
  apply Fin.ext
  show (scatter_S7x20000_S7x2_S7_n_01_01_1.start (ix1 c) idx a + scatter_S7x20000_S7x2_S7_n_01_01_1.window (ix1 c) a).toNat = _
  rw [hw]
  match a with
  | ⟨0, _⟩ =>
    show (scatter_S7x20000_S7x2_S7_n_01_01_1.start (ix1 c) idx 0 + ((0 : Nat) : Int)).toNat = c.val
    rw [hst0]
    omega
  | ⟨1, _⟩ =>
    show (scatter_S7x20000_S7x2_S7_n_01_01_1.start (ix1 c) idx 1 + ((0 : Nat) : Int)).toNat = (m c).val
    rw [hst1]
    omega

/-- The scatter writes `v` at each class's position and leaves every other entry. -/
theorem scatter_row (x : FVec Ideal S7x20000 .f32) (idx : IVec S7x2 32) (upd : FVec Ideal S7 .f32) (v : EReal)
    (m : Fin 7 → Fin 20000) (h0 : ∀ c : Fin 7, idx (ix2 c 0) = BitVec.ofNat 32 c.val) (h1 : ∀ c : Fin 7, idx (ix2 c 1) = BitVec.ofNat 32 (m c).val)
    (hu : ∀ i, upd i = v) (c : Fin 7) (n : Fin 20000) :
    Host.scatter scatter_S7x20000_S7x2_S7_n_01_01_1 (fun _ b => b) x idx upd (ix2 c n) = if n = m c then v else x (ix2 c n) := by
  rw [← Routing.scatterIn_finRange, Routing.scatterIn_at]
  simp only [hu]
  have key : ∀ c' : Fin 7, scatter_S7x20000_S7x2_S7_n_01_01_1.resultIdx? (ix1 c') idx = some (ix2 c n) ↔ c' = c ∧ n = m c' := fun c' => by
    rw [scatter_at idx m h0 h1 c', Option.some_inj]
    constructor
    · intro e
      exact ⟨congrFun e 0, (congrFun e 1).symm⟩
    · rintro ⟨rfl, rfl⟩
      rfl
  by_cases h : n = m c
  · rw [if_pos h]
    refine (foldl_const _ _ _ _).1 ⟨S7.rowMajor (ix1 c), List.mem_finRange _, ?_⟩
    rw [Equiv.symm_apply_apply]
    exact (key c).mpr ⟨rfl, h⟩
  · rw [if_neg h]
    refine (foldl_const _ _ _ _).2 fun i _ hi => h ?_
    have e : S7.rowMajor.symm i = ix1 (S7.rowMajor.symm i 0) := by
      funext b
      match b with
      | ⟨0, _⟩ => rfl
    rw [e] at hi
    obtain ⟨h1, h2⟩ := (key _).mp hi
    rwa [h1] at h2

end Cert.RefOps
end
-- ==== Proof.RefTrip.lean ====
/- One trip of the reference's loop: what its body leaves in each buffer the loop carries, as terms over the trip's entry
   contents, window by window. -/
module

public import proofs.«01_k».proof.Proof.RefRun

@[expose] public section

-- a long stretch's `::` list and the decided enumerations over the program's references recurse past the default depth
set_option maxRecDepth 2684

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## One trip's values -/

/-- The function of the body's operation that writes `main_while0b_v235`, named. It packs its operands into a list of dependent pairs
    whose shapes a later argument's type mentions, so `simp` cannot rewrite an operand where it stands; applied by
    name, the operands are plain arguments, which the window lemmas below rewrite before the name unfolds. -/
def fn_main_while0b_v235 : (⟨S7x1, .i32⟩ : BufTy).Contents (Elt F) → (⟨S7x1, .i32⟩ : BufTy).Contents (Elt F) → (⟨S7x2, .i32⟩ : BufTy).Contents (Elt F) :=
  (fun a b => concatenate S7x2 1 [⟨S7x1, a⟩, ⟨S7x1, b⟩] concatenates_S7x1_S7x1_S7x2_d1)

/-- The body's operations 1 … 5 of 147. -/
abbrev trip_w0 : List (HloOp τ sig (Elt F)) :=
  [ StableHlo.TRef.nullary (.of main_while0b_call5_v0 : StableHlo.TRef sig ⟨S7x20000, .i32⟩) (iotaInDim S7x20000 32 1),
    StableHlo.TRef.nullary (.of main_while0b_call5_cst : StableHlo.TRef sig ⟨S_, .f32⟩) (constant S_ .f32 0xFF800000#32),
    StableHlo.TRef.nullary (.of main_while0b_call5_c : StableHlo.TRef sig ⟨S_, .i32⟩) (constantI S_ 32 0#32),
    StableHlo.TRef.quaternary (.of main_v78_3 : StableHlo.TRef sig ⟨S7x20000, .f32⟩) (.of main_while0b_call5_v0 : StableHlo.TRef sig ⟨S7x20000, .i32⟩) (.of main_while0b_call5_cst : StableHlo.TRef sig ⟨S_, .f32⟩) (.of main_while0b_call5_c : StableHlo.TRef sig ⟨S_, .i32⟩) (.of main_while0b_call5_v1_0 : StableHlo.TRef sig ⟨S7, .f32⟩) (fun x y u v j => (Host.argReduce reducer_argmax_f32_i32 x y u v reducesTo_S7x20000_S7_d1 h_S_ j).1),
    StableHlo.TRef.quaternary (.of main_v78_3 : StableHlo.TRef sig ⟨S7x20000, .f32⟩) (.of main_while0b_call5_v0 : StableHlo.TRef sig ⟨S7x20000, .i32⟩) (.of main_while0b_call5_cst : StableHlo.TRef sig ⟨S_, .f32⟩) (.of main_while0b_call5_c : StableHlo.TRef sig ⟨S_, .i32⟩) (.of main_while0b_v123 : StableHlo.TRef sig ⟨S7, .i32⟩) (fun x y u v j => (Host.argReduce reducer_argmax_f32_i32 x y u v reducesTo_S7x20000_S7_d1 h_S_ j).2) ]

/-- The body's operations 6 … 29 of 147. -/
abbrev trip_w1 : List (HloOp τ sig (Elt F)) :=
  [ StableHlo.nullary main_while0b_c_28 (constantI S_ 32 0#32),
    StableHlo.unary main_while0b_c_28 main_while0b_v124 (broadcastInDim S7 ![] bcast_S_S7 : (⟨S_, .i32⟩ : BufTy).Contents (Elt F) → (⟨S7, .i32⟩ : BufTy).Contents (Elt F)),
    StableHlo.binary main_while0b_v123 main_while0b_v124 main_while0b_v125 (cmpi .slt : (⟨S7, .i32⟩ : BufTy).Contents (Elt F) → (⟨S7, .i32⟩ : BufTy).Contents (Elt F) → (⟨S7, .i1⟩ : BufTy).Contents (Elt F)),
    StableHlo.nullary main_while0b_c_29 (constantI S_ 32 20000#32),
    StableHlo.unary main_while0b_c_29 main_while0b_v126 (broadcastInDim S7 ![] bcast_S_S7 : (⟨S_, .i32⟩ : BufTy).Contents (Elt F) → (⟨S7, .i32⟩ : BufTy).Contents (Elt F)),
    StableHlo.binary main_while0b_v123 main_while0b_v126 main_while0b_v127 (addi : (⟨S7, .i32⟩ : BufTy).Contents (Elt F) → (⟨S7, .i32⟩ : BufTy).Contents (Elt F) → (⟨S7, .i32⟩ : BufTy).Contents (Elt F)),
    StableHlo.ternary main_while0b_v125 main_while0b_v127 main_while0b_v123 main_while0b_v128 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.unary main_while0b_v128 main_while0b_v129 (broadcastInDim S7x1 ![0] bcast_S7_S7x1_0 : (⟨S7, .i32⟩ : BufTy).Contents (Elt F) → (⟨S7x1, .i32⟩ : BufTy).Contents (Elt F)),
    StableHlo.binary main_v78_0 main_while0b_v129 main_while0b_v130 ((fun x i => Host.gather gather_S20000x4_S7x1_S7x4_1_0_n_n_0_1_14 x i) : (⟨S20000x4, .f32⟩ : BufTy).Contents (Elt F) → (⟨S7x1, .i32⟩ : BufTy).Contents (Elt F) → (⟨S7x4, .f32⟩ : BufTy).Contents (Elt F)),
    StableHlo.unary main_while0b_v130 main_while0b_v131 ((extractStridedSlice S7x1 ![0, 0] · slices_S7x4_S7x1_0_0) : (⟨S7x4, .f32⟩ : BufTy).Contents (Elt F) → (⟨S7x1, .f32⟩ : BufTy).Contents (Elt F)),
    StableHlo.reshape main_while0b_v131 main_while0b_v132 (rfl : (.f32 : EltTy) = .f32) shapeCasts_S7x1_S7,
    StableHlo.unary main_v78_0 main_while0b_v133 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v133 main_while0b_v134 (rfl : (.f32 : EltTy) = .f32) shapeCasts_S20000x1_S20000,
    StableHlo.unary main_while0b_v134 main_while0b_v135 (broadcastInDim S1x20000 ![1] bcast_S20000_S1x20000_1 : (⟨S20000, .f32⟩ : BufTy).Contents (Elt F) → (⟨S1x20000, .f32⟩ : BufTy).Contents (Elt F)),
    StableHlo.unary main_while0b_v132 main_while0b_v136 (broadcastInDim S7x1 ![0] bcast_S7_S7x1_0 : (⟨S7, .f32⟩ : BufTy).Contents (Elt F) → (⟨S7x1, .f32⟩ : BufTy).Contents (Elt F)),
    StableHlo.unary main_while0b_v136 main_while0b_v137 (broadcastInDim S7x20000 ![0, 1] bcast_S7x1_S7x20000_0_1 : (⟨S7x1, .f32⟩ : BufTy).Contents (Elt F) → (⟨S7x20000, .f32⟩ : BufTy).Contents (Elt F)),
    StableHlo.unary main_while0b_v135 main_while0b_v138 (broadcastInDim S7x20000 ![0, 1] bcast_S1x20000_S7x20000_0_1 : (⟨S1x20000, .f32⟩ : BufTy).Contents (Elt F) → (⟨S7x20000, .f32⟩ : BufTy).Contents (Elt F)),
    StableHlo.binary main_while0b_v137 main_while0b_v138 main_while0b_v139 (maximumf : (⟨S7x20000, .f32⟩ : BufTy).Contents (Elt F) → (⟨S7x20000, .f32⟩ : BufTy).Contents (Elt F) → (⟨S7x20000, .f32⟩ : BufTy).Contents (Elt F)),
    StableHlo.unary main_while0b_v130 main_while0b_v140 ((extractStridedSlice S7x1 ![0, 1] · slices_S7x4_S7x1_0_1) : (⟨S7x4, .f32⟩ : BufTy).Contents (Elt F) → (⟨S7x1, .f32⟩ : BufTy).Contents (Elt F)),
    StableHlo.reshape main_while0b_v140 main_while0b_v141 (rfl : (.f32 : EltTy) = .f32) shapeCasts_S7x1_S7,
    StableHlo.unary main_v78_0 main_while0b_v142 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v142 main_while0b_v143 (rfl : (.f32 : EltTy) = .f32) shapeCasts_S20000x1_S20000,
    StableHlo.unary main_while0b_v143 main_while0b_v144 (broadcastInDim S1x20000 ![1] bcast_S20000_S1x20000_1 : (⟨S20000, .f32⟩ : BufTy).Contents (Elt F) → (⟨S1x20000, .f32⟩ : BufTy).Contents (Elt F)),
    StableHlo.unary main_while0b_v141 main_while0b_v145 (broadcastInDim S7x1 ![0] bcast_S7_S7x1_0 : (⟨S7, .f32⟩ : BufTy).Contents (Elt F) → (⟨S7x1, .f32⟩ : BufTy).Contents (Elt F)) ]

/-- The body's operations 30 … 53 of 147. -/
abbrev trip_w2 : List (HloOp τ sig (Elt F)) :=
  [ StableHlo.unary main_while0b_v145 main_while0b_v146 (broadcastInDim S7x20000 ![0, 1] bcast_S7x1_S7x20000_0_1 : (⟨S7x1, .f32⟩ : BufTy).Contents (Elt F) → (⟨S7x20000, .f32⟩ : BufTy).Contents (Elt F)),
    StableHlo.unary main_while0b_v144 main_while0b_v147 (broadcastInDim S7x20000 ![0, 1] bcast_S1x20000_S7x20000_0_1 : (⟨S1x20000, .f32⟩ : BufTy).Contents (Elt F) → (⟨S7x20000, .f32⟩ : BufTy).Contents (Elt F)),
    StableHlo.binary main_while0b_v146 main_while0b_v147 main_while0b_v148 (maximumf : (⟨S7x20000, .f32⟩ : BufTy).Contents (Elt F) → (⟨S7x20000, .f32⟩ : BufTy).Contents (Elt F) → (⟨S7x20000, .f32⟩ : BufTy).Contents (Elt F)),
    StableHlo.unary main_while0b_v130 main_while0b_v149 ((extractStridedSlice S7x1 ![0, 2] · slices_S7x4_S7x1_0_2) : (⟨S7x4, .f32⟩ : BufTy).Contents (Elt F) → (⟨S7x1, .f32⟩ : BufTy).Contents (Elt F)),
    StableHlo.reshape main_while0b_v149 main_while0b_v150 (rfl : (.f32 : EltTy) = .f32) shapeCasts_S7x1_S7,
    StableHlo.unary main_v78_0 main_while0b_v151 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v151 main_while0b_v152 (rfl : (.f32 : EltTy) = .f32) shapeCasts_S20000x1_S20000,
    StableHlo.unary main_while0b_v152 main_while0b_v153 (broadcastInDim S1x20000 ![1] bcast_S20000_S1x20000_1 : (⟨S20000, .f32⟩ : BufTy).Contents (Elt F) → (⟨S1x20000, .f32⟩ : BufTy).Contents (Elt F)),
    StableHlo.unary main_while0b_v150 main_while0b_v154 (broadcastInDim S7x1 ![0] bcast_S7_S7x1_0 : (⟨S7, .f32⟩ : BufTy).Contents (Elt F) → (⟨S7x1, .f32⟩ : BufTy).Contents (Elt F)),
    StableHlo.unary main_while0b_v154 main_while0b_v155 (broadcastInDim S7x20000 ![0, 1] bcast_S7x1_S7x20000_0_1 : (⟨S7x1, .f32⟩ : BufTy).Contents (Elt F) → (⟨S7x20000, .f32⟩ : BufTy).Contents (Elt F)),
    StableHlo.unary main_while0b_v153 main_while0b_v156 (broadcastInDim S7x20000 ![0, 1] bcast_S1x20000_S7x20000_0_1 : (⟨S1x20000, .f32⟩ : BufTy).Contents (Elt F) → (⟨S7x20000, .f32⟩ : BufTy).Contents (Elt F)),
    StableHlo.binary main_while0b_v155 main_while0b_v156 main_while0b_v157 (minimumf : (⟨S7x20000, .f32⟩ : BufTy).Contents (Elt F) → (⟨S7x20000, .f32⟩ : BufTy).Contents (Elt F) → (⟨S7x20000, .f32⟩ : BufTy).Contents (Elt F)),
    StableHlo.unary main_while0b_v130 main_while0b_v158 ((extractStridedSlice S7x1 ![0, 3] · slices_S7x4_S7x1_0_3) : (⟨S7x4, .f32⟩ : BufTy).Contents (Elt F) → (⟨S7x1, .f32⟩ : BufTy).Contents (Elt F)),
    StableHlo.reshape main_while0b_v158 main_while0b_v159 (rfl : (.f32 : EltTy) = .f32) shapeCasts_S7x1_S7,
    StableHlo.unary main_v78_0 main_while0b_v160 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v160 main_while0b_v161 (rfl : (.f32 : EltTy) = .f32) shapeCasts_S20000x1_S20000,
    StableHlo.unary main_while0b_v161 main_while0b_v162 (broadcastInDim S1x20000 ![1] bcast_S20000_S1x20000_1 : (⟨S20000, .f32⟩ : BufTy).Contents (Elt F) → (⟨S1x20000, .f32⟩ : BufTy).Contents (Elt F)),
    StableHlo.unary main_while0b_v159 main_while0b_v163 (broadcastInDim S7x1 ![0] bcast_S7_S7x1_0 : (⟨S7, .f32⟩ : BufTy).Contents (Elt F) → (⟨S7x1, .f32⟩ : BufTy).Contents (Elt F)),
    StableHlo.unary main_while0b_v163 main_while0b_v164 (broadcastInDim S7x20000 ![0, 1] bcast_S7x1_S7x20000_0_1 : (⟨S7x1, .f32⟩ : BufTy).Contents (Elt F) → (⟨S7x20000, .f32⟩ : BufTy).Contents (Elt F)),
    StableHlo.unary main_while0b_v162 main_while0b_v165 (broadcastInDim S7x20000 ![0, 1] bcast_S1x20000_S7x20000_0_1 : (⟨S1x20000, .f32⟩ : BufTy).Contents (Elt F) → (⟨S7x20000, .f32⟩ : BufTy).Contents (Elt F)),
    StableHlo.binary main_while0b_v164 main_while0b_v165 main_while0b_v166 (minimumf : (⟨S7x20000, .f32⟩ : BufTy).Contents (Elt F) → (⟨S7x20000, .f32⟩ : BufTy).Contents (Elt F) → (⟨S7x20000, .f32⟩ : BufTy).Contents (Elt F)),
    StableHlo.binary main_while0b_v157 main_while0b_v139 main_while0b_v167 (subf : (⟨S7x20000, .f32⟩ : BufTy).Contents (Elt F) → (⟨S7x20000, .f32⟩ : BufTy).Contents (Elt F) → (⟨S7x20000, .f32⟩ : BufTy).Contents (Elt F)),
    StableHlo.nullary main_while0b_cst_30 (constant S_ .f32 0x00000000#32),
    StableHlo.unary main_while0b_cst_30 main_while0b_v168 (broadcastInDim S7x20000 ![] bcast_S_S7x20000 : (⟨S_, .f32⟩ : BufTy).Contents (Elt F) → (⟨S7x20000, .f32⟩ : BufTy).Contents (Elt F)) ]

/-- The body's operations 54 … 77 of 147. -/
abbrev trip_w3 : List (HloOp τ sig (Elt F)) :=
  [ StableHlo.binary main_while0b_v167 main_while0b_v168 main_while0b_v169 (maximumf : (⟨S7x20000, .f32⟩ : BufTy).Contents (Elt F) → (⟨S7x20000, .f32⟩ : BufTy).Contents (Elt F) → (⟨S7x20000, .f32⟩ : BufTy).Contents (Elt F)),
    StableHlo.binary main_while0b_v166 main_while0b_v148 main_while0b_v170 (subf : (⟨S7x20000, .f32⟩ : BufTy).Contents (Elt F) → (⟨S7x20000, .f32⟩ : BufTy).Contents (Elt F) → (⟨S7x20000, .f32⟩ : BufTy).Contents (Elt F)),
    StableHlo.nullary main_while0b_cst_31 (constant S_ .f32 0x00000000#32),
    StableHlo.unary main_while0b_cst_31 main_while0b_v171 (broadcastInDim S7x20000 ![] bcast_S_S7x20000 : (⟨S_, .f32⟩ : BufTy).Contents (Elt F) → (⟨S7x20000, .f32⟩ : BufTy).Contents (Elt F)),
    StableHlo.binary main_while0b_v170 main_while0b_v171 main_while0b_v172 (maximumf : (⟨S7x20000, .f32⟩ : BufTy).Contents (Elt F) → (⟨S7x20000, .f32⟩ : BufTy).Contents (Elt F) → (⟨S7x20000, .f32⟩ : BufTy).Contents (Elt F)),
    StableHlo.binary main_while0b_v169 main_while0b_v172 main_while0b_v173 (mulf : (⟨S7x20000, .f32⟩ : BufTy).Contents (Elt F) → (⟨S7x20000, .f32⟩ : BufTy).Contents (Elt F) → (⟨S7x20000, .f32⟩ : BufTy).Contents (Elt F)),
    StableHlo.unary main_while0b_v130 main_while0b_v174 ((extractStridedSlice S7x1 ![0, 2] · slices_S7x4_S7x1_0_2) : (⟨S7x4, .f32⟩ : BufTy).Contents (Elt F) → (⟨S7x1, .f32⟩ : BufTy).Contents (Elt F)),
    StableHlo.reshape main_while0b_v174 main_while0b_v175 (rfl : (.f32 : EltTy) = .f32) shapeCasts_S7x1_S7,
    StableHlo.unary main_while0b_v130 main_while0b_v176 ((extractStridedSlice S7x1 ![0, 0] · slices_S7x4_S7x1_0_0) : (⟨S7x4, .f32⟩ : BufTy).Contents (Elt F) → (⟨S7x1, .f32⟩ : BufTy).Contents (Elt F)),
    StableHlo.reshape main_while0b_v176 main_while0b_v177 (rfl : (.f32 : EltTy) = .f32) shapeCasts_S7x1_S7,
    StableHlo.binary main_while0b_v175 main_while0b_v177 main_while0b_v178 (subf : (⟨S7, .f32⟩ : BufTy).Contents (Elt F) → (⟨S7, .f32⟩ : BufTy).Contents (Elt F) → (⟨S7, .f32⟩ : BufTy).Contents (Elt F)),
    StableHlo.nullary main_while0b_cst_32 (constant S_ .f32 0x00000000#32),
    StableHlo.unary main_while0b_cst_32 main_while0b_v179 (broadcastInDim S7 ![] bcast_S_S7 : (⟨S_, .f32⟩ : BufTy).Contents (Elt F) → (⟨S7, .f32⟩ : BufTy).Contents (Elt F)),
    StableHlo.binary main_while0b_v178 main_while0b_v179 main_while0b_v180 (maximumf : (⟨S7, .f32⟩ : BufTy).Contents (Elt F) → (⟨S7, .f32⟩ : BufTy).Contents (Elt F) → (⟨S7, .f32⟩ : BufTy).Contents (Elt F)),
    StableHlo.unary main_while0b_v130 main_while0b_v181 ((extractStridedSlice S7x1 ![0, 3] · slices_S7x4_S7x1_0_3) : (⟨S7x4, .f32⟩ : BufTy).Contents (Elt F) → (⟨S7x1, .f32⟩ : BufTy).Contents (Elt F)),
    StableHlo.reshape main_while0b_v181 main_while0b_v182 (rfl : (.f32 : EltTy) = .f32) shapeCasts_S7x1_S7,
    StableHlo.unary main_while0b_v130 main_while0b_v183 ((extractStridedSlice S7x1 ![0, 1] · slices_S7x4_S7x1_0_1) : (⟨S7x4, .f32⟩ : BufTy).Contents (Elt F) → (⟨S7x1, .f32⟩ : BufTy).Contents (Elt F)),
    StableHlo.reshape main_while0b_v183 main_while0b_v184 (rfl : (.f32 : EltTy) = .f32) shapeCasts_S7x1_S7,
    StableHlo.binary main_while0b_v182 main_while0b_v184 main_while0b_v185 (subf : (⟨S7, .f32⟩ : BufTy).Contents (Elt F) → (⟨S7, .f32⟩ : BufTy).Contents (Elt F) → (⟨S7, .f32⟩ : BufTy).Contents (Elt F)),
    StableHlo.nullary main_while0b_cst_33 (constant S_ .f32 0x00000000#32),
    StableHlo.unary main_while0b_cst_33 main_while0b_v186 (broadcastInDim S7 ![] bcast_S_S7 : (⟨S_, .f32⟩ : BufTy).Contents (Elt F) → (⟨S7, .f32⟩ : BufTy).Contents (Elt F)),
    StableHlo.binary main_while0b_v185 main_while0b_v186 main_while0b_v187 (maximumf : (⟨S7, .f32⟩ : BufTy).Contents (Elt F) → (⟨S7, .f32⟩ : BufTy).Contents (Elt F) → (⟨S7, .f32⟩ : BufTy).Contents (Elt F)),
    StableHlo.binary main_while0b_v180 main_while0b_v187 main_while0b_v188 (mulf : (⟨S7, .f32⟩ : BufTy).Contents (Elt F) → (⟨S7, .f32⟩ : BufTy).Contents (Elt F) → (⟨S7, .f32⟩ : BufTy).Contents (Elt F)),
    StableHlo.unary main_v78_0 main_while0b_v189 ((extractStridedSlice S20000x1 ![0, 2] · slices_S20000x4_S20000x1_0_2) : (⟨S20000x4, .f32⟩ : BufTy).Contents (Elt F) → (⟨S20000x1, .f32⟩ : BufTy).Contents (Elt F)) ]

/-- The body's operations 78 … 101 of 147. -/
abbrev trip_w4 : List (HloOp τ sig (Elt F)) :=
  [ StableHlo.reshape main_while0b_v189 main_while0b_v190 (rfl : (.f32 : EltTy) = .f32) shapeCasts_S20000x1_S20000,
    StableHlo.unary main_v78_0 main_while0b_v191 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v191 main_while0b_v192 (rfl : (.f32 : EltTy) = .f32) shapeCasts_S20000x1_S20000,
    StableHlo.binary main_while0b_v190 main_while0b_v192 main_while0b_v193 (subf : (⟨S20000, .f32⟩ : BufTy).Contents (Elt F) → (⟨S20000, .f32⟩ : BufTy).Contents (Elt F) → (⟨S20000, .f32⟩ : BufTy).Contents (Elt F)),
    StableHlo.nullary main_while0b_cst_34 (constant S_ .f32 0x00000000#32),
    StableHlo.unary main_while0b_cst_34 main_while0b_v194 (broadcastInDim S20000 ![] bcast_S_S20000 : (⟨S_, .f32⟩ : BufTy).Contents (Elt F) → (⟨S20000, .f32⟩ : BufTy).Contents (Elt F)),
    StableHlo.binary main_while0b_v193 main_while0b_v194 main_while0b_v195 (maximumf : (⟨S20000, .f32⟩ : BufTy).Contents (Elt F) → (⟨S20000, .f32⟩ : BufTy).Contents (Elt F) → (⟨S20000, .f32⟩ : BufTy).Contents (Elt F)),
    StableHlo.unary main_v78_0 main_while0b_v196 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v196 main_while0b_v197 (rfl : (.f32 : EltTy) = .f32) shapeCasts_S20000x1_S20000,
    StableHlo.unary main_v78_0 main_while0b_v198 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v198 main_while0b_v199 (rfl : (.f32 : EltTy) = .f32) shapeCasts_S20000x1_S20000,
    StableHlo.binary main_while0b_v197 main_while0b_v199 main_while0b_v200 (subf : (⟨S20000, .f32⟩ : BufTy).Contents (Elt F) → (⟨S20000, .f32⟩ : BufTy).Contents (Elt F) → (⟨S20000, .f32⟩ : BufTy).Contents (Elt F)),
    StableHlo.nullary main_while0b_cst_35 (constant S_ .f32 0x00000000#32),
    StableHlo.unary main_while0b_cst_35 main_while0b_v201 (broadcastInDim S20000 ![] bcast_S_S20000 : (⟨S_, .f32⟩ : BufTy).Contents (Elt F) → (⟨S20000, .f32⟩ : BufTy).Contents (Elt F)),
    StableHlo.binary main_while0b_v200 main_while0b_v201 main_while0b_v202 (maximumf : (⟨S20000, .f32⟩ : BufTy).Contents (Elt F) → (⟨S20000, .f32⟩ : BufTy).Contents (Elt F) → (⟨S20000, .f32⟩ : BufTy).Contents (Elt F)),
    StableHlo.binary main_while0b_v195 main_while0b_v202 main_while0b_v203 (mulf : (⟨S20000, .f32⟩ : BufTy).Contents (Elt F) → (⟨S20000, .f32⟩ : BufTy).Contents (Elt F) → (⟨S20000, .f32⟩ : BufTy).Contents (Elt F)),
    StableHlo.unary main_while0b_v203 main_while0b_v204 (broadcastInDim S1x20000 ![1] bcast_S20000_S1x20000_1 : (⟨S20000, .f32⟩ : BufTy).Contents (Elt F) → (⟨S1x20000, .f32⟩ : BufTy).Contents (Elt F)),
    StableHlo.unary main_while0b_v188 main_while0b_v205 (broadcastInDim S7x1 ![0] bcast_S7_S7x1_0 : (⟨S7, .f32⟩ : BufTy).Contents (Elt F) → (⟨S7x1, .f32⟩ : BufTy).Contents (Elt F)),
    StableHlo.unary main_while0b_v205 main_while0b_v206 (broadcastInDim S7x20000 ![0, 1] bcast_S7x1_S7x20000_0_1 : (⟨S7x1, .f32⟩ : BufTy).Contents (Elt F) → (⟨S7x20000, .f32⟩ : BufTy).Contents (Elt F)),
    StableHlo.unary main_while0b_v204 main_while0b_v207 (broadcastInDim S7x20000 ![0, 1] bcast_S1x20000_S7x20000_0_1 : (⟨S1x20000, .f32⟩ : BufTy).Contents (Elt F) → (⟨S7x20000, .f32⟩ : BufTy).Contents (Elt F)),
    StableHlo.binary main_while0b_v206 main_while0b_v207 main_while0b_v208 (addf : (⟨S7x20000, .f32⟩ : BufTy).Contents (Elt F) → (⟨S7x20000, .f32⟩ : BufTy).Contents (Elt F) → (⟨S7x20000, .f32⟩ : BufTy).Contents (Elt F)),
    StableHlo.binary main_while0b_v208 main_while0b_v173 main_while0b_v209 (subf : (⟨S7x20000, .f32⟩ : BufTy).Contents (Elt F) → (⟨S7x20000, .f32⟩ : BufTy).Contents (Elt F) → (⟨S7x20000, .f32⟩ : BufTy).Contents (Elt F)),
    StableHlo.nullary main_while0b_cst_36 (constant S_ .f32 0x3089705F#32),
    StableHlo.unary main_while0b_cst_36 main_while0b_v210 (broadcastInDim S7x20000 ![] bcast_S_S7x20000 : (⟨S_, .f32⟩ : BufTy).Contents (Elt F) → (⟨S7x20000, .f32⟩ : BufTy).Contents (Elt F)) ]

/-- The body's operations 102 … 115 of 147. -/
abbrev trip_w5 : List (HloOp τ sig (Elt F)) :=
  [ StableHlo.binary main_while0b_v209 main_while0b_v210 main_while0b_v211 (maximumf : (⟨S7x20000, .f32⟩ : BufTy).Contents (Elt F) → (⟨S7x20000, .f32⟩ : BufTy).Contents (Elt F) → (⟨S7x20000, .f32⟩ : BufTy).Contents (Elt F)),
    StableHlo.binary main_while0b_v173 main_while0b_v211 main_while0b_v212 (Host.divf : (⟨S7x20000, .f32⟩ : BufTy).Contents (Elt F) → (⟨S7x20000, .f32⟩ : BufTy).Contents (Elt F) → (⟨S7x20000, .f32⟩ : BufTy).Contents (Elt F)),
    StableHlo.nullary main_while0b_cst_37 (constant S_ .f32 0x3E99999A#32),
    StableHlo.unary main_while0b_cst_37 main_while0b_v213 (broadcastInDim S7x20000 ![] bcast_S_S7x20000 : (⟨S_, .f32⟩ : BufTy).Contents (Elt F) → (⟨S7x20000, .f32⟩ : BufTy).Contents (Elt F)),
    StableHlo.binary main_while0b_v212 main_while0b_v213 main_while0b_v214 (cmpf .ole : (⟨S7x20000, .f32⟩ : BufTy).Contents (Elt F) → (⟨S7x20000, .f32⟩ : BufTy).Contents (Elt F) → (⟨S7x20000, .i1⟩ : BufTy).Contents (Elt F)),
    StableHlo.nullary main_while0b_cst_38 (constant S_ .f32 0xBF000000#32),
    StableHlo.unary main_while0b_cst_38 main_while0b_v215 (broadcastInDim S7x20000 ![] bcast_S_S7x20000 : (⟨S_, .f32⟩ : BufTy).Contents (Elt F) → (⟨S7x20000, .f32⟩ : BufTy).Contents (Elt F)),
    StableHlo.binary main_while0b_v215 main_while0b_v212 main_while0b_v216 (mulf : (⟨S7x20000, .f32⟩ : BufTy).Contents (Elt F) → (⟨S7x20000, .f32⟩ : BufTy).Contents (Elt F) → (⟨S7x20000, .f32⟩ : BufTy).Contents (Elt F)),
    StableHlo.binary main_while0b_v216 main_while0b_v212 main_while0b_v217 (mulf : (⟨S7x20000, .f32⟩ : BufTy).Contents (Elt F) → (⟨S7x20000, .f32⟩ : BufTy).Contents (Elt F) → (⟨S7x20000, .f32⟩ : BufTy).Contents (Elt F)),
    StableHlo.nullary main_while0b_cst_39 (constant S_ .f32 0x3F000000#32),
    StableHlo.unary main_while0b_cst_39 main_while0b_v218 (broadcastInDim S7x20000 ![] bcast_S_S7x20000 : (⟨S_, .f32⟩ : BufTy).Contents (Elt F) → (⟨S7x20000, .f32⟩ : BufTy).Contents (Elt F)),
    StableHlo.binary main_while0b_v217 main_while0b_v218 main_while0b_v219 (Host.divf : (⟨S7x20000, .f32⟩ : BufTy).Contents (Elt F) → (⟨S7x20000, .f32⟩ : BufTy).Contents (Elt F) → (⟨S7x20000, .f32⟩ : BufTy).Contents (Elt F)),
    StableHlo.unary main_while0b_v219 main_while0b_v220 (Host.exp : (⟨S7x20000, .f32⟩ : BufTy).Contents (Elt F) → (⟨S7x20000, .f32⟩ : BufTy).Contents (Elt F)),
    StableHlo.nullary main_while0b_cst_40 (constant S_ .f32 0x00000000#32) ]

/-- The body's operations 116 … 118 of 147. -/
abbrev trip_w6 : List (HloOp τ sig (Elt F)) :=
  [ StableHlo.TRef.unary (.of main_while0b_cst_40 : StableHlo.TRef sig ⟨S_, .f32⟩) (.of main_while0b_call6_v0 : StableHlo.TRef sig ⟨S_, .f32⟩) id,
    StableHlo.TRef.unary (.of main_while0b_call6_v0 : StableHlo.TRef sig ⟨S_, .f32⟩) (.of main_while0b_call6_v1 : StableHlo.TRef sig ⟨S7x20000, .f32⟩) (broadcastInDim S7x20000 ![] bcast_S_S7x20000),
    StableHlo.TRef.ternary (.of main_while0b_v214 : StableHlo.TRef sig ⟨S7x20000, .i1⟩) (.of main_while0b_v220 : StableHlo.TRef sig ⟨S7x20000, .f32⟩) (.of main_while0b_call6_v1 : StableHlo.TRef sig ⟨S7x20000, .f32⟩) (.of main_while0b_v221 : StableHlo.TRef sig ⟨S7x20000, .f32⟩) select ]

/-- The body's operations 119 … 139 of 147. -/
abbrev trip_w7 : List (HloOp τ sig (Elt F)) :=
  [ StableHlo.binary main_v78_3 main_while0b_v221 main_while0b_v222 (mulf : (⟨S7x20000, .f32⟩ : BufTy).Contents (Elt F) → (⟨S7x20000, .f32⟩ : BufTy).Contents (Elt F) → (⟨S7x20000, .f32⟩ : BufTy).Contents (Elt F)),
    StableHlo.nullary main_while0b_c_41 (constantI S_ 32 0#32),
    StableHlo.unary main_while0b_c_41 main_while0b_v223 (broadcastInDim S7 ![] bcast_S_S7 : (⟨S_, .i32⟩ : BufTy).Contents (Elt F) → (⟨S7, .i32⟩ : BufTy).Contents (Elt F)),
    StableHlo.binary main_v78_1 main_while0b_v223 main_while0b_v224 (cmpi .slt : (⟨S7, .i32⟩ : BufTy).Contents (Elt F) → (⟨S7, .i32⟩ : BufTy).Contents (Elt F) → (⟨S7, .i1⟩ : BufTy).Contents (Elt F)),
    StableHlo.nullary main_while0b_c_42 (constantI S_ 32 7#32),
    StableHlo.unary main_while0b_c_42 main_while0b_v225 (broadcastInDim S7 ![] bcast_S_S7 : (⟨S_, .i32⟩ : BufTy).Contents (Elt F) → (⟨S7, .i32⟩ : BufTy).Contents (Elt F)),
    StableHlo.binary main_v78_1 main_while0b_v225 main_while0b_v226 (addi : (⟨S7, .i32⟩ : BufTy).Contents (Elt F) → (⟨S7, .i32⟩ : BufTy).Contents (Elt F) → (⟨S7, .i32⟩ : BufTy).Contents (Elt F)),
    StableHlo.ternary main_while0b_v224 main_while0b_v226 main_v78_1 main_while0b_v227 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.nullary main_while0b_c_43 (constantI S_ 32 0#32),
    StableHlo.unary main_while0b_c_43 main_while0b_v228 (broadcastInDim S7 ![] bcast_S_S7 : (⟨S_, .i32⟩ : BufTy).Contents (Elt F) → (⟨S7, .i32⟩ : BufTy).Contents (Elt F)),
    StableHlo.binary main_while0b_v123 main_while0b_v228 main_while0b_v229 (cmpi .slt : (⟨S7, .i32⟩ : BufTy).Contents (Elt F) → (⟨S7, .i32⟩ : BufTy).Contents (Elt F) → (⟨S7, .i1⟩ : BufTy).Contents (Elt F)),
    StableHlo.nullary main_while0b_c_44 (constantI S_ 32 20000#32),
    StableHlo.unary main_while0b_c_44 main_while0b_v230 (broadcastInDim S7 ![] bcast_S_S7 : (⟨S_, .i32⟩ : BufTy).Contents (Elt F) → (⟨S7, .i32⟩ : BufTy).Contents (Elt F)),
    StableHlo.binary main_while0b_v123 main_while0b_v230 main_while0b_v231 (addi : (⟨S7, .i32⟩ : BufTy).Contents (Elt F) → (⟨S7, .i32⟩ : BufTy).Contents (Elt F) → (⟨S7, .i32⟩ : BufTy).Contents (Elt F)),
    StableHlo.ternary main_while0b_v229 main_while0b_v231 main_while0b_v123 main_while0b_v232 (select : (⟨S7, .i1⟩ : BufTy).Contents (Elt F) → (⟨S7, .i32⟩ : BufTy).Contents (Elt F) → (⟨S7, .i32⟩ : BufTy).Contents (Elt F) → (⟨S7, .i32⟩ : BufTy).Contents (Elt F)),
    StableHlo.unary main_while0b_v227 main_while0b_v233 (broadcastInDim S7x1 ![0] bcast_S7_S7x1_0 : (⟨S7, .i32⟩ : BufTy).Contents (Elt F) → (⟨S7x1, .i32⟩ : BufTy).Contents (Elt F)),
    StableHlo.unary main_while0b_v232 main_while0b_v234 (broadcastInDim S7x1 ![0] bcast_S7_S7x1_0 : (⟨S7, .i32⟩ : BufTy).Contents (Elt F) → (⟨S7x1, .i32⟩ : BufTy).Contents (Elt F)),
    StableHlo.binary main_while0b_v233 main_while0b_v234 main_while0b_v235 (fn_main_while0b_v235 (F := F)),
    StableHlo.nullary main_while0b_cst_45 (constant S_ .f32 0xBF800000#32),
    StableHlo.unary main_while0b_cst_45 main_while0b_v236 (broadcastInDim S7 ![] bcast_S_S7 : (⟨S_, .f32⟩ : BufTy).Contents (Elt F) → (⟨S7, .f32⟩ : BufTy).Contents (Elt F)),
    StableHlo.ternary main_while0b_v222 main_while0b_v235 main_while0b_v236 main_while0b_v237 ((fun x i u => Host.scatter scatter_S7x20000_S7x2_S7_n_01_01_1 (fun _ b => b) x i u) : (⟨S7x20000, .f32⟩ : BufTy).Contents (Elt F) → (⟨S7x2, .i32⟩ : BufTy).Contents (Elt F) → (⟨S7, .f32⟩ : BufTy).Contents (Elt F) → (⟨S7x20000, .f32⟩ : BufTy).Contents (Elt F)) ]

/-- The body's operations 140 … 142 of 147. -/
abbrev trip_w8 : List (HloOp τ sig (Elt F)) :=
  [ StableHlo.TRef.unary (.of main_while0b_v123 : StableHlo.TRef sig ⟨S7, .i32⟩) (.of main_while0b_call7_v0 : StableHlo.TRef sig ⟨S1x7, .i32⟩) (broadcastInDim S1x7 ![1] bcast_S7_S1x7_1),
    StableHlo.TRef.nullary (.of main_while0b_call7_c : StableHlo.TRef sig ⟨S_, .i32⟩) (constantI S_ 32 0#32),
    StableHlo.TRef.binaryIndexed (.of main_v78_4 : StableHlo.TRef sig ⟨S100x7, .i32⟩) (.of main_while0b_call7_v0 : StableHlo.TRef sig ⟨S1x7, .i32⟩) ![(.of main_v78_2 : StableHlo.TRef sig ⟨S_, .i32⟩), (.of main_while0b_call7_c : StableHlo.TRef sig ⟨S_, .i32⟩)] (.of main_while0b_v238 : StableHlo.TRef sig ⟨S100x7, .i32⟩) (fun x u i => Host.dynamicUpdateSlice x u (fun k => (i k (Shape.Idx.first h_S_)).toInt) updateFits_S100x7_S1x7) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2 ++ (trip_w3 ++ (trip_w4 ++ (trip_w5)))) := rfl
set_option maxRecDepth 5000 in
/-- `while0Ops0_2` is its windows in order. -/
theorem while0Ops0_2_cut : (while0Ops0_2 : List (HloOp τ sig (Elt F))) = trip_w6 := rfl
set_option maxRecDepth 5000 in
/-- `while0Ops0_3` is its windows in order. -/
theorem while0Ops0_3_cut : (while0Ops0_3 : List (HloOp τ sig (Elt F))) = trip_w7 := rfl
set_option maxRecDepth 5000 in
/-- `while0Ops0_4` is its windows in order. -/
theorem while0Ops0_4_cut : (while0Ops0_4 : List (HloOp τ sig (Elt F))) = trip_w8 := rfl

set_option maxRecDepth 8192 in
/-- `main_while0b_call5_v0`'s composed term of the carried buffers (named: it is used 2 times). -/
def res_main_while0b_call5_v0 (V0 : Valuation τ sig (Elt F)) : (Proc.devRef .tc main_while0b_call5_v0 : DevRef τ sig).ty.Contents (Elt F) :=
  iotaInDim S7x20000 32 1

set_option maxRecDepth 8192 in
/-- `main_while0b_call5_cst`'s composed term of the carried buffers (named: it is used 2 times). -/
def res_main_while0b_call5_cst (V0 : Valuation τ sig (Elt F)) : (Proc.devRef .tc main_while0b_call5_cst : DevRef τ sig).ty.Contents (Elt F) :=
  constant S_ .f32 0xFF800000#32

set_option maxRecDepth 8192 in
/-- `main_while0b_call5_c`'s composed term of the carried buffers (named: it is used 2 times). -/
def res_main_while0b_call5_c (V0 : Valuation τ sig (Elt F)) : (Proc.devRef .tc main_while0b_call5_c : DevRef τ sig).ty.Contents (Elt F) :=
  constantI S_ 32 0#32

set_option maxRecDepth 8192 in
/-- `main_while0b_v123`'s composed term of the carried buffers (named: it is used 7 times). -/
def res_main_while0b_v123 (V0 : Valuation τ sig (Elt F)) : (Proc.devRef .tc main_while0b_v123 : DevRef τ sig).ty.Contents (Elt F) :=
  (fun j => (Host.argReduce reducer_argmax_f32_i32 (V0 (Proc.devRef .tc main_v78_3)) (res_main_while0b_call5_v0 V0) (res_main_while0b_call5_cst V0) (res_main_while0b_call5_c V0) reducesTo_S7x20000_S7_d1 h_S_ j).2)

set_option maxRecDepth 8192 in
/-- `main_while0b_v130`'s composed term of the carried buffers (named: it is used 8 times). -/
def res_main_while0b_v130 (V0 : Valuation τ sig (Elt F)) : (Proc.devRef .tc main_while0b_v130 : DevRef τ sig).ty.Contents (Elt F) :=
  Host.gather gather_S20000x4_S7x1_S7x4_1_0_n_n_0_1_14 (V0 (Proc.devRef .tc main_v78_0)) (broadcastInDim S7x1 ![0] bcast_S7_S7x1_0 (select (cmpi .slt (res_main_while0b_v123 V0) (broadcastInDim S7 ![] bcast_S_S7 (constantI S_ 32 0#32))) (addi (res_main_while0b_v123 V0) (broadcastInDim S7 ![] bcast_S_S7 (constantI S_ 32 20000#32))) (res_main_while0b_v123 V0)))

set_option maxRecDepth 8192 in
/-- `main_while0b_v173`'s composed term of the carried buffers (named: it is used 2 times). -/
def res_main_while0b_v173 (V0 : Valuation τ sig (Elt F)) : (Proc.devRef .tc main_while0b_v173 : DevRef τ sig).ty.Contents (Elt F) :=
  mulf (maximumf (subf (minimumf (broadcastInDim S7x20000 ![0, 1] bcast_S7x1_S7x20000_0_1 (broadcastInDim S7x1 ![0] bcast_S7_S7x1_0 (shapeCast S7 (extractStridedSlice S7x1 ![0, 2] (res_main_while0b_v130 V0) slices_S7x4_S7x1_0_2) shapeCasts_S7x1_S7))) (broadcastInDim S7x20000 ![0, 1] bcast_S1x20000_S7x20000_0_1 (broadcastInDim S1x20000 ![1] bcast_S20000_S1x20000_1 (shapeCast S20000 (extractStridedSlice S20000x1 ![0, 2] (V0 (Proc.devRef .tc main_v78_0)) slices_S20000x4_S20000x1_0_2) shapeCasts_S20000x1_S20000)))) (maximumf (broadcastInDim S7x20000 ![0, 1] bcast_S7x1_S7x20000_0_1 (broadcastInDim S7x1 ![0] bcast_S7_S7x1_0 (shapeCast S7 (extractStridedSlice S7x1 ![0, 0] (res_main_while0b_v130 V0) slices_S7x4_S7x1_0_0) shapeCasts_S7x1_S7))) (broadcastInDim S7x20000 ![0, 1] bcast_S1x20000_S7x20000_0_1 (broadcastInDim S1x20000 ![1] bcast_S20000_S1x20000_1 (shapeCast S20000 (extractStridedSlice S20000x1 ![0, 0] (V0 (Proc.devRef .tc main_v78_0)) slices_S20000x4_S20000x1_0_0) shapeCasts_S20000x1_S20000))))) (broadcastInDim S7x20000 ![] bcast_S_S7x20000 (constant S_ .f32 0x00000000#32))) (maximumf (subf (minimumf (broadcastInDim S7x20000 ![0, 1] bcast_S7x1_S7x20000_0_1 (broadcastInDim S7x1 ![0] bcast_S7_S7x1_0 (shapeCast S7 (extractStridedSlice S7x1 ![0, 3] (res_main_while0b_v130 V0) slices_S7x4_S7x1_0_3) shapeCasts_S7x1_S7))) (broadcastInDim S7x20000 ![0, 1] bcast_S1x20000_S7x20000_0_1 (broadcastInDim S1x20000 ![1] bcast_S20000_S1x20000_1 (shapeCast S20000 (extractStridedSlice S20000x1 ![0, 3] (V0 (Proc.devRef .tc main_v78_0)) slices_S20000x4_S20000x1_0_3) shapeCasts_S20000x1_S20000)))) (maximumf (broadcastInDim S7x20000 ![0, 1] bcast_S7x1_S7x20000_0_1 (broadcastInDim S7x1 ![0] bcast_S7_S7x1_0 (shapeCast S7 (extractStridedSlice S7x1 ![0, 1] (res_main_while0b_v130 V0) slices_S7x4_S7x1_0_1) shapeCasts_S7x1_S7))) (broadcastInDim S7x20000 ![0, 1] bcast_S1x20000_S7x20000_0_1 (broadcastInDim S1x20000 ![1] bcast_S20000_S1x20000_1 (shapeCast S20000 (extractStridedSlice S20000x1 ![0, 1] (V0 (Proc.devRef .tc main_v78_0)) slices_S20000x4_S20000x1_0_1) shapeCasts_S20000x1_S20000))))) (broadcastInDim S7x20000 ![] bcast_S_S7x20000 (constant S_ .f32 0x00000000#32)))

set_option maxRecDepth 8192 in
/-- `main_while0b_v212`'s composed term of the carried buffers (named: it is used 3 times). -/
def res_main_while0b_v212 (V0 : Valuation τ sig (Elt F)) : (Proc.devRef .tc main_while0b_v212 : DevRef τ sig).ty.Contents (Elt F) :=
  Host.divf (res_main_while0b_v173 V0) (maximumf (subf (addf (broadcastInDim S7x20000 ![0, 1] bcast_S7x1_S7x20000_0_1 (broadcastInDim S7x1 ![0] bcast_S7_S7x1_0 (mulf (maximumf (subf (shapeCast S7 (extractStridedSlice S7x1 ![0, 2] (res_main_while0b_v130 V0) slices_S7x4_S7x1_0_2) shapeCasts_S7x1_S7) (shapeCast S7 (extractStridedSlice S7x1 ![0, 0] (res_main_while0b_v130 V0) slices_S7x4_S7x1_0_0) shapeCasts_S7x1_S7)) (broadcastInDim S7 ![] bcast_S_S7 (constant S_ .f32 0x00000000#32))) (maximumf (subf (shapeCast S7 (extractStridedSlice S7x1 ![0, 3] (res_main_while0b_v130 V0) slices_S7x4_S7x1_0_3) shapeCasts_S7x1_S7) (shapeCast S7 (extractStridedSlice S7x1 ![0, 1] (res_main_while0b_v130 V0) slices_S7x4_S7x1_0_1) shapeCasts_S7x1_S7)) (broadcastInDim S7 ![] bcast_S_S7 (constant S_ .f32 0x00000000#32)))))) (broadcastInDim S7x20000 ![0, 1] bcast_S1x20000_S7x20000_0_1 (broadcastInDim S1x20000 ![1] bcast_S20000_S1x20000_1 (mulf (maximumf (subf (shapeCast S20000 (extractStridedSlice S20000x1 ![0, 2] (V0 (Proc.devRef .tc main_v78_0)) slices_S20000x4_S20000x1_0_2) shapeCasts_S20000x1_S20000) (shapeCast S20000 (extractStridedSlice S20000x1 ![0, 0] (V0 (Proc.devRef .tc main_v78_0)) slices_S20000x4_S20000x1_0_0) shapeCasts_S20000x1_S20000)) (broadcastInDim S20000 ![] bcast_S_S20000 (constant S_ .f32 0x00000000#32))) (maximumf (subf (shapeCast S20000 (extractStridedSlice S20000x1 ![0, 3] (V0 (Proc.devRef .tc main_v78_0)) slices_S20000x4_S20000x1_0_3) shapeCasts_S20000x1_S20000) (shapeCast S20000 (extractStridedSlice S20000x1 ![0, 1] (V0 (Proc.devRef .tc main_v78_0)) slices_S20000x4_S20000x1_0_1) shapeCasts_S20000x1_S20000)) (broadcastInDim S20000 ![] bcast_S_S20000 (constant S_ .f32 0x00000000#32))))))) (res_main_while0b_v173 V0)) (broadcastInDim S7x20000 ![] bcast_S_S7x20000 (constant S_ .f32 0x3089705F#32)))

/-- The device's buffer contents before the body's first window. -/
def val0 (V0 : Valuation τ sig (Elt F)) : Valuation τ sig (Elt F) := V0
theorem val0_main_v78_3 (V0 : Valuation τ sig (Elt F)) : val0 V0 (no_index (Proc.devRef .tc main_v78_3)) = V0 (Proc.devRef .tc main_v78_3) := rfl
theorem val0_main_v78_0 (V0 : Valuation τ sig (Elt F)) : val0 V0 (no_index (Proc.devRef .tc main_v78_0)) = V0 (Proc.devRef .tc main_v78_0) := rfl
theorem val0_main_v78_1 (V0 : Valuation τ sig (Elt F)) : val0 V0 (no_index (Proc.devRef .tc main_v78_1)) = V0 (Proc.devRef .tc main_v78_1) := rfl
theorem val0_main_v78_4 (V0 : Valuation τ sig (Elt F)) : val0 V0 (no_index (Proc.devRef .tc main_v78_4)) = V0 (Proc.devRef .tc main_v78_4) := rfl
theorem val0_main_v78_2 (V0 : Valuation τ sig (Elt F)) : val0 V0 (no_index (Proc.devRef .tc main_v78_2)) = V0 (Proc.devRef .tc main_v78_2) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call5_v0, main_while0b_call5_cst, main_while0b_call5_c, main_while0b_call5_v1_0, main_while0b_v123]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v78_3 (V0 : Valuation τ sig (Elt F)) : val1 V0 (no_index (Proc.devRef .tc main_v78_3)) = V0 (Proc.devRef .tc main_v78_3) :=
  (val1_keep V0 main_v78_3 (by decide)).trans (val0_main_v78_3 V0)
theorem val1_main_v78_0 (V0 : Valuation τ sig (Elt F)) : val1 V0 (no_index (Proc.devRef .tc main_v78_0)) = V0 (Proc.devRef .tc main_v78_0) :=
  (val1_keep V0 main_v78_0 (by decide)).trans (val0_main_v78_0 V0)
theorem val1_main_v78_1 (V0 : Valuation τ sig (Elt F)) : val1 V0 (no_index (Proc.devRef .tc main_v78_1)) = V0 (Proc.devRef .tc main_v78_1) :=
  (val1_keep V0 main_v78_1 (by decide)).trans (val0_main_v78_1 V0)
theorem val1_main_v78_4 (V0 : Valuation τ sig (Elt F)) : val1 V0 (no_index (Proc.devRef .tc main_v78_4)) = V0 (Proc.devRef .tc main_v78_4) :=
  (val1_keep V0 main_v78_4 (by decide)).trans (val0_main_v78_4 V0)
theorem val1_main_v78_2 (V0 : Valuation τ sig (Elt F)) : val1 V0 (no_index (Proc.devRef .tc main_v78_2)) = V0 (Proc.devRef .tc main_v78_2) :=
  (val1_keep V0 main_v78_2 (by decide)).trans (val0_main_v78_2 V0)
set_option maxRecDepth 8192 in
theorem val1_main_while0b_v123 (V0 : Valuation τ sig (Elt F)) : val1 V0 (no_index (Proc.devRef .tc main_while0b_v123)) = res_main_while0b_v123 V0 := by
  unfold val1
  simp only [trip_w0]
  after_results_entrywise [val0_main_v78_3, res_main_while0b_call5_v0, res_main_while0b_call5_cst, res_main_while0b_call5_c, res_main_while0b_v123, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_c_28, main_while0b_v124, main_while0b_v125, main_while0b_c_29, main_while0b_v126, main_while0b_v127, main_while0b_v128, main_while0b_v129, main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v78_3 (V0 : Valuation τ sig (Elt F)) : val2 V0 (no_index (Proc.devRef .tc main_v78_3)) = V0 (Proc.devRef .tc main_v78_3) :=
  (val2_keep V0 main_v78_3 (by decide)).trans (val1_main_v78_3 V0)
theorem val2_main_v78_0 (V0 : Valuation τ sig (Elt F)) : val2 V0 (no_index (Proc.devRef .tc main_v78_0)) = V0 (Proc.devRef .tc main_v78_0) :=
  (val2_keep V0 main_v78_0 (by decide)).trans (val1_main_v78_0 V0)
theorem val2_main_v78_1 (V0 : Valuation τ sig (Elt F)) : val2 V0 (no_index (Proc.devRef .tc main_v78_1)) = V0 (Proc.devRef .tc main_v78_1) :=
  (val2_keep V0 main_v78_1 (by decide)).trans (val1_main_v78_1 V0)
theorem val2_main_v78_4 (V0 : Valuation τ sig (Elt F)) : val2 V0 (no_index (Proc.devRef .tc main_v78_4)) = V0 (Proc.devRef .tc main_v78_4) :=
  (val2_keep V0 main_v78_4 (by decide)).trans (val1_main_v78_4 V0)
theorem val2_main_v78_2 (V0 : Valuation τ sig (Elt F)) : val2 V0 (no_index (Proc.devRef .tc main_v78_2)) = V0 (Proc.devRef .tc main_v78_2) :=
  (val2_keep V0 main_v78_2 (by decide)).trans (val1_main_v78_2 V0)
theorem val2_main_while0b_v123 (V0 : Valuation τ sig (Elt F)) : val2 V0 (no_index (Proc.devRef .tc main_while0b_v123)) = res_main_while0b_v123 V0 :=
  (val2_keep V0 main_while0b_v123 (by decide)).trans (val1_main_while0b_v123 V0)
set_option maxRecDepth 8192 in
set_option maxHeartbeats 2000000 in
theorem val2_main_while0b_v130 (V0 : Valuation τ sig (Elt F)) : val2 V0 (no_index (Proc.devRef .tc main_while0b_v130)) = res_main_while0b_v130 V0 := by
  unfold val2
  simp only [trip_w1]
  after_results_entrywise [val1_main_while0b_v123, val1_main_v78_0, res_main_while0b_v130, cast_eq]
set_option maxRecDepth 8192 in
set_option maxHeartbeats 2000000 in
theorem val2_main_while0b_v139 (V0 : Valuation τ sig (Elt F)) : val2 V0 (no_index (Proc.devRef .tc main_while0b_v139)) = maximumf (broadcastInDim S7x20000 ![0, 1] bcast_S7x1_S7x20000_0_1 (broadcastInDim S7x1 ![0] bcast_S7_S7x1_0 (shapeCast S7 (extractStridedSlice S7x1 ![0, 0] (res_main_while0b_v130 V0) slices_S7x4_S7x1_0_0) shapeCasts_S7x1_S7))) (broadcastInDim S7x20000 ![0, 1] bcast_S1x20000_S7x20000_0_1 (broadcastInDim S1x20000 ![1] bcast_S20000_S1x20000_1 (shapeCast S20000 (extractStridedSlice S20000x1 ![0, 0] (V0 (Proc.devRef .tc main_v78_0)) slices_S20000x4_S20000x1_0_0) shapeCasts_S20000x1_S20000))) := by
  unfold val2
  simp only [trip_w1]
  after_results_entrywise [val1_main_v78_0, val1_main_while0b_v123, res_main_while0b_v130, cast_eq]
set_option maxRecDepth 8192 in
set_option maxHeartbeats 2000000 in
theorem val2_main_while0b_v144 (V0 : Valuation τ sig (Elt F)) : val2 V0 (no_index (Proc.devRef .tc main_while0b_v144)) = broadcastInDim S1x20000 ![1] bcast_S20000_S1x20000_1 (shapeCast S20000 (extractStridedSlice S20000x1 ![0, 1] (V0 (Proc.devRef .tc main_v78_0)) slices_S20000x4_S20000x1_0_1) shapeCasts_S20000x1_S20000) := by
  unfold val2
  simp only [trip_w1]
  after_results_entrywise [val1_main_v78_0, cast_eq]
set_option maxRecDepth 8192 in
set_option maxHeartbeats 2000000 in
theorem val2_main_while0b_v145 (V0 : Valuation τ sig (Elt F)) : val2 V0 (no_index (Proc.devRef .tc main_while0b_v145)) = broadcastInDim S7x1 ![0] bcast_S7_S7x1_0 (shapeCast S7 (extractStridedSlice S7x1 ![0, 1] (res_main_while0b_v130 V0) slices_S7x4_S7x1_0_1) shapeCasts_S7x1_S7) := by
  unfold val2
  simp only [trip_w1]
  after_results_entrywise [val1_main_while0b_v123, val1_main_v78_0, res_main_while0b_v130, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_v161, main_while0b_v162, main_while0b_v163, main_while0b_v164, main_while0b_v165, main_while0b_v166, main_while0b_v167, main_while0b_cst_30, main_while0b_v168]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v78_3 (V0 : Valuation τ sig (Elt F)) : val3 V0 (no_index (Proc.devRef .tc main_v78_3)) = V0 (Proc.devRef .tc main_v78_3) :=
  (val3_keep V0 main_v78_3 (by decide)).trans (val2_main_v78_3 V0)
theorem val3_main_v78_0 (V0 : Valuation τ sig (Elt F)) : val3 V0 (no_index (Proc.devRef .tc main_v78_0)) = V0 (Proc.devRef .tc main_v78_0) :=
  (val3_keep V0 main_v78_0 (by decide)).trans (val2_main_v78_0 V0)
theorem val3_main_v78_1 (V0 : Valuation τ sig (Elt F)) : val3 V0 (no_index (Proc.devRef .tc main_v78_1)) = V0 (Proc.devRef .tc main_v78_1) :=
  (val3_keep V0 main_v78_1 (by decide)).trans (val2_main_v78_1 V0)
theorem val3_main_v78_4 (V0 : Valuation τ sig (Elt F)) : val3 V0 (no_index (Proc.devRef .tc main_v78_4)) = V0 (Proc.devRef .tc main_v78_4) :=
  (val3_keep V0 main_v78_4 (by decide)).trans (val2_main_v78_4 V0)
theorem val3_main_v78_2 (V0 : Valuation τ sig (Elt F)) : val3 V0 (no_index (Proc.devRef .tc main_v78_2)) = V0 (Proc.devRef .tc main_v78_2) :=
  (val3_keep V0 main_v78_2 (by decide)).trans (val2_main_v78_2 V0)
theorem val3_main_while0b_v123 (V0 : Valuation τ sig (Elt F)) : val3 V0 (no_index (Proc.devRef .tc main_while0b_v123)) = res_main_while0b_v123 V0 :=
  (val3_keep V0 main_while0b_v123 (by decide)).trans (val2_main_while0b_v123 V0)
theorem val3_main_while0b_v130 (V0 : Valuation τ sig (Elt F)) : val3 V0 (no_index (Proc.devRef .tc main_while0b_v130)) = res_main_while0b_v130 V0 :=
  (val3_keep V0 main_while0b_v130 (by decide)).trans (val2_main_while0b_v130 V0)
set_option maxRecDepth 8192 in
set_option maxHeartbeats 2000000 in
theorem val3_main_while0b_v148 (V0 : Valuation τ sig (Elt F)) : val3 V0 (no_index (Proc.devRef .tc main_while0b_v148)) = maximumf (broadcastInDim S7x20000 ![0, 1] bcast_S7x1_S7x20000_0_1 (broadcastInDim S7x1 ![0] bcast_S7_S7x1_0 (shapeCast S7 (extractStridedSlice S7x1 ![0, 1] (res_main_while0b_v130 V0) slices_S7x4_S7x1_0_1) shapeCasts_S7x1_S7))) (broadcastInDim S7x20000 ![0, 1] bcast_S1x20000_S7x20000_0_1 (broadcastInDim S1x20000 ![1] bcast_S20000_S1x20000_1 (shapeCast S20000 (extractStridedSlice S20000x1 ![0, 1] (V0 (Proc.devRef .tc main_v78_0)) slices_S20000x4_S20000x1_0_1) shapeCasts_S20000x1_S20000))) := by
  unfold val3
  simp only [trip_w2]
  after_results_entrywise [val2_main_while0b_v144, val2_main_while0b_v145, cast_eq]
set_option maxRecDepth 8192 in
set_option maxHeartbeats 2000000 in
theorem val3_main_while0b_v166 (V0 : Valuation τ sig (Elt F)) : val3 V0 (no_index (Proc.devRef .tc main_while0b_v166)) = minimumf (broadcastInDim S7x20000 ![0, 1] bcast_S7x1_S7x20000_0_1 (broadcastInDim S7x1 ![0] bcast_S7_S7x1_0 (shapeCast S7 (extractStridedSlice S7x1 ![0, 3] (res_main_while0b_v130 V0) slices_S7x4_S7x1_0_3) shapeCasts_S7x1_S7))) (broadcastInDim S7x20000 ![0, 1] bcast_S1x20000_S7x20000_0_1 (broadcastInDim S1x20000 ![1] bcast_S20000_S1x20000_1 (shapeCast S20000 (extractStridedSlice S20000x1 ![0, 3] (V0 (Proc.devRef .tc main_v78_0)) slices_S20000x4_S20000x1_0_3) shapeCasts_S20000x1_S20000))) := by
  unfold val3
  simp only [trip_w2]
  after_results_entrywise [val2_main_v78_0, val2_main_while0b_v130, cast_eq]
set_option maxRecDepth 8192 in
set_option maxHeartbeats 2000000 in
theorem val3_main_while0b_v167 (V0 : Valuation τ sig (Elt F)) : val3 V0 (no_index (Proc.devRef .tc main_while0b_v167)) = subf (minimumf (broadcastInDim S7x20000 ![0, 1] bcast_S7x1_S7x20000_0_1 (broadcastInDim S7x1 ![0] bcast_S7_S7x1_0 (shapeCast S7 (extractStridedSlice S7x1 ![0, 2] (res_main_while0b_v130 V0) slices_S7x4_S7x1_0_2) shapeCasts_S7x1_S7))) (broadcastInDim S7x20000 ![0, 1] bcast_S1x20000_S7x20000_0_1 (broadcastInDim S1x20000 ![1] bcast_S20000_S1x20000_1 (shapeCast S20000 (extractStridedSlice S20000x1 ![0, 2] (V0 (Proc.devRef .tc main_v78_0)) slices_S20000x4_S20000x1_0_2) shapeCasts_S20000x1_S20000)))) (maximumf (broadcastInDim S7x20000 ![0, 1] bcast_S7x1_S7x20000_0_1 (broadcastInDim S7x1 ![0] bcast_S7_S7x1_0 (shapeCast S7 (extractStridedSlice S7x1 ![0, 0] (res_main_while0b_v130 V0) slices_S7x4_S7x1_0_0) shapeCasts_S7x1_S7))) (broadcastInDim S7x20000 ![0, 1] bcast_S1x20000_S7x20000_0_1 (broadcastInDim S1x20000 ![1] bcast_S20000_S1x20000_1 (shapeCast S20000 (extractStridedSlice S20000x1 ![0, 0] (V0 (Proc.devRef .tc main_v78_0)) slices_S20000x4_S20000x1_0_0) shapeCasts_S20000x1_S20000)))) := by
  unfold val3
  simp only [trip_w2]
  after_results_entrywise [val2_main_while0b_v139, val2_main_v78_0, val2_main_while0b_v130, cast_eq]
set_option maxRecDepth 8192 in
set_option maxHeartbeats 2000000 in
theorem val3_main_while0b_v168 (V0 : Valuation τ sig (Elt F)) : val3 V0 (no_index (Proc.devRef .tc main_while0b_v168)) = broadcastInDim S7x20000 ![] bcast_S_S7x20000 (constant S_ .f32 0x00000000#32) := by
  unfold val3
  simp only [trip_w2]
  after_results_entrywise [cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v169, main_while0b_v170, main_while0b_cst_31, main_while0b_v171, main_while0b_v172, main_while0b_v173, main_while0b_v174, main_while0b_v175, main_while0b_v176, main_while0b_v177, main_while0b_v178, main_while0b_cst_32, main_while0b_v179, main_while0b_v180, main_while0b_v181, main_while0b_v182, main_while0b_v183, main_while0b_v184, main_while0b_v185, main_while0b_cst_33, main_while0b_v186, main_while0b_v187, main_while0b_v188, main_while0b_v189]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v78_3 (V0 : Valuation τ sig (Elt F)) : val4 V0 (no_index (Proc.devRef .tc main_v78_3)) = V0 (Proc.devRef .tc main_v78_3) :=
  (val4_keep V0 main_v78_3 (by decide)).trans (val3_main_v78_3 V0)
theorem val4_main_v78_0 (V0 : Valuation τ sig (Elt F)) : val4 V0 (no_index (Proc.devRef .tc main_v78_0)) = V0 (Proc.devRef .tc main_v78_0) :=
  (val4_keep V0 main_v78_0 (by decide)).trans (val3_main_v78_0 V0)
theorem val4_main_v78_1 (V0 : Valuation τ sig (Elt F)) : val4 V0 (no_index (Proc.devRef .tc main_v78_1)) = V0 (Proc.devRef .tc main_v78_1) :=
  (val4_keep V0 main_v78_1 (by decide)).trans (val3_main_v78_1 V0)
theorem val4_main_v78_4 (V0 : Valuation τ sig (Elt F)) : val4 V0 (no_index (Proc.devRef .tc main_v78_4)) = V0 (Proc.devRef .tc main_v78_4) :=
  (val4_keep V0 main_v78_4 (by decide)).trans (val3_main_v78_4 V0)
theorem val4_main_v78_2 (V0 : Valuation τ sig (Elt F)) : val4 V0 (no_index (Proc.devRef .tc main_v78_2)) = V0 (Proc.devRef .tc main_v78_2) :=
  (val4_keep V0 main_v78_2 (by decide)).trans (val3_main_v78_2 V0)
theorem val4_main_while0b_v123 (V0 : Valuation τ sig (Elt F)) : val4 V0 (no_index (Proc.devRef .tc main_while0b_v123)) = res_main_while0b_v123 V0 :=
  (val4_keep V0 main_while0b_v123 (by decide)).trans (val3_main_while0b_v123 V0)
set_option maxRecDepth 8192 in
set_option maxHeartbeats 2000000 in
theorem val4_main_while0b_v173 (V0 : Valuation τ sig (Elt F)) : val4 V0 (no_index (Proc.devRef .tc main_while0b_v173)) = res_main_while0b_v173 V0 := by
  unfold val4
  simp only [trip_w3]
  after_results_entrywise [val3_main_while0b_v148, val3_main_while0b_v166, val3_main_while0b_v168, val3_main_while0b_v167, res_main_while0b_v173, cast_eq]
set_option maxRecDepth 8192 in
set_option maxHeartbeats 2000000 in
theorem val4_main_while0b_v188 (V0 : Valuation τ sig (Elt F)) : val4 V0 (no_index (Proc.devRef .tc main_while0b_v188)) = mulf (maximumf (subf (shapeCast S7 (extractStridedSlice S7x1 ![0, 2] (res_main_while0b_v130 V0) slices_S7x4_S7x1_0_2) shapeCasts_S7x1_S7) (shapeCast S7 (extractStridedSlice S7x1 ![0, 0] (res_main_while0b_v130 V0) slices_S7x4_S7x1_0_0) shapeCasts_S7x1_S7)) (broadcastInDim S7 ![] bcast_S_S7 (constant S_ .f32 0x00000000#32))) (maximumf (subf (shapeCast S7 (extractStridedSlice S7x1 ![0, 3] (res_main_while0b_v130 V0) slices_S7x4_S7x1_0_3) shapeCasts_S7x1_S7) (shapeCast S7 (extractStridedSlice S7x1 ![0, 1] (res_main_while0b_v130 V0) slices_S7x4_S7x1_0_1) shapeCasts_S7x1_S7)) (broadcastInDim S7 ![] bcast_S_S7 (constant S_ .f32 0x00000000#32))) := by
  unfold val4
  simp only [trip_w3]
  after_results_entrywise [val3_main_while0b_v130, cast_eq]
set_option maxRecDepth 8192 in
set_option maxHeartbeats 2000000 in
theorem val4_main_while0b_v189 (V0 : Valuation τ sig (Elt F)) : val4 V0 (no_index (Proc.devRef .tc main_while0b_v189)) = extractStridedSlice S20000x1 ![0, 2] (V0 (Proc.devRef .tc main_v78_0)) slices_S20000x4_S20000x1_0_2 := by
  unfold val4
  simp only [trip_w3]
  after_results_entrywise [val3_main_v78_0, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v190, main_while0b_v191, main_while0b_v192, main_while0b_v193, main_while0b_cst_34, main_while0b_v194, main_while0b_v195, main_while0b_v196, main_while0b_v197, main_while0b_v198, main_while0b_v199, main_while0b_v200, main_while0b_cst_35, main_while0b_v201, main_while0b_v202, main_while0b_v203, main_while0b_v204, main_while0b_v205, main_while0b_v206, main_while0b_v207, main_while0b_v208, main_while0b_v209, main_while0b_cst_36, main_while0b_v210]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v78_3 (V0 : Valuation τ sig (Elt F)) : val5 V0 (no_index (Proc.devRef .tc main_v78_3)) = V0 (Proc.devRef .tc main_v78_3) :=
  (val5_keep V0 main_v78_3 (by decide)).trans (val4_main_v78_3 V0)
theorem val5_main_v78_0 (V0 : Valuation τ sig (Elt F)) : val5 V0 (no_index (Proc.devRef .tc main_v78_0)) = V0 (Proc.devRef .tc main_v78_0) :=
  (val5_keep V0 main_v78_0 (by decide)).trans (val4_main_v78_0 V0)
theorem val5_main_v78_1 (V0 : Valuation τ sig (Elt F)) : val5 V0 (no_index (Proc.devRef .tc main_v78_1)) = V0 (Proc.devRef .tc main_v78_1) :=
  (val5_keep V0 main_v78_1 (by decide)).trans (val4_main_v78_1 V0)
theorem val5_main_v78_4 (V0 : Valuation τ sig (Elt F)) : val5 V0 (no_index (Proc.devRef .tc main_v78_4)) = V0 (Proc.devRef .tc main_v78_4) :=
  (val5_keep V0 main_v78_4 (by decide)).trans (val4_main_v78_4 V0)
theorem val5_main_v78_2 (V0 : Valuation τ sig (Elt F)) : val5 V0 (no_index (Proc.devRef .tc main_v78_2)) = V0 (Proc.devRef .tc main_v78_2) :=
  (val5_keep V0 main_v78_2 (by decide)).trans (val4_main_v78_2 V0)
theorem val5_main_while0b_v123 (V0 : Valuation τ sig (Elt F)) : val5 V0 (no_index (Proc.devRef .tc main_while0b_v123)) = res_main_while0b_v123 V0 :=
  (val5_keep V0 main_while0b_v123 (by decide)).trans (val4_main_while0b_v123 V0)
theorem val5_main_while0b_v173 (V0 : Valuation τ sig (Elt F)) : val5 V0 (no_index (Proc.devRef .tc main_while0b_v173)) = res_main_while0b_v173 V0 :=
  (val5_keep V0 main_while0b_v173 (by decide)).trans (val4_main_while0b_v173 V0)
set_option maxRecDepth 8192 in
set_option maxHeartbeats 2000000 in
theorem val5_main_while0b_v209 (V0 : Valuation τ sig (Elt F)) : val5 V0 (no_index (Proc.devRef .tc main_while0b_v209)) = subf (addf (broadcastInDim S7x20000 ![0, 1] bcast_S7x1_S7x20000_0_1 (broadcastInDim S7x1 ![0] bcast_S7_S7x1_0 (mulf (maximumf (subf (shapeCast S7 (extractStridedSlice S7x1 ![0, 2] (res_main_while0b_v130 V0) slices_S7x4_S7x1_0_2) shapeCasts_S7x1_S7) (shapeCast S7 (extractStridedSlice S7x1 ![0, 0] (res_main_while0b_v130 V0) slices_S7x4_S7x1_0_0) shapeCasts_S7x1_S7)) (broadcastInDim S7 ![] bcast_S_S7 (constant S_ .f32 0x00000000#32))) (maximumf (subf (shapeCast S7 (extractStridedSlice S7x1 ![0, 3] (res_main_while0b_v130 V0) slices_S7x4_S7x1_0_3) shapeCasts_S7x1_S7) (shapeCast S7 (extractStridedSlice S7x1 ![0, 1] (res_main_while0b_v130 V0) slices_S7x4_S7x1_0_1) shapeCasts_S7x1_S7)) (broadcastInDim S7 ![] bcast_S_S7 (constant S_ .f32 0x00000000#32)))))) (broadcastInDim S7x20000 ![0, 1] bcast_S1x20000_S7x20000_0_1 (broadcastInDim S1x20000 ![1] bcast_S20000_S1x20000_1 (mulf (maximumf (subf (shapeCast S20000 (extractStridedSlice S20000x1 ![0, 2] (V0 (Proc.devRef .tc main_v78_0)) slices_S20000x4_S20000x1_0_2) shapeCasts_S20000x1_S20000) (shapeCast S20000 (extractStridedSlice S20000x1 ![0, 0] (V0 (Proc.devRef .tc main_v78_0)) slices_S20000x4_S20000x1_0_0) shapeCasts_S20000x1_S20000)) (broadcastInDim S20000 ![] bcast_S_S20000 (constant S_ .f32 0x00000000#32))) (maximumf (subf (shapeCast S20000 (extractStridedSlice S20000x1 ![0, 3] (V0 (Proc.devRef .tc main_v78_0)) slices_S20000x4_S20000x1_0_3) shapeCasts_S20000x1_S20000) (shapeCast S20000 (extractStridedSlice S20000x1 ![0, 1] (V0 (Proc.devRef .tc main_v78_0)) slices_S20000x4_S20000x1_0_1) shapeCasts_S20000x1_S20000)) (broadcastInDim S20000 ![] bcast_S_S20000 (constant S_ .f32 0x00000000#32))))))) (res_main_while0b_v173 V0) := by
  unfold val5
  simp only [trip_w4]
  after_results_entrywise [val4_main_while0b_v173, val4_main_v78_0, val4_main_while0b_v189, val4_main_while0b_v188, cast_eq]
set_option maxRecDepth 8192 in
set_option maxHeartbeats 2000000 in
theorem val5_main_while0b_v210 (V0 : Valuation τ sig (Elt F)) : val5 V0 (no_index (Proc.devRef .tc main_while0b_v210)) = broadcastInDim S7x20000 ![] bcast_S_S7x20000 (constant S_ .f32 0x3089705F#32) := by
  unfold val5
  simp only [trip_w4]
  after_results_entrywise [cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v211, main_while0b_v212, main_while0b_cst_37, main_while0b_v213, main_while0b_v214, main_while0b_cst_38, main_while0b_v215, main_while0b_v216, main_while0b_v217, main_while0b_cst_39, main_while0b_v218, main_while0b_v219, main_while0b_v220, main_while0b_cst_40]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v78_3 (V0 : Valuation τ sig (Elt F)) : val6 V0 (no_index (Proc.devRef .tc main_v78_3)) = V0 (Proc.devRef .tc main_v78_3) :=
  (val6_keep V0 main_v78_3 (by decide)).trans (val5_main_v78_3 V0)
theorem val6_main_v78_0 (V0 : Valuation τ sig (Elt F)) : val6 V0 (no_index (Proc.devRef .tc main_v78_0)) = V0 (Proc.devRef .tc main_v78_0) :=
  (val6_keep V0 main_v78_0 (by decide)).trans (val5_main_v78_0 V0)
theorem val6_main_v78_1 (V0 : Valuation τ sig (Elt F)) : val6 V0 (no_index (Proc.devRef .tc main_v78_1)) = V0 (Proc.devRef .tc main_v78_1) :=
  (val6_keep V0 main_v78_1 (by decide)).trans (val5_main_v78_1 V0)
theorem val6_main_v78_4 (V0 : Valuation τ sig (Elt F)) : val6 V0 (no_index (Proc.devRef .tc main_v78_4)) = V0 (Proc.devRef .tc main_v78_4) :=
  (val6_keep V0 main_v78_4 (by decide)).trans (val5_main_v78_4 V0)
theorem val6_main_v78_2 (V0 : Valuation τ sig (Elt F)) : val6 V0 (no_index (Proc.devRef .tc main_v78_2)) = V0 (Proc.devRef .tc main_v78_2) :=
  (val6_keep V0 main_v78_2 (by decide)).trans (val5_main_v78_2 V0)
theorem val6_main_while0b_v123 (V0 : Valuation τ sig (Elt F)) : val6 V0 (no_index (Proc.devRef .tc main_while0b_v123)) = res_main_while0b_v123 V0 :=
  (val6_keep V0 main_while0b_v123 (by decide)).trans (val5_main_while0b_v123 V0)
set_option maxRecDepth 8192 in
set_option maxHeartbeats 1400000 in
theorem val6_main_while0b_v214 (V0 : Valuation τ sig (Elt F)) : val6 V0 (no_index (Proc.devRef .tc main_while0b_v214)) = cmpf .ole (res_main_while0b_v212 V0) (broadcastInDim S7x20000 ![] bcast_S_S7x20000 (constant S_ .f32 0x3E99999A#32)) := by
  unfold val6
  simp only [trip_w5]
  after_results_entrywise [val5_main_while0b_v210, val5_main_while0b_v209, val5_main_while0b_v173, res_main_while0b_v212, cast_eq]
set_option maxRecDepth 8192 in
set_option maxHeartbeats 1400000 in
theorem val6_main_while0b_v220 (V0 : Valuation τ sig (Elt F)) : val6 V0 (no_index (Proc.devRef .tc main_while0b_v220)) = Host.exp (Host.divf (mulf (mulf (broadcastInDim S7x20000 ![] bcast_S_S7x20000 (constant S_ .f32 0xBF000000#32)) (res_main_while0b_v212 V0)) (res_main_while0b_v212 V0)) (broadcastInDim S7x20000 ![] bcast_S_S7x20000 (constant S_ .f32 0x3F000000#32))) := by
  unfold val6
  simp only [trip_w5]
  after_results_entrywise [val5_main_while0b_v210, val5_main_while0b_v209, val5_main_while0b_v173, res_main_while0b_v212, cast_eq]
set_option maxRecDepth 8192 in
set_option maxHeartbeats 1400000 in
theorem val6_main_while0b_cst_40 (V0 : Valuation τ sig (Elt F)) : val6 V0 (no_index (Proc.devRef .tc main_while0b_cst_40)) = constant S_ .f32 0x00000000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call6_v0, main_while0b_call6_v1, main_while0b_v221]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v78_3 (V0 : Valuation τ sig (Elt F)) : val7 V0 (no_index (Proc.devRef .tc main_v78_3)) = V0 (Proc.devRef .tc main_v78_3) :=
  (val7_keep V0 main_v78_3 (by decide)).trans (val6_main_v78_3 V0)
theorem val7_main_v78_0 (V0 : Valuation τ sig (Elt F)) : val7 V0 (no_index (Proc.devRef .tc main_v78_0)) = V0 (Proc.devRef .tc main_v78_0) :=
  (val7_keep V0 main_v78_0 (by decide)).trans (val6_main_v78_0 V0)
theorem val7_main_v78_1 (V0 : Valuation τ sig (Elt F)) : val7 V0 (no_index (Proc.devRef .tc main_v78_1)) = V0 (Proc.devRef .tc main_v78_1) :=
  (val7_keep V0 main_v78_1 (by decide)).trans (val6_main_v78_1 V0)
theorem val7_main_v78_4 (V0 : Valuation τ sig (Elt F)) : val7 V0 (no_index (Proc.devRef .tc main_v78_4)) = V0 (Proc.devRef .tc main_v78_4) :=
  (val7_keep V0 main_v78_4 (by decide)).trans (val6_main_v78_4 V0)
theorem val7_main_v78_2 (V0 : Valuation τ sig (Elt F)) : val7 V0 (no_index (Proc.devRef .tc main_v78_2)) = V0 (Proc.devRef .tc main_v78_2) :=
  (val7_keep V0 main_v78_2 (by decide)).trans (val6_main_v78_2 V0)
theorem val7_main_while0b_v123 (V0 : Valuation τ sig (Elt F)) : val7 V0 (no_index (Proc.devRef .tc main_while0b_v123)) = res_main_while0b_v123 V0 :=
  (val7_keep V0 main_while0b_v123 (by decide)).trans (val6_main_while0b_v123 V0)
set_option maxRecDepth 8192 in
theorem val7_main_while0b_v221 (V0 : Valuation τ sig (Elt F)) : val7 V0 (no_index (Proc.devRef .tc main_while0b_v221)) = select (cmpf .ole (res_main_while0b_v212 V0) (broadcastInDim S7x20000 ![] bcast_S_S7x20000 (constant S_ .f32 0x3E99999A#32))) (Host.exp (Host.divf (mulf (mulf (broadcastInDim S7x20000 ![] bcast_S_S7x20000 (constant S_ .f32 0xBF000000#32)) (res_main_while0b_v212 V0)) (res_main_while0b_v212 V0)) (broadcastInDim S7x20000 ![] bcast_S_S7x20000 (constant S_ .f32 0x3F000000#32)))) (broadcastInDim S7x20000 ![] bcast_S_S7x20000 (id (constant S_ .f32 0x00000000#32))) := by
  unfold val7
  simp only [trip_w6]
  after_results_entrywise [val6_main_while0b_cst_40, val6_main_while0b_v220, val6_main_while0b_v214, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v222, main_while0b_c_41, main_while0b_v223, main_while0b_v224, main_while0b_c_42, main_while0b_v225, main_while0b_v226, main_while0b_v227, main_while0b_c_43, main_while0b_v228, main_while0b_v229, main_while0b_c_44, main_while0b_v230, main_while0b_v231, main_while0b_v232, main_while0b_v233, main_while0b_v234, main_while0b_v235, main_while0b_cst_45, main_while0b_v236, main_while0b_v237]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v78_3 (V0 : Valuation τ sig (Elt F)) : val8 V0 (no_index (Proc.devRef .tc main_v78_3)) = V0 (Proc.devRef .tc main_v78_3) :=
  (val8_keep V0 main_v78_3 (by decide)).trans (val7_main_v78_3 V0)
theorem val8_main_v78_0 (V0 : Valuation τ sig (Elt F)) : val8 V0 (no_index (Proc.devRef .tc main_v78_0)) = V0 (Proc.devRef .tc main_v78_0) :=
  (val8_keep V0 main_v78_0 (by decide)).trans (val7_main_v78_0 V0)
theorem val8_main_v78_1 (V0 : Valuation τ sig (Elt F)) : val8 V0 (no_index (Proc.devRef .tc main_v78_1)) = V0 (Proc.devRef .tc main_v78_1) :=
  (val8_keep V0 main_v78_1 (by decide)).trans (val7_main_v78_1 V0)
theorem val8_main_v78_4 (V0 : Valuation τ sig (Elt F)) : val8 V0 (no_index (Proc.devRef .tc main_v78_4)) = V0 (Proc.devRef .tc main_v78_4) :=
  (val8_keep V0 main_v78_4 (by decide)).trans (val7_main_v78_4 V0)
theorem val8_main_v78_2 (V0 : Valuation τ sig (Elt F)) : val8 V0 (no_index (Proc.devRef .tc main_v78_2)) = V0 (Proc.devRef .tc main_v78_2) :=
  (val8_keep V0 main_v78_2 (by decide)).trans (val7_main_v78_2 V0)
theorem val8_main_while0b_v123 (V0 : Valuation τ sig (Elt F)) : val8 V0 (no_index (Proc.devRef .tc main_while0b_v123)) = res_main_while0b_v123 V0 :=
  (val8_keep V0 main_while0b_v123 (by decide)).trans (val7_main_while0b_v123 V0)
set_option maxRecDepth 8192 in
set_option maxHeartbeats 2000000 in
theorem val8_main_while0b_v237 (V0 : Valuation τ sig (Elt F)) : val8 V0 (no_index (Proc.devRef .tc main_while0b_v237)) = Host.scatter scatter_S7x20000_S7x2_S7_n_01_01_1 (fun _ b => b) (mulf (V0 (Proc.devRef .tc main_v78_3)) (select (cmpf .ole (res_main_while0b_v212 V0) (broadcastInDim S7x20000 ![] bcast_S_S7x20000 (constant S_ .f32 0x3E99999A#32))) (Host.exp (Host.divf (mulf (mulf (broadcastInDim S7x20000 ![] bcast_S_S7x20000 (constant S_ .f32 0xBF000000#32)) (res_main_while0b_v212 V0)) (res_main_while0b_v212 V0)) (broadcastInDim S7x20000 ![] bcast_S_S7x20000 (constant S_ .f32 0x3F000000#32)))) (broadcastInDim S7x20000 ![] bcast_S_S7x20000 (id (constant S_ .f32 0x00000000#32))))) (concatenate S7x2 1 [⟨S7x1, (broadcastInDim S7x1 ![0] bcast_S7_S7x1_0 (select (cmpi .slt (V0 (Proc.devRef .tc main_v78_1)) (broadcastInDim S7 ![] bcast_S_S7 (constantI S_ 32 0#32))) (addi (V0 (Proc.devRef .tc main_v78_1)) (broadcastInDim S7 ![] bcast_S_S7 (constantI S_ 32 7#32))) (V0 (Proc.devRef .tc main_v78_1))))⟩, ⟨S7x1, (broadcastInDim S7x1 ![0] bcast_S7_S7x1_0 (select (cmpi .slt (res_main_while0b_v123 V0) (broadcastInDim S7 ![] bcast_S_S7 (constantI S_ 32 0#32))) (addi (res_main_while0b_v123 V0) (broadcastInDim S7 ![] bcast_S_S7 (constantI S_ 32 20000#32))) (res_main_while0b_v123 V0)))⟩] concatenates_S7x1_S7x1_S7x2_d1) (broadcastInDim S7 ![] bcast_S_S7 (constant S_ .f32 0xBF800000#32)) := by
  unfold val8
  simp only [trip_w7]
  after_results_entrywise [val7_main_while0b_v123, val7_main_v78_1, val7_main_while0b_v221, val7_main_v78_3, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call7_v0, main_while0b_call7_c, main_while0b_v238]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v78_3 (V0 : Valuation τ sig (Elt F)) : val9 V0 (no_index (Proc.devRef .tc main_v78_3)) = V0 (Proc.devRef .tc main_v78_3) :=
  (val9_keep V0 main_v78_3 (by decide)).trans (val8_main_v78_3 V0)
theorem val9_main_v78_0 (V0 : Valuation τ sig (Elt F)) : val9 V0 (no_index (Proc.devRef .tc main_v78_0)) = V0 (Proc.devRef .tc main_v78_0) :=
  (val9_keep V0 main_v78_0 (by decide)).trans (val8_main_v78_0 V0)
theorem val9_main_v78_1 (V0 : Valuation τ sig (Elt F)) : val9 V0 (no_index (Proc.devRef .tc main_v78_1)) = V0 (Proc.devRef .tc main_v78_1) :=
  (val9_keep V0 main_v78_1 (by decide)).trans (val8_main_v78_1 V0)
theorem val9_main_v78_4 (V0 : Valuation τ sig (Elt F)) : val9 V0 (no_index (Proc.devRef .tc main_v78_4)) = V0 (Proc.devRef .tc main_v78_4) :=
  (val9_keep V0 main_v78_4 (by decide)).trans (val8_main_v78_4 V0)
theorem val9_main_v78_2 (V0 : Valuation τ sig (Elt F)) : val9 V0 (no_index (Proc.devRef .tc main_v78_2)) = V0 (Proc.devRef .tc main_v78_2) :=
  (val9_keep V0 main_v78_2 (by decide)).trans (val8_main_v78_2 V0)
theorem val9_main_while0b_v237 (V0 : Valuation τ sig (Elt F)) : val9 V0 (no_index (Proc.devRef .tc main_while0b_v237)) = Host.scatter scatter_S7x20000_S7x2_S7_n_01_01_1 (fun _ b => b) (mulf (V0 (Proc.devRef .tc main_v78_3)) (select (cmpf .ole (res_main_while0b_v212 V0) (broadcastInDim S7x20000 ![] bcast_S_S7x20000 (constant S_ .f32 0x3E99999A#32))) (Host.exp (Host.divf (mulf (mulf (broadcastInDim S7x20000 ![] bcast_S_S7x20000 (constant S_ .f32 0xBF000000#32)) (res_main_while0b_v212 V0)) (res_main_while0b_v212 V0)) (broadcastInDim S7x20000 ![] bcast_S_S7x20000 (constant S_ .f32 0x3F000000#32)))) (broadcastInDim S7x20000 ![] bcast_S_S7x20000 (id (constant S_ .f32 0x00000000#32))))) (concatenate S7x2 1 [⟨S7x1, (broadcastInDim S7x1 ![0] bcast_S7_S7x1_0 (select (cmpi .slt (V0 (Proc.devRef .tc main_v78_1)) (broadcastInDim S7 ![] bcast_S_S7 (constantI S_ 32 0#32))) (addi (V0 (Proc.devRef .tc main_v78_1)) (broadcastInDim S7 ![] bcast_S_S7 (constantI S_ 32 7#32))) (V0 (Proc.devRef .tc main_v78_1))))⟩, ⟨S7x1, (broadcastInDim S7x1 ![0] bcast_S7_S7x1_0 (select (cmpi .slt (res_main_while0b_v123 V0) (broadcastInDim S7 ![] bcast_S_S7 (constantI S_ 32 0#32))) (addi (res_main_while0b_v123 V0) (broadcastInDim S7 ![] bcast_S_S7 (constantI S_ 32 20000#32))) (res_main_while0b_v123 V0)))⟩] concatenates_S7x1_S7x1_S7x2_d1) (broadcastInDim S7 ![] bcast_S_S7 (constant S_ .f32 0xBF800000#32)) :=
  (val9_keep V0 main_while0b_v237 (by decide)).trans (val8_main_while0b_v237 V0)
set_option maxRecDepth 8192 in
theorem val9_main_while0b_v238 (V0 : Valuation τ sig (Elt F)) : val9 V0 (no_index (Proc.devRef .tc main_while0b_v238)) = Host.dynamicUpdateSlice (V0 (Proc.devRef .tc main_v78_4)) (broadcastInDim S1x7 ![1] bcast_S7_S1x7_1 (res_main_while0b_v123 V0)) (fun k => (((![V0 (Proc.devRef .tc main_v78_2), constantI S_ 32 0#32] : Fin 2 → (⟨S_, .i32⟩ : BufTy).Contents (Elt F))) k (Shape.Idx.first h_S_)).toInt) updateFits_S100x7_S1x7 := by
  unfold val9
  simp only [trip_w8]
  after_results_entrywise [val8_main_v78_2, val8_main_while0b_v123, val8_main_v78_4, cast_eq]

set_option maxRecDepth 8192 in
/-- The body's stretches before `while0Ops0_5`, from any contents: their windows in order. -/
theorem trip_windows (V0 : Valuation τ sig (Elt F)) : after while0Ops0_4 (after while0Ops0_3 (after while0Ops0_2 (after while0Ops0_1 (after while0Ops0 (V0))))) = val9 V0 := by
  simp only [while0Ops0_cut, while0Ops0_1_cut, while0Ops0_2_cut, while0Ops0_3_cut, while0Ops0_4_cut, after_append]
  rfl

set_option maxRecDepth 8192 in
set_option maxHeartbeats 2000000 in
/-- `main_v78_0` after one trip's body, from any contents. -/
theorem trip_main_v78_0 (V0 : Valuation τ sig (Elt F)) : afterL bodyI V0 (no_index (Proc.devRef .tc main_v78_0)) = V0 (Proc.devRef .tc main_v78_0) := by
  simp only [bodyI, afterL_cons, afterL_nil, trip_windows]
  after_results
  all_goals (try simp only [val9_main_while0b_v237, val9_main_while0b_v238, val9_main_v78_0, val9_main_v78_1, val9_main_v78_2, val9_main_v78_3, val9_main_v78_4]) <;> rfl
set_option maxRecDepth 8192 in
set_option maxHeartbeats 2000000 in
/-- `main_v78_1` after one trip's body, from any contents. -/
theorem trip_main_v78_1 (V0 : Valuation τ sig (Elt F)) : afterL bodyI V0 (no_index (Proc.devRef .tc main_v78_1)) = V0 (Proc.devRef .tc main_v78_1) := by
  simp only [bodyI, afterL_cons, afterL_nil, trip_windows]
  after_results
  all_goals (try simp only [val9_main_while0b_v237, val9_main_while0b_v238, val9_main_v78_0, val9_main_v78_1, val9_main_v78_2, val9_main_v78_3, val9_main_v78_4]) <;> rfl
set_option maxRecDepth 8192 in
set_option maxHeartbeats 2000000 in
/-- `main_v78_2` after one trip's body, from any contents. -/
theorem trip_main_v78_2 (V0 : Valuation τ sig (Elt F)) : afterL bodyI V0 (no_index (Proc.devRef .tc main_v78_2)) = id (addi (V0 (Proc.devRef .tc main_v78_2)) (constantI S_ 32 1#32)) := by
  simp only [bodyI, afterL_cons, afterL_nil, trip_windows]
  after_results
  all_goals (try simp only [val9_main_while0b_v237, val9_main_while0b_v238, val9_main_v78_0, val9_main_v78_1, val9_main_v78_2, val9_main_v78_3, val9_main_v78_4]) <;> rfl
set_option maxRecDepth 8192 in
set_option maxHeartbeats 2000000 in
/-- `main_v78_3` after one trip's body, from any contents. -/
theorem trip_main_v78_3 (V0 : Valuation τ sig (Elt F)) : afterL bodyI V0 (no_index (Proc.devRef .tc main_v78_3)) = id (Host.scatter scatter_S7x20000_S7x2_S7_n_01_01_1 (fun _ b => b) (mulf (V0 (Proc.devRef .tc main_v78_3)) (select (cmpf .ole (res_main_while0b_v212 V0) (broadcastInDim S7x20000 ![] bcast_S_S7x20000 (constant S_ .f32 0x3E99999A#32))) (Host.exp (Host.divf (mulf (mulf (broadcastInDim S7x20000 ![] bcast_S_S7x20000 (constant S_ .f32 0xBF000000#32)) (res_main_while0b_v212 V0)) (res_main_while0b_v212 V0)) (broadcastInDim S7x20000 ![] bcast_S_S7x20000 (constant S_ .f32 0x3F000000#32)))) (broadcastInDim S7x20000 ![] bcast_S_S7x20000 (id (constant S_ .f32 0x00000000#32))))) (concatenate S7x2 1 [⟨S7x1, (broadcastInDim S7x1 ![0] bcast_S7_S7x1_0 (select (cmpi .slt (V0 (Proc.devRef .tc main_v78_1)) (broadcastInDim S7 ![] bcast_S_S7 (constantI S_ 32 0#32))) (addi (V0 (Proc.devRef .tc main_v78_1)) (broadcastInDim S7 ![] bcast_S_S7 (constantI S_ 32 7#32))) (V0 (Proc.devRef .tc main_v78_1))))⟩, ⟨S7x1, (broadcastInDim S7x1 ![0] bcast_S7_S7x1_0 (select (cmpi .slt (res_main_while0b_v123 V0) (broadcastInDim S7 ![] bcast_S_S7 (constantI S_ 32 0#32))) (addi (res_main_while0b_v123 V0) (broadcastInDim S7 ![] bcast_S_S7 (constantI S_ 32 20000#32))) (res_main_while0b_v123 V0)))⟩] concatenates_S7x1_S7x1_S7x2_d1) (broadcastInDim S7 ![] bcast_S_S7 (constant S_ .f32 0xBF800000#32))) := by
  simp only [bodyI, afterL_cons, afterL_nil, trip_windows]
  after_results
  all_goals (try simp only [val9_main_while0b_v237, val9_main_while0b_v238, val9_main_v78_0, val9_main_v78_1, val9_main_v78_2, val9_main_v78_3, val9_main_v78_4]) <;> rfl
set_option maxRecDepth 8192 in
set_option maxHeartbeats 2000000 in
/-- `main_v78_4` after one trip's body, from any contents. -/
theorem trip_main_v78_4 (V0 : Valuation τ sig (Elt F)) : afterL bodyI V0 (no_index (Proc.devRef .tc main_v78_4)) = id (Host.dynamicUpdateSlice (V0 (Proc.devRef .tc main_v78_4)) (broadcastInDim S1x7 ![1] bcast_S7_S1x7_1 (res_main_while0b_v123 V0)) (fun k => (((![V0 (Proc.devRef .tc main_v78_2), constantI S_ 32 0#32] : Fin 2 → (⟨S_, .i32⟩ : BufTy).Contents (Elt F))) k (Shape.Idx.first h_S_)).toInt) updateFits_S100x7_S1x7) := by
  simp only [bodyI, afterL_cons, afterL_nil, trip_windows]
  after_results
  all_goals (try simp only [val9_main_while0b_v237, val9_main_while0b_v238, val9_main_v78_0, val9_main_v78_1, val9_main_v78_2, val9_main_v78_3, val9_main_v78_4]) <;> rfl

end Cert.ReferenceIdeal.Value

end
-- ==== Proof.RefLoop.lean ====
/-
  The reference's loop at the extended reals: one trip's buffers read at an index, and all trips as the rounds of the
  model.
-/
module

public import proofs.«01_k».proof.Proof.RefOps
public import proofs.«01_k».proof.Proof.RefTrip

@[expose] public section

set_option maxRecDepth 16384

noncomputable section

namespace Cert.RefLoop

open Idealize.ShloMosaic Idealize.ShloMosaic.TcCoe
open Cert.ReferenceIdeal Cert.ReferenceIdeal.Gen Cert.ReferenceIdeal.Value
open Cert.Model Cert.KernIdeal Cert.RefOps
open Idealize.ShloMosaic.StableHlo

/-- One row of the kept positions overwritten. -/
theorem dus_row (x : IVec S100x7 32) (u : IVec S1x7 32) (st : Fin 2 → ℤ) (t : ℕ) (ht : t < 100) (h0 : st 0 = t) (h1 : st 1 = 0) (r : Fin 100) (c : Fin 7) :
    Host.dynamicUpdateSlice x u st updateFits_S100x7_S1x7 (ix2 r c) = if r.val = t then u (ix2 0 c) else x (ix2 r c) := by
  have c0 : Host.clampedStart S100x7 S1x7 updateFits_S100x7_S1x7.1 st 0 = t :=
    (show (min (max (st 0) 0) ((100 - 1 : ℕ) : ℤ)).toNat = t by rw [h0]; omega)
  have c1 : Host.clampedStart S100x7 S1x7 updateFits_S100x7_S1x7.1 st 1 = 0 :=
    (show (min (max (st 1) 0) ((7 - 7 : ℕ) : ℤ)).toNat = 0 by rw [h1]; omega)
  rw [Host.dynamicUpdateSlice_apply]
  by_cases h : r.val = t
  · rw [if_pos h, dif_pos]
    · congr 1
      funext a
      apply Fin.ext
      match a with
      | ⟨0, _⟩ =>
        show r.val - Host.clampedStart S100x7 S1x7 updateFits_S100x7_S1x7.1 st 0 = 0
        rw [c0]
        omega
      | ⟨1, _⟩ =>
        show c.val - Host.clampedStart S100x7 S1x7 updateFits_S100x7_S1x7.1 st 1 = c.val
        rw [c1]
        omega
    · intro a
      match a with
      | ⟨0, _⟩ =>
        show Host.clampedStart S100x7 S1x7 updateFits_S100x7_S1x7.1 st 0 ≤ r.val ∧ r.val < Host.clampedStart S100x7 S1x7 updateFits_S100x7_S1x7.1 st 0 + 1
        rw [c0]
        omega
      | ⟨1, _⟩ =>
        show Host.clampedStart S100x7 S1x7 updateFits_S100x7_S1x7.1 st 1 ≤ c.val ∧ c.val < Host.clampedStart S100x7 S1x7 updateFits_S100x7_S1x7.1 st 1 + 7
        rw [c1]
        omega
  · rw [if_neg h, dif_neg]
    intro ha
    have h2 : Host.clampedStart S100x7 S1x7 updateFits_S100x7_S1x7.1 st 0 ≤ r.val ∧ r.val < Host.clampedStart S100x7 S1x7 updateFits_S100x7_S1x7.1 st 0 + 1 := ha 0
    rw [c0] at h2
    omega

section
variable (V0 : Valuation τ sig (Elt Ideal)) (B : Fin 20000 → Fin 4 → EReal) (s : Fin 7 → Fin 20000 → EReal)
    (hB : ∀ n k, (V0 (Proc.devRef .tc main_v78_0) : FVec Ideal S20000x4 .f32) (ix2 n k) = B n k)
    (hS : ∀ c n, (V0 (Proc.devRef .tc main_v78_3) : FVec Ideal S7x20000 .f32) (ix2 c n) = s c n)
    (hI : ∀ c, (V0 (Proc.devRef .tc main_v78_1) : IVec S7 32) (ix1 c) = BitVec.ofNat 32 c.val)

include hS in
/-- The arg-max of each class. -/
theorem v123_apply (c : Fin 7) : (res_main_while0b_v123 V0 : IVec S7 32) (ix1 c) = BitVec.ofNat 32 (am (s c)).val := by
  unfold res_main_while0b_v123
  refine (argmax_row (M := 7) (N := 20000) (by decide) reducesTo_S7x20000_S7_d1 h_S_ (V0 (Proc.devRef .tc main_v78_3)) (res_main_while0b_call5_v0 V0)
    (res_main_while0b_call5_cst V0) (res_main_while0b_call5_c V0) (ix1 c) c rfl (fun k => rfl) (fun i => w_neg_inf) (fun i => rfl)).trans ?_
  rw [show (fun k => (V0 (Proc.devRef .tc main_v78_3) : FVec Ideal S7x20000 .f32) (ix2 c k)) = s c from funext fun k => hS c k]

/-- A wrapped position: a number that is not negative stays. -/
theorem wrap_pos (n : ℕ) (b : BitVec 32) (h : n < 2 ^ 31) :
    Scalar.select (IntOp.cmpi .slt (BitVec.ofNat 32 n) 0#32) b (BitVec.ofNat 32 n) = BitVec.ofNat 32 n := by
  rw [show (0#32 : BitVec 32) = BitVec.ofNat 32 0 from rfl, KernSel.cmpi_slt_ofNat h (by decide), select_bit, if_neg (Nat.not_lt_zero n)]

include hS hB in
/-- The boxes taken. -/
theorem v130_apply (c : Fin 7) (k : Fin 4) : (res_main_while0b_v130 V0 : FVec Ideal S7x4 .f32) (ix2 c k) = B (am (s c)) k := by
  unfold res_main_while0b_v130
  refine (Routing.gather_row _ rfl rfl rfl rfl rfl _ _ c k (am (s c)) ?_ (by decide)).trans (hB _ k)
  have e := v123_apply V0 s hS c
  pointwise
  rw [e]
  exact wrap_pos _ _ (by omega)

include hS hB in
/-- The area each box shares with the box taken. -/
theorem v173_apply (c : Fin 7) (n : Fin 20000) : (res_main_while0b_v173 V0 : FVec Ideal S7x20000 .f32) (ix2 c n) = inter (B (am (s c))) (B n) := by
  have e := v130_apply V0 B s hB hS
  pointwise [res_main_while0b_v173]
  simp only [e, hB]
  rfl

include hS hB in
/-- The overlap of each box with the box taken. -/
theorem v212_apply (c : Fin 7) (n : Fin 20000) : (res_main_while0b_v212 V0 : FVec Ideal S7x20000 .f32) (ix2 c n) = iou (B (am (s c))) (B n) := by
  have e := v130_apply V0 B s hB hS
  have e' := v173_apply V0 B s hB hS
  pointwise [res_main_while0b_v212]
  simp only [e, e', hB]
  rfl

include hS hB hI in
/-- The scores after a trip: one round on each class. -/
theorem scores_step (c : Fin 7) (n : Fin 20000) :
    (afterL bodyI V0 (Proc.devRef .tc main_v78_3) : FVec Ideal S7x20000 .f32) (ix2 c n) = stepRow B (s c) n := by
  have e := v212_apply V0 B s hB hS
  have e' := v123_apply V0 s hS
  rw [trip_main_v78_3]
  dsimp only [id_eq]
  refine Eq.trans (scatter_row _ _ _ (w 0xBF800000#32) (fun c => am (s c)) ?_ ?_ ?_ c n) ?_
  · intro c
    pointwise
    rw [hI]
    exact wrap_pos _ _ (by omega)
  · intro c
    pointwise
    rw [e']
    exact wrap_pos _ _ (by omega)
  · intro i
    rfl
  · unfold stepRow
    refine if_congr Iff.rfl rfl ?_
    pointwise
    rw [e, hS]
    rfl

include hS in
/-- The positions kept after a trip: the trip's own row is the classes' arg-max, the others stay. -/
theorem kept_step (t : ℕ) (ht : t < 100) (hc : ∀ i, (V0 (Proc.devRef .tc main_v78_2) : IVec S_ 32) i = BitVec.ofNat 32 t) (r : Fin 100) (c : Fin 7) :
    (afterL bodyI V0 (Proc.devRef .tc main_v78_4) : IVec S100x7 32) (ix2 r c) =
      if r.val = t then BitVec.ofNat 32 (am (s c)).val else (V0 (Proc.devRef .tc main_v78_4) : IVec S100x7 32) (ix2 r c) := by
  have e' := v123_apply V0 s hS
  rw [trip_main_v78_4]
  dsimp only [id_eq]
  refine Eq.trans (dus_row _ _ _ t ht ?_ ?_ r c) ?_
  · show BitVec.toInt ((V0 (Proc.devRef .tc main_v78_2) : IVec S_ 32) (Shape.Idx.first h_S_)) = t
    rw [hc, toInt_ofNat32 (by omega)]
  · show BitVec.toInt 0#32 = 0
    rfl
  · refine if_congr Iff.rfl ?_ rfl
    pointwise
    exact e' c

end

/-! ## All trips -/

section
variable (m : (ℓ : Loc nD τ sig) → Buf (Elt Ideal) ℓ) (d : Dev nD)
    (B : Fin 20000 → Fin 4 → EReal) (s0 : Fin 7 → Fin 20000 → EReal)
    (hB : ∀ n k, (entryContents preI m d (Proc.devRef .tc main_v78_0) : FVec Ideal S20000x4 .f32) (ix2 n k) = B n k)
    (hS : ∀ c n, (entryContents preI m d (Proc.devRef .tc main_v78_3) : FVec Ideal S7x20000 .f32) (ix2 c n) = s0 c n)
    (hI : ∀ c, (entryContents preI m d (Proc.devRef .tc main_v78_1) : IVec S7 32) (ix1 c) = BitVec.ofNat 32 c.val)
include hB hS hI

/-- What the loop carries before trip `k`. -/
theorem loop_state (k : ℕ) (hk : k ≤ 100) :
    (∀ n k', (atK m k d (Proc.devRef .tc main_v78_0) : FVec Ideal S20000x4 .f32) (ix2 n k') = B n k')
      ∧ (∀ c n, (atK m k d (Proc.devRef .tc main_v78_3) : FVec Ideal S7x20000 .f32) (ix2 c n) = rowAt B (s0 c) k n)
      ∧ (∀ c, (atK m k d (Proc.devRef .tc main_v78_1) : IVec S7 32) (ix1 c) = BitVec.ofNat 32 c.val)
      ∧ (∀ (r : Fin 100) (c : Fin 7), r.val < k → (atK m k d (Proc.devRef .tc main_v78_4) : IVec S100x7 32) (ix2 r c) = BitVec.ofNat 32 (am (rowAt B (s0 c) r.val)).val) := by
  induction k with
  | zero => exact ⟨hB, hS, hI, fun r c h => absurd h (Nat.not_lt_zero _)⟩
  | succ k ih =>
    obtain ⟨h0, h3, h1, h4⟩ := ih (by omega)
    have keep : ∀ r : Ref sig .tc, r ∉ condOps_W → after condOps (atK m k d) (Proc.devRef .tc r) = atK m k d (Proc.devRef .tc r) :=
      fun r hr => after_of_writes_sub _ _ condOps_writes hr
    have k0 := keep main_v78_0 (by decide +kernel)
    have k1 := keep main_v78_1 (by decide +kernel)
    have k2 := keep main_v78_2 (by decide +kernel)
    have k3 := keep main_v78_3 (by decide +kernel)
    have k4 := keep main_v78_4 (by decide +kernel)
    have e : atK m (k + 1) d = afterL bodyI (after condOps (atK m k d)) := rfl
    rw [← k0] at h0
    rw [← k1] at h1
    rw [← k3] at h3
    refine ⟨fun n k' => ?_, fun c n => ?_, fun c => ?_, fun r c hr => ?_⟩
    · rw [e, trip_main_v78_0]
      exact h0 n k'
    · rw [e]
      exact scores_step _ B (fun c => rowAt B (s0 c) k) h0 h3 h1 c n
    · rw [e, trip_main_v78_1]
      exact h1 c
    · rw [e]
      refine (kept_step _ (fun c => rowAt B (s0 c) k) h3 k (by omega) (fun i => ?_) r c).trans ?_
      · rw [k2, atK_ctr]
        simp [Scf.iv]
      · by_cases hrk : r.val = k
        · rw [if_pos hrk, hrk]
        · rw [if_neg hrk, k4]
          exact h4 r c (by omega)

end

end Cert.RefLoop
end
-- ==== Proof.RefEntry.lean ====
/-
  The reference before its loop, at the extended reals: the class scores, the decoded boxes and the scores each class
  starts from, read at an index, stretch by stretch.
-/
module

public import proofs.«01_k».proof.Proof.RefLoop

@[expose] public section

set_option maxRecDepth 16384

noncomputable section

namespace Cert.RefEntry

open Idealize.ShloMosaic Idealize.ShloMosaic.TcCoe Idealize.ShloMosaic.Tactic
open Cert.ReferenceIdeal Cert.ReferenceIdeal.Gen Cert.ReferenceIdeal.Value
open Cert.Model Cert.KernIdeal Cert.RefOps
open Idealize.ShloMosaic.StableHlo

/-- A small count as a word is positive when the count is. -/
theorem cmpi_sgt_zero {a : ℕ} (ha : a < 2 ^ 31) : IntOp.cmpi .sgt (BitVec.ofNat 32 a) 0#32 = BitVec.ofBool (decide (0 < a)) := by
  show BitVec.ofBool (BitVec.slt 0#32 (BitVec.ofNat 32 a)) = _
  congr 1
  rw [BitVec.slt, toInt_ofNat32 ha]
  simp

/-- The first greatest position is not the first one exactly when something exceeds the first. -/
theorem am_pos {N : ℕ} [NeZero N] (x : Fin N → EReal) : 0 < (am x).val ↔ x 0 < x (am x) := by
  have h := am_spec x
  constructor
  · intro h0
    exact h.2 0 (by rw [Fin.lt_def]; simpa using h0)
  · intro h0
    by_contra hc
    have : am x = 0 := Fin.ext (by simpa using hc)
    rw [this] at h0
    exact lt_irrefl _ h0

section
variable (V : Valuation τ sig (Elt Ideal))

abbrev A0 : FVec Ideal S1x20000x1 .f32 := V (Proc.devRef .tc main_arg0)
abbrev A1 : FVec Ideal S1x20000x8 .f32 := V (Proc.devRef .tc main_arg1)
abbrev A2 : FVec Ideal S1x20000x4 .f32 := V (Proc.devRef .tc main_arg2)
abbrev A3 : FVec Ideal S20000x4 .f32 := V (Proc.devRef .tc main_arg3)

/-! ## The class scores -/

theorem v4_at (n : Fin 20000) (c : Fin 8) : (after hostOps0 V (Proc.devRef .tc main_v4) : FVec Ideal S20000x8 .f32) (ix2 n c) = Lm (A0 V) (A1 V) n c := by
  after_reads_simp
  pointwise
  rfl
theorem v5_at (n : Fin 20000) : (after hostOps0 V (Proc.devRef .tc main_v5) : FVec Ideal S20000 .f32) (ix1 n) = Lm (A0 V) (A1 V) n (am (Lm (A0 V) (A1 V) n)) := by
  after_reads_simp
  pointwise
  rw [w_neg_inf]
  exact fold_max_am (Lm (A0 V) (A1 V) n)
theorem v2_at (n : Fin 20000) (k : Fin 4) : (after hostOps0 V (Proc.devRef .tc main_v2) : FVec Ideal S20000x4 .f32) (ix2 n k) = A2 V (ix3 0 n k) := by
  after_reads_simp
  pointwise

/-- The best class of each row. -/
theorem v6_at (L : Fin 20000 → Fin 8 → EReal) (h4 : ∀ n c, (V (Proc.devRef .tc main_v4) : FVec Ideal S20000x8 .f32) (ix2 n c) = L n c) (n : Fin 20000) :
    (after hostOps0_1 V (Proc.devRef .tc main_v6) : IVec S20000 32) (ix1 n) = BitVec.ofNat 32 (am (L n)).val := by
  after_reads_simp
  refine (argmax_row (M := 20000) (N := 8) (by decide) reducesTo_S20000x8_S20000_d1 h_S_ (V (Proc.devRef .tc main_v4)) (iotaInDim S20000x8 32 1)
    (constant (F := Ideal) S_ FTy.f32 4286578688#32) (constantI S_ 32 0#32) (ix1 n) n rfl (fun k => rfl) (fun i => w_neg_inf) (fun i => rfl)).trans ?_
  rw [show (fun k => (V (Proc.devRef .tc main_v4) : FVec Ideal S20000x8 .f32) (ix2 n k)) = L n from funext fun k => h4 n k]

/-! ## The mask and the boxes' parts -/

/-- Which rows may be a detection. -/
theorem v11_at (x : Fin 20000 → EReal) (i : Fin 20000 → Fin 8) (h5 : ∀ n, (V (Proc.devRef .tc main_v5) : FVec Ideal S20000 .f32) (ix1 n) = x n)
    (h6 : ∀ n, (V (Proc.devRef .tc main_v6) : IVec S20000 32) (ix1 n) = BitVec.ofNat 32 (i n).val) (n : Fin 20000) :
    (after hostOps0_2 V (Proc.devRef .tc main_v11) : IVec S20000 1) (ix1 n) = BitVec.ofBool (decide (w 0x3F333333#32 ≤ x n ∧ 0 < (i n).val)) := by
  after_reads_simp
  pointwise
  rw [h5, h6, cmpi_sgt_zero (by omega)]
  exact andi_bit _ _

/-- The word of the least size ratio, as the real it stands for. -/
theorem w_ratio : Ideal.ofBits .f32 0x3C83126F#32 = ((8589935 / 536870912 : ℝ) : EReal) := by
  simp [Ideal.ofBits, Ideal.ieee]
  rw [← EReal.coe_mul]
  norm_num

/-- The greatest size ratio: the absolute value of the least one's logarithm. -/
theorem abs_log : FloatOps.absf (F := Ideal) (φ := .f32) (Ideal.log (Ideal.ofBits .f32 0x3C83126F#32)) = mr := by
  rw [w_ratio]
  have e : Ideal.log ((8589935 / 536870912 : ℝ) : EReal) = ((Real.log (8589935 / 536870912) : ℝ) : EReal) := by
    show (if (8589935 / 536870912 : ℝ) ≤ 0 then ⊥ else ((Real.log (8589935 / 536870912) : ℝ) : EReal)) = _
    rw [if_neg (by norm_num)]
  have hn : Real.log (8589935 / 536870912) < 0 := Real.log_neg (by norm_num) (by norm_num)
  rw [e]
  show max ((Real.log (8589935 / 536870912) : ℝ) : EReal) (-((Real.log (8589935 / 536870912) : ℝ) : EReal)) = ((-(Real.log (8589935 / 536870912)) : ℝ) : EReal)
  rw [← EReal.coe_neg]
  exact max_eq_right (by exact_mod_cast (by linarith : Real.log (8589935 / 536870912) ≤ -Real.log (8589935 / 536870912)))

theorem v41_at (i) : (after hostOps0_2 V (Proc.devRef .tc main_v41) : FVec Ideal S_ .f32) i = mr := by
  after_reads_simp
  pointwise
  exact abs_log
theorem v42_at (i) : (after hostOps0_2 V (Proc.devRef .tc main_v42) : FVec Ideal S_ .f32) i = 0 - mr := by
  after_reads_simp
  pointwise
  rw [abs_log, sub_eq_add_neg, zero_add]
theorem v16_at (n) : (after hostOps0_2 V (Proc.devRef .tc main_v16) : FVec Ideal S20000 .f32) (ix1 n) = A3 V (ix2 n 2) - A3 V (ix2 n 0) := by
  after_reads_simp
  pointwise
theorem v21_at (n) : (after hostOps0_2 V (Proc.devRef .tc main_v21) : FVec Ideal S20000 .f32) (ix1 n) = A3 V (ix2 n 3) - A3 V (ix2 n 1) := by
  after_reads_simp
  pointwise
theorem v26_at (n) : (after hostOps0_2 V (Proc.devRef .tc main_v26) : FVec Ideal S20000 .f32) (ix1 n) = A3 V (ix2 n 0) + w 0x3F000000#32 * (A3 V (ix2 n 2) - A3 V (ix2 n 0)) := by
  after_reads_simp
  pointwise
theorem v31_at (n) : (after hostOps0_2 V (Proc.devRef .tc main_v31) : FVec Ideal S20000 .f32) (ix1 n) = A3 V (ix2 n 1) + w 0x3F000000#32 * (A3 V (ix2 n 3) - A3 V (ix2 n 1)) := by
  after_reads_simp
  pointwise
theorem v33_at (n) : (after hostOps0_2 V (Proc.devRef .tc main_v33) : FVec Ideal S20000 .f32) (ix1 n) = (V (Proc.devRef .tc main_v2) : FVec Ideal S20000x4 .f32) (ix2 n 0) := by
  after_reads_simp
  pointwise
theorem v35_at (n) : (after hostOps0_2 V (Proc.devRef .tc main_v35) : FVec Ideal S20000 .f32) (ix1 n) = (V (Proc.devRef .tc main_v2) : FVec Ideal S20000x4 .f32) (ix2 n 1) := by
  after_reads_simp
  pointwise
theorem v37_at (n) : (after hostOps0_2 V (Proc.devRef .tc main_v37) : FVec Ideal S20000 .f32) (ix1 n) = (V (Proc.devRef .tc main_v2) : FVec Ideal S20000x4 .f32) (ix2 n 2) := by
  after_reads_simp
  pointwise
theorem v39_at (n) : (after hostOps0_2 V (Proc.devRef .tc main_v39) : FVec Ideal S20000 .f32) (ix1 n) = (V (Proc.devRef .tc main_v2) : FVec Ideal S20000x4 .f32) (ix2 n 3) := by
  after_reads_simp
  pointwise

/-- The clipped widths. -/
theorem v43_at (h41 : ∀ i, (V (Proc.devRef .tc main_v41) : FVec Ideal S_ .f32) i = mr) (h42 : ∀ i, (V (Proc.devRef .tc main_v42) : FVec Ideal S_ .f32) i = 0 - mr) (n) :
    (after hostOps0_3 V (Proc.devRef .tc main_v43) : FVec Ideal S20000 .f32) (ix1 n) = clipR mr ((V (Proc.devRef .tc main_v37) : FVec Ideal S20000 .f32) (ix1 n)) := by
  after_reads_simp
  change (minimumf (F := Ideal) (broadcastInDim S20000 ![] bcast_S_S20000 (V (Proc.devRef .tc main_v41) : FVec Ideal S_ .f32)) (maximumf (F := Ideal) (broadcastInDim S20000 ![] bcast_S_S20000 (V (Proc.devRef .tc main_v42) : FVec Ideal S_ .f32)) (V (Proc.devRef .tc main_v37) : FVec Ideal S20000 .f32))) (ix1 n) = _
  pointwise
  rw [h41, h42]
  rfl
theorem v44_at (h41 : ∀ i, (V (Proc.devRef .tc main_v41) : FVec Ideal S_ .f32) i = mr) (i) :
    (after hostOps0_4 V (Proc.devRef .tc main_v44) : FVec Ideal S_ .f32) i = 0 - mr := by
  after_reads_simp
  pointwise
  rw [h41, sub_eq_add_neg, zero_add]
/-- The clipped heights. -/
theorem v45_at (h41 : ∀ i, (V (Proc.devRef .tc main_v41) : FVec Ideal S_ .f32) i = mr) (h42 : ∀ i, (V (Proc.devRef .tc main_v44) : FVec Ideal S_ .f32) i = 0 - mr) (n) :
    (after hostOps0_5 V (Proc.devRef .tc main_v45) : FVec Ideal S20000 .f32) (ix1 n) = clipR mr ((V (Proc.devRef .tc main_v39) : FVec Ideal S20000 .f32) (ix1 n)) := by
  after_reads_simp
  change (minimumf (F := Ideal) (broadcastInDim S20000 ![] bcast_S_S20000 (V (Proc.devRef .tc main_v41) : FVec Ideal S_ .f32)) (maximumf (F := Ideal) (broadcastInDim S20000 ![] bcast_S_S20000 (V (Proc.devRef .tc main_v44) : FVec Ideal S_ .f32)) (V (Proc.devRef .tc main_v39) : FVec Ideal S20000 .f32))) (ix1 n) = _
  pointwise
  rw [h41, h42]
  rfl

/-- The boxes before they are clipped to the image. -/
theorem v70_at (wx wy cx cy dx dy sx sy : Fin 20000 → EReal)
    (h16 : ∀ n, (V (Proc.devRef .tc main_v16) : FVec Ideal S20000 .f32) (ix1 n) = wx n)
    (h21 : ∀ n, (V (Proc.devRef .tc main_v21) : FVec Ideal S20000 .f32) (ix1 n) = wy n)
    (h26 : ∀ n, (V (Proc.devRef .tc main_v26) : FVec Ideal S20000 .f32) (ix1 n) = cx n)
    (h31 : ∀ n, (V (Proc.devRef .tc main_v31) : FVec Ideal S20000 .f32) (ix1 n) = cy n)
    (h33 : ∀ n, (V (Proc.devRef .tc main_v33) : FVec Ideal S20000 .f32) (ix1 n) = dx n)
    (h35 : ∀ n, (V (Proc.devRef .tc main_v35) : FVec Ideal S20000 .f32) (ix1 n) = dy n)
    (h43 : ∀ n, (V (Proc.devRef .tc main_v43) : FVec Ideal S20000 .f32) (ix1 n) = sx n)
    (h45 : ∀ n, (V (Proc.devRef .tc main_v45) : FVec Ideal S20000 .f32) (ix1 n) = sy n) (n : Fin 20000) (k : Fin 4) :
    (after hostOps0_6 V (Proc.devRef .tc main_v70) : FVec Ideal S20000x4 .f32) (ix2 n k)
      = (![cx n + dx n * wx n - w 0x3F000000#32 * (wx n * Ideal.exp (sx n)), cy n + dy n * wy n - w 0x3F000000#32 * (wy n * Ideal.exp (sy n)),
          cx n + dx n * wx n + w 0x3F000000#32 * (wx n * Ideal.exp (sx n)), cy n + dy n * wy n + w 0x3F000000#32 * (wy n * Ideal.exp (sy n))] : Fin 4 → EReal) k := by
  after_reads_simp
  fin_cases k <;>
    (pointwise
     after_reads_simp
     pointwise
     simp only [h16, h21, h26, h31, h33, h35, h43, h45])

theorem cst8_at (i) : (after hostOps0_6 V (Proc.devRef .tc main_cst_8) : FVec Ideal S_ .f32) i = (0 : EReal) := by
  after_reads_simp
  pointwise
theorem cst9_at (i) : (after hostOps0_6 V (Proc.devRef .tc main_cst_9) : FVec Ideal S_ .f32) i = (1 : EReal) := by
  after_reads_simp
  pointwise

/-- The boxes clipped to the image. -/
theorem v71_at (h8 : ∀ i, (V (Proc.devRef .tc main_cst_8) : FVec Ideal S_ .f32) i = (0 : EReal)) (h9 : ∀ i, (V (Proc.devRef .tc main_cst_9) : FVec Ideal S_ .f32) i = (1 : EReal)) (n : Fin 20000) (k : Fin 4) :
    (after hostOps0_7 V (Proc.devRef .tc main_v71) : FVec Ideal S20000x4 .f32) (ix2 n k) = clip01 ((V (Proc.devRef .tc main_v70) : FVec Ideal S20000x4 .f32) (ix2 n k)) := by
  after_reads_simp
  change (minimumf (F := Ideal) (broadcastInDim S20000x4 ![] bcast_S_S20000x4 (V (Proc.devRef .tc main_cst_9) : FVec Ideal S_ .f32)) (maximumf (F := Ideal) (broadcastInDim S20000x4 ![] bcast_S_S20000x4 (V (Proc.devRef .tc main_cst_8) : FVec Ideal S_ .f32)) (V (Proc.devRef .tc main_v70) : FVec Ideal S20000x4 .f32))) (ix2 n k) = _
  pointwise
  rw [h8, h9]
  rfl

/-! ## The scores each class starts from -/

theorem v72_at (n : Fin 20000) : (after hostOps0_8 V (Proc.devRef .tc main_v72) : IVec S1x20000 1) (ix2 0 n) = (V (Proc.devRef .tc main_v11) : IVec S20000 1) (ix1 n) := by
  after_reads_simp
  pointwise
theorem v74_at (c : Fin 7) (n : Fin 20000) : (after hostOps0_8 V (Proc.devRef .tc main_v74) : FVec Ideal S7x20000 .f32) (ix2 c n) = (V (Proc.devRef .tc main_v4) : FVec Ideal S20000x8 .f32) (ix2 n c.succ) := by
  after_reads_simp
  pointwise
  exact congrArg (fun x => (V (Proc.devRef .tc main_v4) : FVec Ideal S20000x8 .f32) (ix2 n x)) (Fin.ext (Nat.add_comm 1 c.val))
theorem cst10_at (i) : (after hostOps0_8 V (Proc.devRef .tc main_cst_10) : FVec Ideal S_ .f32) i = (0 : EReal) := by
  after_reads_simp
  pointwise
theorem v75_at (h10 : ∀ i, (V (Proc.devRef .tc main_cst_10) : FVec Ideal S_ .f32) i = (0 : EReal)) (p : Fin 20000 → Prop) [∀ n, Decidable (p n)]
    (h72 : ∀ n, (V (Proc.devRef .tc main_v72) : IVec S1x20000 1) (ix2 0 n) = BitVec.ofBool (decide (p n))) (c : Fin 7) (n : Fin 20000) :
    (after hostOps0_9 V (Proc.devRef .tc main_v75) : FVec Ideal S7x20000 .f32) (ix2 c n) = if p n then (V (Proc.devRef .tc main_v74) : FVec Ideal S7x20000 .f32) (ix2 c n) else (0 : EReal) := by
  after_reads_simp
  change (select (broadcastInDim S7x20000 ![0, 1] bcast_S1x20000_S7x20000_0_1 (V (Proc.devRef .tc main_v72) : IVec S1x20000 1)) (V (Proc.devRef .tc main_v74) : FVec Ideal S7x20000 .f32) (broadcastInDim S7x20000 ![] bcast_S_S7x20000 (V (Proc.devRef .tc main_cst_10) : FVec Ideal S_ .f32))) (ix2 c n) = _
  pointwise
  rw [h72, h10, select_bit]

theorem v78_0_at (n : Fin 20000) (k : Fin 4) : (after hostOps0_10 V (Proc.devRef .tc main_v78_0) : FVec Ideal S20000x4 .f32) (ix2 n k) = (V (Proc.devRef .tc main_v71) : FVec Ideal S20000x4 .f32) (ix2 n k) := by
  after_reads_simp
  rfl
theorem v78_1_at (c : Fin 7) : (after hostOps0_10 V (Proc.devRef .tc main_v78_1) : IVec S7 32) (ix1 c) = BitVec.ofNat 32 c.val := by
  after_reads_simp
  rfl
theorem v78_3_at (c : Fin 7) (n : Fin 20000) : (after hostOps0_10 V (Proc.devRef .tc main_v78_3) : FVec Ideal S7x20000 .f32) (ix2 c n) = (V (Proc.devRef .tc main_v75) : FVec Ideal S7x20000 .f32) (ix2 c n) := by
  after_reads_simp
  rfl

/-! ## The whole of it -/

/-- The contents after the first 1 stretches. -/
@[irreducible] def U1 : Valuation τ sig (Elt Ideal) := after hostOps0 (V)
/-- The contents after the first 2 stretches. -/
@[irreducible] def U2 : Valuation τ sig (Elt Ideal) := after hostOps0_1 (U1 V)
/-- The contents after the first 3 stretches. -/
@[irreducible] def U3 : Valuation τ sig (Elt Ideal) := after hostOps0_2 (U2 V)
/-- The contents after the first 4 stretches. -/
@[irreducible] def U4 : Valuation τ sig (Elt Ideal) := after hostOps0_3 (U3 V)
/-- The contents after the first 5 stretches. -/
@[irreducible] def U5 : Valuation τ sig (Elt Ideal) := after hostOps0_4 (U4 V)
/-- The contents after the first 6 stretches. -/
@[irreducible] def U6 : Valuation τ sig (Elt Ideal) := after hostOps0_5 (U5 V)
/-- The contents after the first 7 stretches. -/
@[irreducible] def U7 : Valuation τ sig (Elt Ideal) := after hostOps0_6 (U6 V)
/-- The contents after the first 8 stretches. -/
@[irreducible] def U8 : Valuation τ sig (Elt Ideal) := after hostOps0_7 (U7 V)
/-- The contents after the first 9 stretches. -/
@[irreducible] def U9 : Valuation τ sig (Elt Ideal) := after hostOps0_8 (U8 V)
/-- The contents after the first 10 stretches. -/
@[irreducible] def U10 : Valuation τ sig (Elt Ideal) := after hostOps0_9 (U9 V)
/-- The contents after the first 11 stretches. -/
@[irreducible] def U11 : Valuation τ sig (Elt Ideal) := after hostOps0_10 (U10 V)
theorem U1_def : U1 V = after hostOps0 V := by unfold U1; rfl
/-- Stretch 1 keeps what it does not write. -/
theorem U1_keep (r : Ref sig .tc) (h : r ∉ hostOps0_W) : U1 V (Proc.devRef .tc r) = V (Proc.devRef .tc r) := by
  rw [U1_def]
  exact after_of_writes_sub _ _ hostOps0_writes h
theorem U2_def : U2 V = after hostOps0_1 (U1 V) := by unfold U2; rfl
/-- Stretch 2 keeps what it does not write. -/
theorem U2_keep (r : Ref sig .tc) (h : r ∉ hostOps0_1_W) : U2 V (Proc.devRef .tc r) = (U1 V) (Proc.devRef .tc r) := by
  rw [U2_def]
  exact after_of_writes_sub _ _ hostOps0_1_writes h
theorem U3_def : U3 V = after hostOps0_2 (U2 V) := by unfold U3; rfl
/-- Stretch 3 keeps what it does not write. -/
theorem U3_keep (r : Ref sig .tc) (h : r ∉ hostOps0_2_W) : U3 V (Proc.devRef .tc r) = (U2 V) (Proc.devRef .tc r) := by
  rw [U3_def]
  exact after_of_writes_sub _ _ hostOps0_2_writes h
theorem U4_def : U4 V = after hostOps0_3 (U3 V) := by unfold U4; rfl
/-- Stretch 4 keeps what it does not write. -/
theorem U4_keep (r : Ref sig .tc) (h : r ∉ hostOps0_3_W) : U4 V (Proc.devRef .tc r) = (U3 V) (Proc.devRef .tc r) := by
  rw [U4_def]
  exact after_of_writes_sub _ _ hostOps0_3_writes h
theorem U5_def : U5 V = after hostOps0_4 (U4 V) := by unfold U5; rfl
/-- Stretch 5 keeps what it does not write. -/
theorem U5_keep (r : Ref sig .tc) (h : r ∉ hostOps0_4_W) : U5 V (Proc.devRef .tc r) = (U4 V) (Proc.devRef .tc r) := by
  rw [U5_def]
  exact after_of_writes_sub _ _ hostOps0_4_writes h
theorem U6_def : U6 V = after hostOps0_5 (U5 V) := by unfold U6; rfl
/-- Stretch 6 keeps what it does not write. -/
theorem U6_keep (r : Ref sig .tc) (h : r ∉ hostOps0_5_W) : U6 V (Proc.devRef .tc r) = (U5 V) (Proc.devRef .tc r) := by
  rw [U6_def]
  exact after_of_writes_sub _ _ hostOps0_5_writes h
theorem U7_def : U7 V = after hostOps0_6 (U6 V) := by unfold U7; rfl
/-- Stretch 7 keeps what it does not write. -/
theorem U7_keep (r : Ref sig .tc) (h : r ∉ hostOps0_6_W) : U7 V (Proc.devRef .tc r) = (U6 V) (Proc.devRef .tc r) := by
  rw [U7_def]
  exact after_of_writes_sub _ _ hostOps0_6_writes h
theorem U8_def : U8 V = after hostOps0_7 (U7 V) := by unfold U8; rfl
/-- Stretch 8 keeps what it does not write. -/
theorem U8_keep (r : Ref sig .tc) (h : r ∉ hostOps0_7_W) : U8 V (Proc.devRef .tc r) = (U7 V) (Proc.devRef .tc r) := by
  rw [U8_def]
  exact after_of_writes_sub _ _ hostOps0_7_writes h
theorem U9_def : U9 V = after hostOps0_8 (U8 V) := by unfold U9; rfl
/-- Stretch 9 keeps what it does not write. -/
theorem U9_keep (r : Ref sig .tc) (h : r ∉ hostOps0_8_W) : U9 V (Proc.devRef .tc r) = (U8 V) (Proc.devRef .tc r) := by
  rw [U9_def]
  exact after_of_writes_sub _ _ hostOps0_8_writes h
theorem U10_def : U10 V = after hostOps0_9 (U9 V) := by unfold U10; rfl
/-- Stretch 10 keeps what it does not write. -/
theorem U10_keep (r : Ref sig .tc) (h : r ∉ hostOps0_9_W) : U10 V (Proc.devRef .tc r) = (U9 V) (Proc.devRef .tc r) := by
  rw [U10_def]
  exact after_of_writes_sub _ _ hostOps0_9_writes h
theorem U11_def : U11 V = after hostOps0_10 (U10 V) := by unfold U11; rfl
/-- Stretch 11 keeps what it does not write. -/
theorem U11_keep (r : Ref sig .tc) (h : r ∉ hostOps0_10_W) : U11 V (Proc.devRef .tc r) = (U10 V) (Proc.devRef .tc r) := by
  rw [U11_def]
  exact after_of_writes_sub _ _ hostOps0_10_writes h
theorem entry_eq : afterL preI V = U11 V := by
  rw [U11_def, U10_def, U9_def, U8_def, U7_def, U6_def, U5_def, U4_def, U3_def, U2_def, U1_def]
  rfl

abbrev LV : Fin 20000 → Fin 8 → EReal := Lm (A0 V) (A1 V)

theorem u1_v4 (n : Fin 20000) (c : Fin 8) : (U1 V (Proc.devRef .tc main_v4) : FVec Ideal S20000x8 .f32) (ix2 n c) = LV V n c := by
  rw [U1_def]; exact v4_at V n c
theorem u2_v4 (n : Fin 20000) (c : Fin 8) : (U2 V (Proc.devRef .tc main_v4) : FVec Ideal S20000x8 .f32) (ix2 n c) = LV V n c := by
  rw [U2_keep V main_v4 (by decide +kernel)]; exact u1_v4 V n c
theorem u8_v4 (n : Fin 20000) (c : Fin 8) : (U8 V (Proc.devRef .tc main_v4) : FVec Ideal S20000x8 .f32) (ix2 n c) = LV V n c := by
  rw [U8_keep V main_v4 (by decide +kernel), U7_keep V main_v4 (by decide +kernel), U6_keep V main_v4 (by decide +kernel), U5_keep V main_v4 (by decide +kernel), U4_keep V main_v4 (by decide +kernel), U3_keep V main_v4 (by decide +kernel)]
  exact u2_v4 V n c
/-- The class scores at the loop's entry. -/
theorem entry_v4 (n : Fin 20000) (c : Fin 8) : (afterL preI V (Proc.devRef .tc main_v4) : FVec Ideal S20000x8 .f32) (ix2 n c) = LV V n c := by
  rw [entry_eq, U11_keep V main_v4 (by decide +kernel), U10_keep V main_v4 (by decide +kernel), U9_keep V main_v4 (by decide +kernel)]
  exact u8_v4 V n c

theorem u2_v5 (n : Fin 20000) : (U2 V (Proc.devRef .tc main_v5) : FVec Ideal S20000 .f32) (ix1 n) = LV V n (am (LV V n)) := by
  rw [U2_keep V main_v5 (by decide +kernel), U1_def]; exact v5_at V n
theorem u2_v6 (n : Fin 20000) : (U2 V (Proc.devRef .tc main_v6) : IVec S20000 32) (ix1 n) = BitVec.ofNat 32 (am (LV V n)).val := by
  rw [U2_def]; exact v6_at (U1 V) (LV V) (u1_v4 V) n
theorem u2_v2 (n : Fin 20000) (k : Fin 4) : (U2 V (Proc.devRef .tc main_v2) : FVec Ideal S20000x4 .f32) (ix2 n k) = A2 V (ix3 0 n k) := by
  rw [U2_keep V main_v2 (by decide +kernel), U1_def]; exact v2_at V n k
theorem u2_arg3 : U2 V (Proc.devRef .tc main_arg3) = A3 V := by
  rw [U2_keep V main_arg3 (by decide +kernel), U1_keep V main_arg3 (by decide +kernel)]
theorem u8_v11 (n : Fin 20000) : (U8 V (Proc.devRef .tc main_v11) : IVec S20000 1) (ix1 n)
    = BitVec.ofBool (decide (w 0x3F333333#32 ≤ LV V n (am (LV V n)) ∧ 0 < (am (LV V n)).val)) := by
  rw [U8_keep V main_v11 (by decide +kernel), U7_keep V main_v11 (by decide +kernel), U6_keep V main_v11 (by decide +kernel), U5_keep V main_v11 (by decide +kernel), U4_keep V main_v11 (by decide +kernel), U3_def]
  exact v11_at (U2 V) (fun n => LV V n (am (LV V n))) (fun n => am (LV V n)) (u2_v5 V) (u2_v6 V) n

theorem u3_v41 (i) : (U3 V (Proc.devRef .tc main_v41) : FVec Ideal S_ .f32) i = mr := by
  rw [U3_def]; exact v41_at (U2 V) i
theorem u3_v42 (i) : (U3 V (Proc.devRef .tc main_v42) : FVec Ideal S_ .f32) i = 0 - mr := by
  rw [U3_def]; exact v42_at (U2 V) i
theorem u4_v41 (i) : (U4 V (Proc.devRef .tc main_v41) : FVec Ideal S_ .f32) i = mr := by
  rw [U4_keep V main_v41 (by decide +kernel)]; exact u3_v41 V i
theorem u5_v41 (i) : (U5 V (Proc.devRef .tc main_v41) : FVec Ideal S_ .f32) i = mr := by
  rw [U5_keep V main_v41 (by decide +kernel)]; exact u4_v41 V i
theorem u5_v44 (i) : (U5 V (Proc.devRef .tc main_v44) : FVec Ideal S_ .f32) i = 0 - mr := by
  rw [U5_def]; exact v44_at (U4 V) (u4_v41 V) i
theorem u6_v43 (n) : (U6 V (Proc.devRef .tc main_v43) : FVec Ideal S20000 .f32) (ix1 n) = clipR mr (A2 V (ix3 0 n 2)) := by
  rw [U6_keep V main_v43 (by decide +kernel), U5_keep V main_v43 (by decide +kernel), U4_def]
  refine (v43_at (U3 V) (u3_v41 V) (u3_v42 V) n).trans (congrArg (clipR mr) ?_)
  rw [U3_def]
  exact (v37_at (U2 V) n).trans (u2_v2 V n 2)
theorem u6_v45 (n) : (U6 V (Proc.devRef .tc main_v45) : FVec Ideal S20000 .f32) (ix1 n) = clipR mr (A2 V (ix3 0 n 3)) := by
  rw [U6_def]
  refine (v45_at (U5 V) (u5_v41 V) (u5_v44 V) n).trans (congrArg (clipR mr) ?_)
  rw [U5_keep V main_v39 (by decide +kernel), U4_keep V main_v39 (by decide +kernel), U3_def]
  exact (v39_at (U2 V) n).trans (u2_v2 V n 3)
theorem u6_v16 (n) : (U6 V (Proc.devRef .tc main_v16) : FVec Ideal S20000 .f32) (ix1 n) = A3 V (ix2 n 2) - A3 V (ix2 n 0) := by
  rw [U6_keep V main_v16 (by decide +kernel), U5_keep V main_v16 (by decide +kernel), U4_keep V main_v16 (by decide +kernel), U3_def]
  refine (v16_at (U2 V) n).trans ?_
  show _ = _
  unfold A3
  rw [u2_arg3]
theorem u6_v21 (n) : (U6 V (Proc.devRef .tc main_v21) : FVec Ideal S20000 .f32) (ix1 n) = A3 V (ix2 n 3) - A3 V (ix2 n 1) := by
  rw [U6_keep V main_v21 (by decide +kernel), U5_keep V main_v21 (by decide +kernel), U4_keep V main_v21 (by decide +kernel), U3_def]
  refine (v21_at (U2 V) n).trans ?_
  show _ = _
  unfold A3
  rw [u2_arg3]
theorem u6_v26 (n) : (U6 V (Proc.devRef .tc main_v26) : FVec Ideal S20000 .f32) (ix1 n) = A3 V (ix2 n 0) + w 0x3F000000#32 * (A3 V (ix2 n 2) - A3 V (ix2 n 0)) := by
  rw [U6_keep V main_v26 (by decide +kernel), U5_keep V main_v26 (by decide +kernel), U4_keep V main_v26 (by decide +kernel), U3_def]
  refine (v26_at (U2 V) n).trans ?_
  show _ = _
  unfold A3
  rw [u2_arg3]
theorem u6_v31 (n) : (U6 V (Proc.devRef .tc main_v31) : FVec Ideal S20000 .f32) (ix1 n) = A3 V (ix2 n 1) + w 0x3F000000#32 * (A3 V (ix2 n 3) - A3 V (ix2 n 1)) := by
  rw [U6_keep V main_v31 (by decide +kernel), U5_keep V main_v31 (by decide +kernel), U4_keep V main_v31 (by decide +kernel), U3_def]
  refine (v31_at (U2 V) n).trans ?_
  show _ = _
  unfold A3
  rw [u2_arg3]
theorem u6_v33 (n) : (U6 V (Proc.devRef .tc main_v33) : FVec Ideal S20000 .f32) (ix1 n) = A2 V (ix3 0 n 0) := by
  rw [U6_keep V main_v33 (by decide +kernel), U5_keep V main_v33 (by decide +kernel), U4_keep V main_v33 (by decide +kernel), U3_def]
  exact (v33_at (U2 V) n).trans (u2_v2 V n 0)
theorem u6_v35 (n) : (U6 V (Proc.devRef .tc main_v35) : FVec Ideal S20000 .f32) (ix1 n) = A2 V (ix3 0 n 1) := by
  rw [U6_keep V main_v35 (by decide +kernel), U5_keep V main_v35 (by decide +kernel), U4_keep V main_v35 (by decide +kernel), U3_def]
  exact (v35_at (U2 V) n).trans (u2_v2 V n 1)

/-- The boxes at the loop's entry. -/
theorem u8_v71 (n : Fin 20000) (k : Fin 4) : (U8 V (Proc.devRef .tc main_v71) : FVec Ideal S20000x4 .f32) (ix2 n k) = Bm (A2 V) (A3 V) n k := by
  rw [U8_def]
  refine (v71_at (U7 V) (fun i => by rw [U7_def]; exact cst8_at (U6 V) i) (fun i => by rw [U7_def]; exact cst9_at (U6 V) i) n k).trans ?_
  rw [U7_def]
  refine (congrArg clip01 (v70_at (U6 V) _ _ _ _ _ _ _ _ (u6_v16 V) (u6_v21 V) (u6_v26 V) (u6_v31 V) (u6_v33 V) (u6_v35 V) (u6_v43 V) (u6_v45 V) n k)).trans ?_
  fin_cases k <;> rfl
theorem u10_v71 (n : Fin 20000) (k : Fin 4) : (U10 V (Proc.devRef .tc main_v71) : FVec Ideal S20000x4 .f32) (ix2 n k) = Bm (A2 V) (A3 V) n k := by
  rw [U10_keep V main_v71 (by decide +kernel), U9_keep V main_v71 (by decide +kernel)]; exact u8_v71 V n k
theorem entry_v71 (n : Fin 20000) (k : Fin 4) : (afterL preI V (Proc.devRef .tc main_v71) : FVec Ideal S20000x4 .f32) (ix2 n k) = Bm (A2 V) (A3 V) n k := by
  rw [entry_eq, U11_keep V main_v71 (by decide +kernel)]; exact u10_v71 V n k
theorem entry_boxes (n : Fin 20000) (k : Fin 4) : (afterL preI V (Proc.devRef .tc main_v78_0) : FVec Ideal S20000x4 .f32) (ix2 n k) = Bm (A2 V) (A3 V) n k := by
  rw [entry_eq, U11_def]; exact (v78_0_at (U10 V) n k).trans (u10_v71 V n k)
/-- The classes' numbers at the loop's entry. -/
theorem entry_classes (c : Fin 7) : (afterL preI V (Proc.devRef .tc main_v78_1) : IVec S7 32) (ix1 c) = BitVec.ofNat 32 c.val := by
  rw [entry_eq, U11_def]; exact v78_1_at (U10 V) c
/-- The scores at the loop's entry. -/
theorem entry_scores (c : Fin 7) (n : Fin 20000) : (afterL preI V (Proc.devRef .tc main_v78_3) : FVec Ideal S7x20000 .f32) (ix2 c n) = start (LV V) c n := by
  rw [entry_eq, U11_def]
  refine (v78_3_at (U10 V) c n).trans ?_
  rw [U10_def]
  refine (v75_at (U9 V) (fun i => by rw [U9_def]; exact cst10_at (U8 V) i) (fun n => w 0x3F333333#32 ≤ LV V n (am (LV V n)) ∧ 0 < (am (LV V n)).val)
    (fun n => by rw [U9_def]; exact (v72_at (U8 V) n).trans (u8_v11 V n)) c n).trans ?_
  unfold start
  refine if_congr (and_congr_right fun _ => am_pos _) ?_ rfl
  rw [U9_def]
  exact (v74_at (U8 V) c n).trans (u8_v4 V n c.succ)

end

end Cert.RefEntry
end
-- ==== Proof.RefExit.lean ====
/-
  The reference after its loop, at the extended reals: the candidates, their order, and the two results, read at an index.
-/
module

public import proofs.«01_k».proof.Proof.RefEntry
public import Idealize.ShloMosaic.Lib.Routing.OpsSet

@[expose] public section

set_option maxRecDepth 16384

noncomputable section

namespace Cert.RefExit

open Idealize.ShloMosaic Idealize.ShloMosaic.TcCoe Idealize.ShloMosaic.Tactic
open Cert.ReferenceIdeal Cert.ReferenceIdeal.Gen Cert.ReferenceIdeal.Value
open Cert.Model Cert.KernIdeal Cert.RefOps Cert.RefLoop
open Idealize.ShloMosaic.StableHlo

section
variable (V : Valuation τ sig (Elt Ideal))

/-- Candidate `j` is round `j % 100` of class `j / 100`. -/
theorem v80_at (j : Fin 700) : (after hostOps0_11 V (Proc.devRef .tc main_v80) : IVec S700 32) (ix1 j)
    = (V (Proc.devRef .tc main_v78_4) : IVec S100x7 32) (ix2 (⟨j.val % 100, by omega⟩ : Fin 100) (⟨j.val / 100, by omega⟩ : Fin 7)) := by
  after_reads_simp
  pointwise

/-- Its class, counted with the background. -/
theorem v85_at (j : Fin 700) : (after hostOps0_11 V (Proc.devRef .tc main_v85) : IVec S700 32) (ix1 j)
    = BitVec.ofNat 32 (j.val / 100 + 1) := by
  after_reads_simp
  pointwise
  rw [Nat.add_comm]
  show (1#32 : BitVec 32) + BitVec.ofNat 32 (j.val / 100) = _
  rw [BitVec.ofNat_add]

variable (R : Fin 700 → Fin 20000)
    (hR : ∀ j : Fin 700, (V (Proc.devRef .tc main_v78_4) : IVec S100x7 32) (ix2 (⟨j.val % 100, by omega⟩ : Fin 100) (⟨j.val / 100, by omega⟩ : Fin 7)) = BitVec.ofNat 32 (R j).val)

/-- Two columns side by side: the first. -/
theorem cols_left (x y : IVec S700x1 32) (j : Fin 700) :
    concatenate S700x2 1 [⟨S700x1, x⟩, ⟨S700x1, y⟩] concatenates_S700x1_S700x1_S700x2_d1 (ix2 j 0) = x (ix2 j 0) := by
  pointwise
/-- Two columns side by side: the second. -/
theorem cols_right (x y : IVec S700x1 32) (j : Fin 700) :
    concatenate S700x2 1 [⟨S700x1, x⟩, ⟨S700x1, y⟩] concatenates_S700x1_S700x1_S700x2_d1 (ix2 j 1) = y (ix2 j 0) := by
  pointwise

/-- The first column: a wrapped position that is not negative. -/
theorem v96_at (j : Fin 700) (n : Fin 20000) (h : (after hostOps0_11 V (Proc.devRef .tc main_v80) : IVec S700 32) (ix1 j) = BitVec.ofNat 32 n.val) :
    (after hostOps0_11 V (Proc.devRef .tc main_v96) : IVec S700x1 32) (ix2 j 0) = BitVec.ofNat 32 n.val := by
  have e : (after hostOps0_11 V (Proc.devRef .tc main_v96) : IVec S700x1 32)
    = broadcastInDim S700x1 ![0] bcast_S700_S700x1_0 (select (cmpi .slt (after hostOps0_11 V (Proc.devRef .tc main_v80) : IVec S700 32) (broadcastInDim S700 ![] bcast_S_S700 (constantI S_ 32 0#32)))
      (addi (after hostOps0_11 V (Proc.devRef .tc main_v80) : IVec S700 32) (broadcastInDim S700 ![] bcast_S_S700 (constantI S_ 32 20000#32))) (after hostOps0_11 V (Proc.devRef .tc main_v80) : IVec S700 32)) := by
    after_reads_simp
  rw [e]
  generalize (after hostOps0_11 V (Proc.devRef .tc main_v80) : IVec S700 32) = y at h
  pointwise
  rw [h]
  exact wrap_pos _ _ (by omega)

/-- The second column, likewise. -/
theorem v97_at (j : Fin 700) (n : Fin 8) (h : (after hostOps0_11 V (Proc.devRef .tc main_v85) : IVec S700 32) (ix1 j) = BitVec.ofNat 32 n.val) :
    (after hostOps0_11 V (Proc.devRef .tc main_v97) : IVec S700x1 32) (ix2 j 0) = BitVec.ofNat 32 n.val := by
  have e : (after hostOps0_11 V (Proc.devRef .tc main_v97) : IVec S700x1 32)
    = broadcastInDim S700x1 ![0] bcast_S700_S700x1_0 (select (cmpi .slt (after hostOps0_11 V (Proc.devRef .tc main_v85) : IVec S700 32) (broadcastInDim S700 ![] bcast_S_S700 (constantI S_ 32 0#32)))
      (addi (after hostOps0_11 V (Proc.devRef .tc main_v85) : IVec S700 32) (broadcastInDim S700 ![] bcast_S_S700 (constantI S_ 32 8#32))) (after hostOps0_11 V (Proc.devRef .tc main_v85) : IVec S700 32)) := by
    after_reads_simp
  rw [e]
  generalize (after hostOps0_11 V (Proc.devRef .tc main_v85) : IVec S700 32) = y at h
  pointwise
  rw [h]
  exact wrap_pos _ _ (by omega)

theorem v98_eq : ∃ x y : IVec S700x1 32, (after hostOps0_11 V (Proc.devRef .tc main_v98) : IVec S700x2 32)
    = concatenate S700x2 1 [⟨S700x1, x⟩, ⟨S700x1, y⟩] concatenates_S700x1_S700x1_S700x2_d1
      ∧ x = after hostOps0_11 V (Proc.devRef .tc main_v96) ∧ y = after hostOps0_11 V (Proc.devRef .tc main_v97) := by
  refine ⟨upto hostOps0_11 V 24 (Proc.devRef .tc main_v96), upto hostOps0_11 V 24 (Proc.devRef .tc main_v97), ?_, ?_, ?_⟩
  · after_reads_simp
  · after_reads_simp
  · after_reads_simp

include hR in
/-- The candidates' rows. -/
theorem v98_row (j : Fin 700) : (after hostOps0_11 V (Proc.devRef .tc main_v98) : IVec S700x2 32) (ix2 j 0) = BitVec.ofNat 32 (R j).val := by
  obtain ⟨x, y, e, hx, hy⟩ := v98_eq V
  rw [e, cols_left, hx]
  exact v96_at V j _ ((v80_at V j).trans (hR j))

/-- The candidates' classes. -/
theorem v98_class (j : Fin 700) : (after hostOps0_11 V (Proc.devRef .tc main_v98) : IVec S700x2 32) (ix2 j 1)
    = BitVec.ofNat 32 (⟨j.val / 100, by omega⟩ : Fin 7).succ.val := by
  obtain ⟨x, y, e, hx, hy⟩ := v98_eq V
  rw [e, cols_right, hy]
  exact v97_at V j _ (v85_at V j)

variable (L : Fin 20000 → Fin 8 → EReal) (hL : ∀ n c, (V (Proc.devRef .tc main_v4) : FVec Ideal S20000x8 .f32) (ix2 n c) = L n c)

theorem v99_eq : (after hostOps0_11 V (Proc.devRef .tc main_v99) : FVec Ideal S700 .f32)
    = Host.gather gather_S20000x8_S700x2_S700_n_01_n_n_01_1_11 (V (Proc.devRef .tc main_v4) : FVec Ideal S20000x8 .f32) (after hostOps0_11 V (Proc.devRef .tc main_v98)) := by
  after_reads_simp

include hR hL in
/-- The candidates' values. -/
theorem v99_at (j : Fin 700) : (after hostOps0_11 V (Proc.devRef .tc main_v99) : FVec Ideal S700 .f32) (ix1 j)
    = L (R j) (⟨j.val / 100, by omega⟩ : Fin 7).succ := by
  rw [v99_eq]
  exact (gather_elem _ _ j _ _ (v98_row V R hR j) (v98_class V j)).trans (hL _ _)

theorem indices_eq : (after hostOps0_11 V (Proc.devRef .tc main_indices) : IVec S100 32)
    = (Host.topK S100 0 (FloatOps.cmpfTotal (F := Ideal) (φ := .f32) .gt) (after hostOps0_11 V (Proc.devRef .tc main_v99) : FVec Ideal S700 .f32) sliceFits_S700_S100).2 := by
  after_reads_simp

/-- The candidate in place `r` of the order. -/
def place (v : Fin 700 → EReal) (r : Fin 100) : Fin 700 := sortedFrom (fun k j => decide (v j < v k)) (r.castLE (by decide : 100 ≤ 700))

include hR hL in
theorem indices_at (r : Fin 100) : (after hostOps0_11 V (Proc.devRef .tc main_indices) : IVec S100 32) (ix1 r)
    = BitVec.ofNat 32 (place (fun j => L (R j) (⟨j.val / 100, by omega⟩ : Fin 7).succ) r).val := by
  rw [indices_eq]
  exact topK_index (by decide) _ _ (v99_at V R hR L hL) _ r

theorem v104_eq (r : Fin 100) : (after hostOps0_11 V (Proc.devRef .tc main_v105) : IVec S100x1 32) (ix2 r 0)
    = Scalar.select (IntOp.cmpi .slt ((after hostOps0_11 V (Proc.devRef .tc main_indices) : IVec S100 32) (ix1 r)) 0#32)
        (IntOp.addi ((after hostOps0_11 V (Proc.devRef .tc main_indices) : IVec S100 32) (ix1 r)) 700#32)
        ((after hostOps0_11 V (Proc.devRef .tc main_indices) : IVec S100 32) (ix1 r)) := by
  have e : (after hostOps0_11 V (Proc.devRef .tc main_v105) : IVec S100x1 32)
    = broadcastInDim S100x1 ![0] bcast_S100_S100x1_0 (select (cmpi .slt (after hostOps0_11 V (Proc.devRef .tc main_indices) : IVec S100 32) (broadcastInDim S100 ![] bcast_S_S100 (constantI S_ 32 0#32)))
      (addi (after hostOps0_11 V (Proc.devRef .tc main_indices) : IVec S100 32) (broadcastInDim S100 ![] bcast_S_S100 (constantI S_ 32 700#32))) (after hostOps0_11 V (Proc.devRef .tc main_indices) : IVec S100 32)) := by
    after_reads_simp
  rw [e]
  generalize (after hostOps0_11 V (Proc.devRef .tc main_indices) : IVec S100 32) = y
  pointwise

theorem v106_eq : (after hostOps0_11 V (Proc.devRef .tc main_v106) : IVec S100 32)
    = Host.gather gather_S700_S100x1_S100_n_0_n_n_0_1_1 (after hostOps0_11 V (Proc.devRef .tc main_v80) : IVec S700 32) (after hostOps0_11 V (Proc.devRef .tc main_v105)) := by
  after_reads_simp

include hR hL in
/-- The rows taken. -/
theorem v106_at (r : Fin 100) : (after hostOps0_11 V (Proc.devRef .tc main_v106) : IVec S100 32) (ix1 r)
    = BitVec.ofNat 32 (R (place (fun j => L (R j) (⟨j.val / 100, by omega⟩ : Fin 7).succ) r)).val := by
  rw [v106_eq]
  refine (Routing.gather_take1 _ rfl rfl rfl rfl _ _ r (place (fun j => L (R j) (⟨j.val / 100, by omega⟩ : Fin 7).succ) r) ?_ (by decide)).trans ?_
  · refine (v104_eq V r).trans ?_
    rw [indices_at V R hR L hL]
    exact wrap_pos _ _ (by omega)
  · exact (v80_at V _).trans (hR _)

theorem v112_eq (r : Fin 100) (n : Fin 20000) (h : (after hostOps0_11 V (Proc.devRef .tc main_v106) : IVec S100 32) (ix1 r) = BitVec.ofNat 32 n.val) :
    (after hostOps0_11 V (Proc.devRef .tc main_v112) : IVec S100x1 32) (ix2 r 0) = BitVec.ofNat 32 n.val := by
  have e : (after hostOps0_11 V (Proc.devRef .tc main_v112) : IVec S100x1 32)
    = broadcastInDim S100x1 ![0] bcast_S100_S100x1_0 (select (cmpi .slt (after hostOps0_11 V (Proc.devRef .tc main_v106) : IVec S100 32) (broadcastInDim S100 ![] bcast_S_S100 (constantI S_ 32 0#32)))
      (addi (after hostOps0_11 V (Proc.devRef .tc main_v106) : IVec S100 32) (broadcastInDim S100 ![] bcast_S_S100 (constantI S_ 32 20000#32))) (after hostOps0_11 V (Proc.devRef .tc main_v106) : IVec S100 32)) := by
    after_reads_simp
  rw [e]
  generalize (after hostOps0_11 V (Proc.devRef .tc main_v106) : IVec S100 32) = y at h
  pointwise
  rw [h]
  exact wrap_pos _ _ (by omega)

theorem v119_eq (r : Fin 100) (n : Fin 20000) (h : (after hostOps0_11 V (Proc.devRef .tc main_v106) : IVec S100 32) (ix1 r) = BitVec.ofNat 32 n.val) :
    (after hostOps0_11 V (Proc.devRef .tc main_v119) : IVec S100x1 32) (ix2 r 0) = BitVec.ofNat 32 n.val := by
  have e : (after hostOps0_11 V (Proc.devRef .tc main_v119) : IVec S100x1 32)
    = broadcastInDim S100x1 ![0] bcast_S100_S100x1_0 (select (cmpi .slt (after hostOps0_11 V (Proc.devRef .tc main_v106) : IVec S100 32) (broadcastInDim S100 ![] bcast_S_S100 (constantI S_ 32 0#32)))
      (addi (after hostOps0_11 V (Proc.devRef .tc main_v106) : IVec S100 32) (broadcastInDim S100 ![] bcast_S_S100 (constantI S_ 32 20000#32))) (after hostOps0_11 V (Proc.devRef .tc main_v106) : IVec S100 32)) := by
    after_reads_simp
  rw [e]
  generalize (after hostOps0_11 V (Proc.devRef .tc main_v106) : IVec S100 32) = y at h
  pointwise
  rw [h]
  exact wrap_pos _ _ (by omega)

theorem v121_eq : (after hostOps0_11 V (Proc.devRef .tc main_v121) : FVec Ideal S1x100x8 .f32)
    = broadcastInDim S1x100x8 ![1, 2] bcast_S100x8_S1x100x8_1_2 (Host.gather gather_S20000x8_S100x1_S100x8_1_0_n_n_0_1_18 (V (Proc.devRef .tc main_v4) : FVec Ideal S20000x8 .f32) (after hostOps0_11 V (Proc.devRef .tc main_v112) : IVec S100x1 32)) := by
  after_reads_simp
theorem v122_eq : (after hostOps0_11 V (Proc.devRef .tc main_v122) : FVec Ideal S1x100x4 .f32)
    = broadcastInDim S1x100x4 ![1, 2] bcast_S100x4_S1x100x4_1_2 (Host.gather gather_S20000x4_S100x1_S100x4_1_0_n_n_0_1_14 (V (Proc.devRef .tc main_v71) : FVec Ideal S20000x4 .f32) (after hostOps0_11 V (Proc.devRef .tc main_v119) : IVec S100x1 32)) := by
  after_reads_simp

include hR hL in
/-- The first result: the class scores of the rows taken. -/
theorem v121_at (r : Fin 100) (k : Fin 8) : (after hostOps0_11 V (Proc.devRef .tc main_v121) : FVec Ideal S1x100x8 .f32) (ix3 0 r k)
    = L (R (place (fun j => L (R j) (⟨j.val / 100, by omega⟩ : Fin 7).succ) r)) k := by
  rw [v121_eq]
  have hi := v112_eq V r _ (v106_at V R hR L hL r)
  generalize (after hostOps0_11 V (Proc.devRef .tc main_v112) : IVec S100x1 32) = y at hi
  refine Eq.trans ?_ ((Routing.gather_row gather_S20000x8_S100x1_S100x8_1_0_n_n_0_1_18 rfl rfl rfl rfl rfl _ y r k _ hi (by decide)).trans (hL _ k))
  generalize Host.gather gather_S20000x8_S100x1_S100x8_1_0_n_n_0_1_18 (V (Proc.devRef .tc main_v4) : FVec Ideal S20000x8 .f32) y = z
  pointwise
  rfl

include hR hL in
/-- The second result: the boxes of the rows taken. -/
theorem v122_at (B : Fin 20000 → Fin 4 → EReal) (hB : ∀ n k, (V (Proc.devRef .tc main_v71) : FVec Ideal S20000x4 .f32) (ix2 n k) = B n k) (r : Fin 100) (k : Fin 4) :
    (after hostOps0_11 V (Proc.devRef .tc main_v122) : FVec Ideal S1x100x4 .f32) (ix3 0 r k)
    = B (R (place (fun j => L (R j) (⟨j.val / 100, by omega⟩ : Fin 7).succ) r)) k := by
  rw [v122_eq]
  have hi := v119_eq V r _ (v106_at V R hR L hL r)
  generalize (after hostOps0_11 V (Proc.devRef .tc main_v119) : IVec S100x1 32) = y at hi
  refine Eq.trans ?_ ((Routing.gather_row gather_S20000x4_S100x1_S100x4_1_0_n_n_0_1_14 rfl rfl rfl rfl rfl _ y r k _ hi (by decide)).trans (hB _ k))
  generalize Host.gather gather_S20000x4_S100x1_S100x4_1_0_n_n_0_1_14 (V (Proc.devRef .tc main_v71) : FVec Ideal S20000x4 .f32) y = z
  pointwise
  rfl

end

/-! ## The run's end -/

section
variable (m : (ℓ : Loc nD τ sig) → Buf (Elt Ideal) ℓ) (d : Dev nD)

/-- The four arguments. -/
abbrev g0 : FVec Ideal S1x20000x1 .f32 := m ((d.tc : Thread nD τ).loc main_arg0)
abbrev g1 : FVec Ideal S1x20000x8 .f32 := m ((d.tc : Thread nD τ).loc main_arg1)
abbrev g2 : FVec Ideal S1x20000x4 .f32 := m ((d.tc : Thread nD τ).loc main_arg2)
abbrev g3 : FVec Ideal S20000x4 .f32 := m ((d.tc : Thread nD τ).loc main_arg3)

/-- The contents the stretch after the loop starts from. -/
@[irreducible] def E : Valuation τ sig (Elt Ideal) := after condOps (atK m 100 d)
theorem E_def : E m d = after condOps (atK m 100 d) := by unfold E; rfl

theorem E_cond (r : Ref sig .tc) (h : r ∉ condOps_W) : E m d (Proc.devRef .tc r) = atK m 100 d (Proc.devRef .tc r) := by
  rw [E_def]; exact after_of_writes_sub _ _ condOps_writes h

theorem E_v4 (n : Fin 20000) (c : Fin 8) : (E m d (Proc.devRef .tc main_v4) : FVec Ideal S20000x8 .f32) (ix2 n c) = Lm (g0 m d) (g1 m d) n c := by
  rw [E_cond m d main_v4 (by decide +kernel), RefFrame.atK_keep m d main_v4 (by decide +kernel) (by decide +kernel)]
  exact RefEntry.entry_v4 _ n c
theorem E_v71 (n : Fin 20000) (k : Fin 4) : (E m d (Proc.devRef .tc main_v71) : FVec Ideal S20000x4 .f32) (ix2 n k) = Bm (g2 m d) (g3 m d) n k := by
  rw [E_cond m d main_v71 (by decide +kernel), RefFrame.atK_keep m d main_v71 (by decide +kernel) (by decide +kernel)]
  exact RefEntry.entry_v71 _ n k

/-- The loop kept the rows each class took. -/
theorem E_kept (j : Fin 700) : (E m d (Proc.devRef .tc main_v78_4) : IVec S100x7 32) (ix2 (⟨j.val % 100, by omega⟩ : Fin 100) (⟨j.val / 100, by omega⟩ : Fin 7))
    = BitVec.ofNat 32 (candRow (Lm (g0 m d) (g1 m d)) (Bm (g2 m d) (g3 m d)) j).val := by
  rw [E_cond m d main_v78_4 (by decide +kernel)]
  exact (loop_state m d (Bm (g2 m d) (g3 m d)) (start (Lm (g0 m d) (g1 m d))) (RefEntry.entry_boxes _) (RefEntry.entry_scores _) (RefEntry.entry_classes _) 100 le_rfl).2.2.2
    _ _ (Nat.mod_lt _ (by decide))

/-- The candidate the reference puts in place `r`. -/
abbrev chosen (r : Fin 100) : Fin 700 := place (candVal (Lm (g0 m d) (g1 m d)) (Bm (g2 m d) (g3 m d))) r

theorem chosen_rank (r : Fin 100) : rk (candVal (Lm (g0 m d) (g1 m d)) (Bm (g2 m d) (g3 m d))) (chosen m d r) = r.val :=
  rk_sortedFrom _ _

theorem final_eq : finalContents condOps preI bodyI postI 100 m d = after hostOps0_11 (E m d) := by
  rw [E_def]; rfl

/-- The first result of the reference. -/
theorem final_v121 (r : Fin 100) (k : Fin 8) : (finalContents condOps preI bodyI postI 100 m d (Proc.devRef .tc main_v121) : FVec Ideal S1x100x8 .f32) (ix3 0 r k)
    = Lm (g0 m d) (g1 m d) (candRow (Lm (g0 m d) (g1 m d)) (Bm (g2 m d) (g3 m d)) (chosen m d r)) k := by
  rw [final_eq]
  exact v121_at (E m d) _ (E_kept m d) _ (E_v4 m d) r k

/-- The second result of the reference. -/
theorem final_v122 (r : Fin 100) (k : Fin 4) : (finalContents condOps preI bodyI postI 100 m d (Proc.devRef .tc main_v122) : FVec Ideal S1x100x4 .f32) (ix3 0 r k)
    = Bm (g2 m d) (g3 m d) (candRow (Lm (g0 m d) (g1 m d)) (Bm (g2 m d) (g3 m d)) (chosen m d r)) k := by
  rw [final_eq]
  exact v122_at (E m d) _ (E_kept m d) _ (E_v4 m d) _ (E_v71 m d) r k

end

end Cert.RefExit
end
-- ==== Proof.Agree.lean ====
/-
  The kernel and the reference return the same, at the extended reals, on scores that are not negative.
-/
module

public import proofs.«01_k».proof.Defs
public import proofs.«01_k».proof.Proof.RefExit
public import Idealize.ShloMosaic.Lib.ReduceAll

@[expose] public section

set_option maxRecDepth 16384

noncomputable section

namespace Cert.Agree

open Idealize.ShloMosaic Idealize.ShloMosaic.TcCoe Idealize.SL.Sem
open Cert.Model

/-- The shape relations of the precondition's operations. -/
instance preFacts : Cert.Pre_nonnegative.Facts where
  bcast_S_S1x20000x1 := by decide
  reducesTo_S1x20000x1_S_d0_1_2 := by decide
  h_S_ := by decide
  bcast_S_S1x20000x8 := by decide
  reducesTo_S1x20000x8_S_d0_1_2 := by decide

section
open Cert.Pre_nonnegative

/-- A comparison "at least zero" that came out true. -/
theorem oge_zero (x : EReal) (h : FloatOps.cmpf (F := Ideal) (φ := .f32) .oge x (Ideal.ofBits .f32 0x00000000#32) = 1#1) : 0 ≤ x := by
  have e : (Ideal.ofBits .f32 0x00000000#32 : EReal) = 0 := by simp [Ideal.ofBits, Ideal.ieee]
  rw [e] at h
  by_contra hc
  have h' : BitVec.ofBool (decide ((0 : EReal) ≤ x)) = 1#1 := h
  rw [decide_eq_false hc] at h'
  exact absurd h' (by decide)

/-- The precondition read: no foreground weight and no score is negative. -/
theorem pre_read (a0 : FVec Ideal S1x20000x1 .f32) (a1 : FVec Ideal S1x20000x8 .f32) (a2 : FVec Ideal S1x20000x4 .f32) (a3 : FVec Ideal S20000x4 .f32)
    (h : fn (F := Ideal) a0 a1 a2 a3 = fun _ => 1#1) : (∀ i, (0 : EReal) ≤ a0 i) ∧ ∀ i, (0 : EReal) ≤ a1 i := by
  haveI : Subsingleton S_.Idx := ⟨fun a b => funext fun i => i.elim0⟩
  have h0 := congrFun h (fun i => i.elim0)
  obtain ⟨hx, hy⟩ := IntOp.andi_eq_one.1 h0
  exact ⟨fun i => oge_zero _ (Host.reduce_andi_all _ _ _ _ _ hx i), fun i => oge_zero _ (Host.reduce_andi_all _ _ _ _ _ hy i)⟩

end

open Cert.KernIdeal

/-- The class scores are then not negative either. -/
theorem scores_nonneg (a0 : FVec Ideal Cert.KernelIdeal.S1x20000x1 .f32) (a1 : FVec Ideal Cert.KernelIdeal.S1x20000x8 .f32)
    (h0 : ∀ i, (0 : EReal) ≤ a0 i) (h1 : ∀ i, (0 : EReal) ≤ a1 i) (n : Fin 20000) (c : Fin 8) : 0 ≤ Lm a0 a1 n c :=
  mul_nonneg (h0 _) (h1 _)

open Cert.ReferenceIdeal.Value in
/-- The first results agree. -/
theorem first (m' : (ℓ : Loc Cert.ReferenceIdeal.nD Cert.ReferenceIdeal.τ Cert.ReferenceIdeal.sig) → Buf (Elt Ideal) ℓ) (d : Dev Cert.ReferenceIdeal.nD)
    (hL : ∀ n c, 0 ≤ Lm (RefExit.g0 m' d) (RefExit.g1 m' d) n c) :
    (StableHlo.finalContents condOps preI bodyI postI 100 m' d (Proc.devRef .tc Cert.ReferenceIdeal.main_v121) : FVec Ideal Cert.ReferenceIdeal.S1x100x8 .f32)
      = Cert.KernHost.KOut0 (F := Ideal) (RefExit.g0 m' d) (RefExit.g1 m' d) (RefExit.g2 m' d) (RefExit.g3 m' d) := by
  funext i
  rw [Idealize.ShloMosaic.eq_ix3 i, Fin.fin_one_eq_zero (i 0)]
  exact (RefExit.final_v121 m' d _ _).trans (Cert.KernSel.KOut0_sel _ _ _ _ hL _ _ (RefExit.chosen_rank m' d _) _).symm

open Cert.ReferenceIdeal.Value in
/-- The second results agree. -/
theorem second (m' : (ℓ : Loc Cert.ReferenceIdeal.nD Cert.ReferenceIdeal.τ Cert.ReferenceIdeal.sig) → Buf (Elt Ideal) ℓ) (d : Dev Cert.ReferenceIdeal.nD)
    (hL : ∀ n c, 0 ≤ Lm (RefExit.g0 m' d) (RefExit.g1 m' d) n c) :
    (StableHlo.finalContents condOps preI bodyI postI 100 m' d (Proc.devRef .tc Cert.ReferenceIdeal.main_v122) : FVec Ideal Cert.ReferenceIdeal.S1x100x4 .f32)
      = Cert.KernHost.KOut1 (F := Ideal) (RefExit.g0 m' d) (RefExit.g1 m' d) (RefExit.g2 m' d) (RefExit.g3 m' d) := by
  funext i
  rw [Idealize.ShloMosaic.eq_ix3 i, Fin.fin_one_eq_zero (i 0)]
  exact (RefExit.final_v122 m' d _ _).trans (Cert.KernSel.KOut1_sel _ _ _ _ hL _ _ (RefExit.chosen_rank m' d _) _).symm

/-- The algebraic claim. -/
theorem algebraic : Cert.algebraic_KernelIdeal_ReferenceIdeal_pre_nonnegative (hKernelIdeal := Cert.KernelIdeal.Gen.facts)
    (hReferenceIdeal := Cert.ReferenceIdeal.Gen.facts) (hPre_nonnegative := preFacts) := by
  intro m g m' g' hpre hargs
  have hL : ∀ d, ∀ n c, 0 ≤ Lm (RefExit.g0 m' d) (RefExit.g1 m' d) n c := fun d => by
    obtain ⟨p0, p1⟩ := pre_read _ _ _ _ (hpre d)
    have e0 : RefExit.g0 m' d = m ((d.tc : Thread Cert.KernelIdeal.nD Cert.KernelIdeal.τ).loc Cert.KernelIdeal.main_arg0) := (hargs d).1
    have e1 : RefExit.g1 m' d = m ((d.tc : Thread Cert.KernelIdeal.nD Cert.KernelIdeal.τ).loc Cert.KernelIdeal.main_arg1) := (hargs d).2.1
    rw [e0, e1]
    exact scores_nonneg _ _ p0 p1
  refine ⟨fun c => Cert.KernHost.KOut0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.KernHost.KOut1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (Cert.KernRun.run m g)
    obtain ⟨h0, h1, ha⟩ := h c
    exact ⟨h0.trans (Cert.KernHost.res20 m g c), h1.trans (Cert.KernHost.res21 m g c), ha⟩
  · refine (θ_run _ _ _).mono (fun r h c => ?_) (Cert.ReferenceIdeal.Value.run_fold m' g')
    have e0 : RefExit.g0 m' c = m ((c.tc : Thread Cert.KernelIdeal.nD Cert.KernelIdeal.τ).loc Cert.KernelIdeal.main_arg0) := (hargs c).1
    have e1 : RefExit.g1 m' c = m ((c.tc : Thread Cert.KernelIdeal.nD Cert.KernelIdeal.τ).loc Cert.KernelIdeal.main_arg1) := (hargs c).2.1
    have e2 : RefExit.g2 m' c = m ((c.tc : Thread Cert.KernelIdeal.nD Cert.KernelIdeal.τ).loc Cert.KernelIdeal.main_arg2) := (hargs c).2.2.1
    have e3 : RefExit.g3 m' c = m ((c.tc : Thread Cert.KernelIdeal.nD Cert.KernelIdeal.τ).loc Cert.KernelIdeal.main_arg3) := (hargs c).2.2.2
    have f0 := first m' c (hL c)
    have f1 := second m' c (hL c)
    rw [e0, e1, e2, e3] at f0 f1
    exact ⟨(h c Cert.ReferenceIdeal.main_v121 rfl).trans f0, (h c Cert.ReferenceIdeal.main_v122 rfl).trans f1,
      (h c Cert.ReferenceIdeal.main_arg0 rfl).trans (RefFrame.arg0_keep m' c), (h c Cert.ReferenceIdeal.main_arg1 rfl).trans (RefFrame.arg1_keep m' c),
      (h c Cert.ReferenceIdeal.main_arg2 rfl).trans (RefFrame.arg2_keep m' c), (h c Cert.ReferenceIdeal.main_arg3 rfl).trans (RefFrame.arg3_keep m' c)⟩

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Agree.preFacts,
    fun m ρ _ => Cert.Kernel.Gen.frame m ρ,
    fun m ρ _ => Cert.KernelIdeal.Gen.frame m ρ,
    fun m ρ _ => Cert.KernelIdeal.Gen.frame m ρ,
    fun m ρ _ => Cert.RefFrame.frame m ρ,
    fun m ρ _ => Cert.RefFrame.frame m ρ,
    IdealRules.named_const.statement Cert.KernelIdeal.κ "max_ratio" .f32 0x40845349#32 _ rfl,
    Cert.Agree.algebraic⟩

end Cert.Proof

end
